-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "scale" .f32 0x3DB504F3#32 (((Real.sqrt 128)⁻¹ : ℝ) : EReal)

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 1024]⟩ ⟨2, ![1024, 4096]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![1024, 1024]⟩ ⟨2, ![4096, 1024]⟩ 0 4 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v44) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S1x256x1024 : Shape := ⟨3, ![1, 256, 1024]⟩
abbrev S1024x1024 : Shape := ⟨2, ![1024, 1024]⟩
abbrev S1x4096x32x128 : Shape := ⟨4, ![1, 4096, 32, 128]⟩
abbrev S_ : Shape := ⟨0, ![]⟩

class Facts : Prop where
  bcast_S_S1x256x1024 : S_.BroadcastsInDim S1x256x1024 (![] : Fin 0 → Fin S1x256x1024.rank)
  reducesTo_S1x256x1024_S_d0_1_2 : S1x256x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1x4096x32x128 : S_.BroadcastsInDim S1x4096x32x128 (![] : Fin 0 → Fin S1x4096x32x128.rank)
  reducesTo_S1x4096x32x128_S_d0_1_2_3 : S1x4096x32x128.ReducesTo [0, 1, 2, 3] S_

variable [Facts]

def fn {F : FTy → Type} [FloatOps F] (main_arg0 : FVec F S1x256x1024 .f32) (main_arg1 : FVec F S1024x1024 .f32) (main_arg2 : FVec F S1x4096x32x128 .f32) (main_arg3 : FVec F S1x4096x32x128 .f32) (main_arg4 : FVec F S1024x1024 .f32) : IVec S_ 1 :=
  let main_v0 : FVec F S1x256x1024 .f32 := Host.absf main_arg0
  let main_cst : FVec F S_ .f32 := constant S_ .f32 0x7F800000#32
  let main_v1 : FVec F S1x256x1024 .f32 := broadcastInDim S1x256x1024 ![] bcast_S_S1x256x1024 main_cst
  let main_v2 : IVec S1x256x1024 1 := cmpf .olt main_v0 main_v1
  let main_c : IVec S_ 1 := constantI S_ 1 1#1
  let main_v3 : IVec S_ 1 := (fun x v => Host.reduce IntOp.andi x v reducesTo_S1x256x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1x4096x32x128 .f32 := Host.absf main_arg2
  let main_cst_2 : FVec F S_ .f32 := constant S_ .f32 0x7F800000#32
  let main_v10 : FVec F S1x4096x32x128 .f32 := broadcastInDim S1x4096x32x128 ![] bcast_S_S1x4096x32x128 main_cst_2
  let main_v11 : IVec S1x4096x32x128 1 := cmpf .olt main_v9 main_v10
  let main_c_3 : IVec S_ 1 := constantI S_ 1 1#1
  let main_v12 : IVec S_ 1 := (fun x v => Host.reduce IntOp.andi x v reducesTo_S1x4096x32x128_S_d0_1_2_3 h_S_) main_v11 main_c_3
  let main_v13 : IVec S_ 1 := andi main_v8 main_v12
  main_v13
-- ==== Pre_finite_ReferenceIdeal.lean ====
abbrev S1x256x1024 : Shape := ⟨3, ![1, 256, 1024]⟩
abbrev S1024x4096 : Shape := ⟨2, ![1024, 4096]⟩
abbrev S1x4096x32x128 : Shape := ⟨4, ![1, 4096, 32, 128]⟩
abbrev S4096x1024 : Shape := ⟨2, ![4096, 1024]⟩
abbrev S_ : Shape := ⟨0, ![]⟩

class Facts : Prop where
  bcast_S_S1x256x1024 : S_.BroadcastsInDim S1x256x1024 (![] : Fin 0 → Fin S1x256x1024.rank)
  reducesTo_S1x256x1024_S_d0_1_2 : S1x256x1024.ReducesTo [0, 1, 2] S_
  h_S_ : 0 < S_.numel
  bcast_S_S1024x4096 : S_.BroadcastsInDim S1024x4096 (![] : Fin 0 → Fin S1024x4096.rank)
  reducesTo_S1024x4096_S_d0_1 : S1024x4096.ReducesTo [0, 1] S_
  bcast_S_S1x4096x32x128 : S_.BroadcastsInDim S1x4096x32x128 (![] : Fin 0 → Fin S1x4096x32x128.rank)
  reducesTo_S1x4096x32x128_S_d0_1_2_3 : S1x4096x32x128.ReducesTo [0, 1, 2, 3] S_

variable [Facts]

def fn {F : FTy → Type} [FloatOps F] (main_arg0 : FVec F S1x256x1024 .f32) (main_arg1 : FVec F S1024x4096 .f32) (main_arg2 : FVec F S1x4096x32x128 .f32) (main_arg3 : FVec F S1x4096x32x128 .f32) (main_arg4 : FVec F S4096x1024 .f32) : IVec S_ 1 :=
  let main_v0 : FVec F S1x256x1024 .f32 := Host.absf main_arg0
  let main_cst : FVec F S_ .f32 := constant S_ .f32 0x7F800000#32
  let main_v1 : FVec F S1x256x1024 .f32 := broadcastInDim S1x256x1024 ![] bcast_S_S1x256x1024 main_cst
  let main_v2 : IVec S1x256x1024 1 := cmpf .olt main_v0 main_v1
  let main_c : IVec S_ 1 := constantI S_ 1 1#1
  let main_v3 : IVec S_ 1 := (fun x v => Host.reduce IntOp.andi x v reducesTo_S1x256x1024_S_d0_1_2 h_S_) main_v2 main_c
  let main_v4 : FVec F S1024x4096 .f32 := Host.absf main_arg1
  let main_cst_0 : FVec F S_ .f32 := constant S_ .f32 0x7F800000#32
  let main_v5 : FVec F S1024x4096 .f32 := broadcastInDim S1024x4096 ![] bcast_S_S1024x4096 main_cst_0
  let main_v6 : IVec S1024x4096 1 := cmpf .olt main_v4 main_v5
  let main_c_1 : IVec S_ 1 := constantI S_ 1 1#1
  let main_v7 : IVec S_ 1 := (fun x v => Host.reduce IntOp.andi x v reducesTo_S1024x4096_S_d0_1 h_S_) main_v6 main_c_1
  let main_v8 : IVec S_ 1 := andi main_v3 main_v7
  let main_v9 : FVec F S1x4096x32x128 .f32 := Host.absf main_arg2
  let main_cst_2 : FVec F S_ .f32 := constant S_ .f32 0x7F800000#32
  let main_v10 : FVec F S1x4096x32x128 .f32 := broadcastInDim S1x4096x32x128 ![] bcast_S_S1x4096x32x128 main_cst_2
  let main_v11 : IVec S1x4096x32x128 1 := cmpf .olt main_v9 main_v10
  let main_c_3 : IVec S_ 1 := constantI S_ 1 1#1
  let main_v12 : IVec S_ 1 := (fun x v => Host.reduce IntOp.andi x v reducesTo_S1x4096x32x128_S_d0_1_2_3 h_S_) main_v11 main_c_3
  let main_v13 : IVec S_ 1 := andi main_v8 main_v12
  main_v13
-- ==== Kernel.lean ====
abbrev S1x256x1024 : Shape := ⟨3, ![1, 256, 1024]⟩
abbrev S1024x1024 : Shape := ⟨2, ![1024, 1024]⟩
abbrev S1x4096x32x128 : Shape := ⟨4, ![1, 4096, 32, 128]⟩
abbrev S256x1024 : Shape := ⟨2, ![256, 1024]⟩
abbrev S16x4x64x32x128 : Shape := ⟨5, ![16, 4, 64, 32, 128]⟩
abbrev S2x16x64x8x128 : Shape := ⟨5, ![2, 16, 64, 8, 128]⟩
abbrev S2x2 : Shape := ⟨2, ![2, 2]⟩
abbrev S2 : Shape := ⟨1, ![2]⟩
abbrev S_ : Shape := ⟨0, ![]⟩
abbrev S1x1 : Shape := ⟨2, ![1, 1]⟩
abbrev S1x16x64x8x128 : Shape := ⟨5, ![1, 16, 64, 8, 128]⟩
abbrev S16x64x8x128 : Shape := ⟨4, ![16, 64, 8, 128]⟩
abbrev S16x1x64x8x128 : Shape := ⟨5, ![16, 1, 64, 8, 128]⟩
abbrev S64x128 : Shape := ⟨2, ![64, 128]⟩
abbrev S1x16x64x1x128 : Shape := ⟨5, ![1, 16, 64, 1, 128]⟩
abbrev S16x64x128 : Shape := ⟨3, ![16, 64, 128]⟩
abbrev S1024x128 : Shape := ⟨2, ![1024, 128]⟩
abbrev S64x1024 : Shape := ⟨2, ![64, 1024]⟩
abbrev S64 : Shape := ⟨1, ![64]⟩
abbrev S64x1 : Shape := ⟨2, ![64, 1]⟩
abbrev S1 : Shape := ⟨1, ![1]⟩

abbrev nBuf : Space → Nat
  | .hbm => 10
  | .vmem => 11
  | .smem => 0
  | _ => 0

abbrev bufTy : (tb : Table) → Fin (tcTables nBuf tb) → BufTy
  | .hbm, ⟨0, _⟩ => ⟨S1x256x1024, .f32⟩
  | .hbm, ⟨1, _⟩ => ⟨S1024x1024, .f32⟩
  | .hbm, ⟨2, _⟩ => ⟨S1x4096x32x128, .f32⟩
  | .hbm, ⟨3, _⟩ => ⟨S1x4096x32x128, .f32⟩
  | .hbm, ⟨4, _⟩ => ⟨S1024x1024, .f32⟩
  | .hbm, ⟨5, _⟩ => ⟨S256x1024, .f32⟩
  | .hbm, ⟨6, _⟩ => ⟨S16x4x64x32x128, .f32⟩
  | .hbm, ⟨7, _⟩ => ⟨S16x4x64x32x128, .f32⟩
  | .hbm, ⟨8, _⟩ => ⟨S256x1024, .f32⟩
  | .hbm, ⟨9, _⟩ => ⟨S1x256x1024, .f32⟩
  | .local _ .vmem, ⟨0, _⟩ => ⟨S256x1024, .f32⟩
  | .local _ .vmem, ⟨1, _⟩ => ⟨S1024x1024, .f32⟩
  | .local _ .vmem, ⟨2, _⟩ => ⟨S1024x1024, .f32⟩
  | .local _ .vmem, ⟨3, _⟩ => ⟨S256x1024, .f32⟩
  | .local _ .vmem, ⟨4, _⟩ => ⟨S2x16x64x8x128, .f32⟩
  | .local _ .vmem, ⟨5, _⟩ => ⟨S2x16x64x8x128, .f32⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | _, _ => ⟨S1x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 1 → Bool
  | ⟨0, _⟩ => false
  | _ => false

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  (ofTc nBuf bufTy 1 12 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_scratch6 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_16 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_15 : BitVec 32 := 1#32
  let v28 : BitVec 32 := Scalar.muli v14 c1_i32_15
  let v29 : BitVec 32 := Scalar.addi c0_i32_16 v28
  v29.toNat
def k0_dev2 (d0 : Dev nD) : Nat :=
  let c0_i32_19 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_18 : BitVec 32 := 1#32
  let v30 : BitVec 32 := Scalar.muli v25 c1_i32_18
  let v31 : BitVec 32 := Scalar.addi c0_i32_19 v30
  v31.toNat
def k0_off1 (d0 : Dev nD) : Fin 5 → Nat :=
  let c0_i32_28 : BitVec 32 := 0#32
  let c0_i32_20 : BitVec 32 := 0#32
  let c0_i32_29 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v26 : BitVec 32 := Scalar.muli v2 c8_i32
  let c0_i32_30 : BitVec 32 := 0#32
  ![0, 0, 0, v26.toNat, 0]
def k0_off2 (d0 : Dev nD) : Fin 5 → Nat :=
  let c0_i32_50 : BitVec 32 := 0#32
  let c1_i32_42 : BitVec 32 := 1#32
  let c0_i32_51 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v26 : BitVec 32 := Scalar.muli v2 c8_i32
  let c0_i32_52 : BitVec 32 := 0#32
  ![0, 1, 0, v26.toNat, 0]
def k0_off3 (d0 : Dev nD) : Fin 5 → Nat :=
  let c0_i32_212 : BitVec 32 := 0#32
  let c2_i32_204 : BitVec 32 := 2#32
  let c0_i32_213 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v26 : BitVec 32 := Scalar.muli v2 c8_i32
  let c0_i32_214 : BitVec 32 := 0#32
  ![0, 2, 0, v26.toNat, 0]
def k0_off4 (d0 : Dev nD) : Fin 5 → Nat :=
  let c0_i32_382 : BitVec 32 := 0#32
  let c3_i32 : BitVec 32 := 3#32
  let c0_i32_383 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v26 : BitVec 32 := Scalar.muli v2 c8_i32
  let c0_i32_384 : BitVec 32 := 0#32
  ![0, 3, 0, v26.toNat, 0]
def k0_dev3 (d0 : Dev nD) : Nat :=
  let c0_i32_706 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_702 : BitVec 32 := 1#32
  let v978 : BitVec 32 := Scalar.xori v2 c1_i32_702
  let c1_i32_705 : BitVec 32 := 1#32
  let v979 : BitVec 32 := Scalar.muli v978 c1_i32_705
  let v980 : BitVec 32 := Scalar.addi c0_i32_706 v979
  v980.toNat
def k0_dev4 (d0 : Dev nD) : Nat :=
  let c0_i32_724 : BitVec 32 := 0#32
  let c3_i32_720 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1000 : BitVec 32 := Scalar.subi c3_i32_720 v2
  let c1_i32_723 : BitVec 32 := 1#32
  let v1001 : BitVec 32 := Scalar.muli v1000 c1_i32_723
  let v1002 : BitVec 32 := Scalar.addi c0_i32_724 v1001
  v1002.toNat
abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== KernelIdeal.lean ====
variable {F : FTy → Type} [FloatOps F] [Named F]
def κ : String → Option EReal := fun
  | "scale" => some (((Real.sqrt 128)⁻¹ : ℝ) : EReal)
  | _ => none
-- ==== ReferenceIdeal.lean ====
abbrev S1x256x1024 : Shape := ⟨3, ![1, 256, 1024]⟩
abbrev S1024x4096 : Shape := ⟨2, ![1024, 4096]⟩
abbrev S1x4096x32x128 : Shape := ⟨4, ![1, 4096, 32, 128]⟩
abbrev S4096x1024 : Shape := ⟨2, ![4096, 1024]⟩
abbrev S_ : Shape := ⟨0, ![]⟩
abbrev S1x1 : Shape := ⟨2, ![1, 1]⟩
abbrev S1x256x4096 : Shape := ⟨3, ![1, 256, 4096]⟩
abbrev S1x256x32x128 : Shape := ⟨4, ![1, 256, 32, 128]⟩
abbrev S256 : Shape := ⟨1, ![256]⟩
abbrev S256x1 : Shape := ⟨2, ![256, 1]⟩
abbrev S4096 : Shape := ⟨1, ![4096]⟩
abbrev S1x4096 : Shape := ⟨2, ![1, 4096]⟩
abbrev S256x4096 : Shape := ⟨2, ![256, 4096]⟩
abbrev S1x32x256x4096 : Shape := ⟨4, ![1, 32, 256, 4096]⟩
abbrev S1x1x1x1 : Shape := ⟨4, ![1, 1, 1, 1]⟩
abbrev S1x1x256x4096 : Shape := ⟨4, ![1, 1, 256, 4096]⟩
abbrev S1x32x256 : Shape := ⟨3, ![1, 32, 256]⟩
abbrev S1x32x256x1 : Shape := ⟨4, ![1, 32, 256, 1]⟩
abbrev S1x1x256x1 : Shape := ⟨4, ![1, 1, 256, 1]⟩
abbrev S1x32x128x256 : Shape := ⟨4, ![1, 32, 128, 256]⟩

abbrev nBuf : Space → Nat
  | .hbm => 101
  | .vmem => 3
  | .smem => 0
  | _ => 0

abbrev bufTy : (tb : Table) → Fin (tcTables nBuf tb) → BufTy
  | .hbm, ⟨0, _⟩ => ⟨S1x256x1024, .f32⟩
  | .hbm, ⟨1, _⟩ => ⟨S1024x4096, .f32⟩
  | .hbm, ⟨2, _⟩ => ⟨S1x4096x32x128, .f32⟩
  | .hbm, ⟨3, _⟩ => ⟨S1x4096x32x128, .f32⟩
  | .hbm, ⟨4, _⟩ => ⟨S4096x1024, .f32⟩
  | .hbm, ⟨5, _⟩ => ⟨S_, .f32⟩
  | .hbm, ⟨6, _⟩ => ⟨S1x1, .f32⟩
  | .hbm, ⟨7, _⟩ => ⟨S1x1, .f32⟩
  | .hbm, ⟨8, _⟩ => ⟨S1x1, .f32⟩
  | .hbm, ⟨9, _⟩ => ⟨S1x256x4096, .f32⟩
  | .hbm, ⟨10, _⟩ => ⟨S1x256x32x128, .f32⟩
  | .hbm, ⟨11, _⟩ => ⟨S256, .i32⟩
  | .hbm, ⟨12, _⟩ => ⟨S_, .i32⟩
  | .hbm, ⟨13, _⟩ => ⟨S_, .i32⟩
  | .hbm, ⟨14, _⟩ => ⟨S256, .i32⟩
  | .hbm, ⟨15, _⟩ => ⟨S256, .i32⟩
  | .hbm, ⟨16, _⟩ => ⟨S256, .i32⟩
  | .hbm, ⟨17, _⟩ => ⟨S_, .i32⟩
  | .hbm, ⟨18, _⟩ => ⟨S256, .i32⟩
  | .hbm, ⟨19, _⟩ => ⟨S256, .i1⟩
  | .hbm, ⟨20, _⟩ => ⟨S256, .i32⟩
  | .hbm, ⟨21, _⟩ => ⟨S256, .i32⟩
  | .hbm, ⟨22, _⟩ => ⟨S_, .i32⟩
  | .hbm, ⟨23, _⟩ => ⟨S256, .i32⟩
  | .hbm, ⟨24, _⟩ => ⟨S256, .i1⟩
  | .hbm, ⟨25, _⟩ => ⟨S256, .i1⟩
  | .hbm, ⟨26, _⟩ => ⟨S_, .i32⟩
  | .hbm, ⟨27, _⟩ => ⟨S256, .i32⟩
  | .hbm, ⟨28, _⟩ => ⟨S256, .i32⟩
  | .hbm, ⟨29, _⟩ => ⟨S256, .i32⟩
  | .hbm, ⟨30, _⟩ => ⟨S256x1, .i32⟩
  | .hbm, ⟨31, _⟩ => ⟨S4096, .i32⟩
  | .hbm, ⟨32, _⟩ => ⟨S_, .i32⟩
  | .hbm, ⟨33, _⟩ => ⟨S_, .i32⟩
  | .hbm, ⟨34, _⟩ => ⟨S4096, .i32⟩
  | .hbm, ⟨35, _⟩ => ⟨S4096, .i32⟩
  | .hbm, ⟨36, _⟩ => ⟨S4096, .i32⟩
  | .hbm, ⟨37, _⟩ => ⟨S_, .i32⟩
  | .hbm, ⟨38, _⟩ => ⟨S4096, .i32⟩
  | .hbm, ⟨39, _⟩ => ⟨S4096, .i1⟩
  | .hbm, ⟨40, _⟩ => ⟨S4096, .i32⟩
  | .hbm, ⟨41, _⟩ => ⟨S4096, .i32⟩
  | .hbm, ⟨42, _⟩ => ⟨S_, .i32⟩
  | .hbm, ⟨43, _⟩ => ⟨S4096, .i32⟩
  | .hbm, ⟨44, _⟩ => ⟨S4096, .i1⟩
  | .hbm, ⟨45, _⟩ => ⟨S4096, .i1⟩
  | .hbm, ⟨46, _⟩ => ⟨S_, .i32⟩
  | .hbm, ⟨47, _⟩ => ⟨S4096, .i32⟩
  | .hbm, ⟨48, _⟩ => ⟨S4096, .i32⟩
  | .hbm, ⟨49, _⟩ => ⟨S4096, .i32⟩
  | .hbm, ⟨50, _⟩ => ⟨S1x4096, .i32⟩
  | .hbm, ⟨51, _⟩ => ⟨S256x4096, .i32⟩
  | .hbm, ⟨52, _⟩ => ⟨S256x4096, .i32⟩
  | .hbm, ⟨53, _⟩ => ⟨S256x4096, .i1⟩
  | .hbm, ⟨54, _⟩ => ⟨S_, .i32⟩
  | .hbm, ⟨55, _⟩ => ⟨S1x4096, .i32⟩
  | .hbm, ⟨56, _⟩ => ⟨S1x4096, .i32⟩
  | .hbm, ⟨57, _⟩ => ⟨S_, .i32⟩
  | .hbm, ⟨58, _⟩ => ⟨S256x1, .i32⟩
  | .hbm, ⟨59, _⟩ => ⟨S256x1, .i32⟩
  | .hbm, ⟨60, _⟩ => ⟨S256x4096, .i32⟩
  | .hbm, ⟨61, _⟩ => ⟨S256x4096, .i32⟩
  | .hbm, ⟨62, _⟩ => ⟨S256x4096, .i1⟩
  | .hbm, ⟨63, _⟩ => ⟨S256x4096, .i1⟩
  | .hbm, ⟨64, _⟩ => ⟨S1x32x256x4096, .f32⟩
  | .hbm, ⟨65, _⟩ => ⟨S1x1x1x1, .f32⟩
  | .hbm, ⟨66, _⟩ => ⟨S1x32x256x4096, .f32⟩
  | .hbm, ⟨67, _⟩ => ⟨S1x32x256x4096, .f32⟩
  | .hbm, ⟨68, _⟩ => ⟨S1x1x256x4096, .i1⟩
  | .hbm, ⟨69, _⟩ => ⟨S1x32x256x4096, .i1⟩
  | .hbm, ⟨70, _⟩ => ⟨S1x32x256x4096, .f32⟩
  | .hbm, ⟨71, _⟩ => ⟨S1x32x256x4096, .f32⟩
  | .hbm, ⟨72, _⟩ => ⟨S_, .f32⟩
  | .hbm, ⟨73, _⟩ => ⟨S1x32x256, .f32⟩
  | .hbm, ⟨74, _⟩ => ⟨S1x32x256x1, .f32⟩
  | .hbm, ⟨75, _⟩ => ⟨S1x32x256x4096, .f32⟩
  | .hbm, ⟨76, _⟩ => ⟨S1x32x256x4096, .f32⟩
  | .hbm, ⟨77, _⟩ => ⟨S1x32x256x4096, .f32⟩
  | .hbm, ⟨78, _⟩ => ⟨S_, .i1⟩
  | .hbm, ⟨79, _⟩ => ⟨S256, .i1⟩
  | .hbm, ⟨80, _⟩ => ⟨S1x1x256x1, .i1⟩
  | .hbm, ⟨81, _⟩ => ⟨S_, .f32⟩
  | .hbm, ⟨82, _⟩ => ⟨S1x32x256, .f32⟩
  | .hbm, ⟨83, _⟩ => ⟨S1x32x256x1, .f32⟩
  | .hbm, ⟨84, _⟩ => ⟨S_, .f32⟩
  | .hbm, ⟨85, _⟩ => ⟨S_, .f32⟩
  | .hbm, ⟨86, _⟩ => ⟨S1x32x256x1, .i1⟩
  | .hbm, ⟨87, _⟩ => ⟨S1x32x256x1, .f32⟩
  | .hbm, ⟨88, _⟩ => ⟨S1x32x256x1, .f32⟩
  | .hbm, ⟨89, _⟩ => ⟨S1x32x256x4096, .f32⟩
  | .hbm, ⟨90, _⟩ => ⟨S1x32x256x4096, .f32⟩
  | .hbm, ⟨91, _⟩ => ⟨S1x1x256x1, .i1⟩
  | .hbm, ⟨92, _⟩ => ⟨S_, .f32⟩
  | .hbm, ⟨93, _⟩ => ⟨S_, .f32⟩
  | .hbm, ⟨94, _⟩ => ⟨S1x32x256x4096, .i1⟩
  | .hbm, ⟨95, _⟩ => ⟨S1x32x256x4096, .f32⟩
  | .hbm, ⟨96, _⟩ => ⟨S1x32x256x4096, .f32⟩
  | .hbm, ⟨97, _⟩ => ⟨S1x32x128x256, .f32⟩
  | .hbm, ⟨98, _⟩ => ⟨S1x256x32x128, .f32⟩
  | .hbm, ⟨99, _⟩ => ⟨S1x256x4096, .f32⟩
  | .hbm, ⟨100, _⟩ => ⟨S1x256x1024, .f32⟩
  | .local _ .vmem, ⟨0, _⟩ => ⟨S1x1, .f32⟩
  | .local _ .vmem, ⟨1, _⟩ => ⟨S1x1, .f32⟩
  | .local _ .vmem, ⟨2, _⟩ => ⟨S1x1, .f32⟩
  | _, _ => ⟨S1x256x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_c : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_0 : Ref sig .tc := ⟨.hbm, 26, rfl⟩
abbrev main_call0_v12 : Ref sig .tc := ⟨.hbm, 27, rfl⟩
abbrev main_call0_v13 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_c_0 : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_call1_v5 : Ref sig .tc := ⟨.hbm, 38, rfl⟩
abbrev main_call1_v6 : Ref sig .tc := ⟨.hbm, 39, rfl⟩
abbrev main_call1_v7 : Ref sig .tc := ⟨.hbm, 40, rfl⟩
abbrev main_call1_v8 : Ref sig .tc := ⟨.hbm, 41, rfl⟩
abbrev main_call1_c : Ref sig .tc := ⟨.hbm, 42, rfl⟩
abbrev main_call1_v9 : Ref sig .tc := ⟨.hbm, 43, rfl⟩
abbrev main_call1_v10 : Ref sig .tc := ⟨.hbm, 44, rfl⟩
abbrev main_call1_v11 : Ref sig .tc := ⟨.hbm, 45, rfl⟩
abbrev main_call1_c_0 : Ref sig .tc := ⟨.hbm, 46, rfl⟩
abbrev main_call1_v12 : Ref sig .tc := ⟨.hbm, 47, rfl⟩
abbrev main_call1_v13 : Ref sig .tc := ⟨.hbm, 48, rfl⟩
abbrev main_v8 : Ref sig .tc := ⟨.hbm, 49, rfl⟩
abbrev main_v9 : Ref sig .tc := ⟨.hbm, 50, rfl⟩
abbrev main_v10 : Ref sig .tc := ⟨.hbm, 51, rfl⟩
abbrev main_v11 : Ref sig .tc := ⟨.hbm, 52, rfl⟩
abbrev main_v12 : Ref sig .tc := ⟨.hbm, 53, rfl⟩
abbrev main_c_1 : Ref sig .tc := ⟨.hbm, 54, rfl⟩
abbrev main_v13 : Ref sig .tc := ⟨.hbm, 55, rfl⟩
abbrev main_v14 : Ref sig .tc := ⟨.hbm, 56, rfl⟩
abbrev main_c_2 : Ref sig .tc := ⟨.hbm, 57, rfl⟩
abbrev main_v15 : Ref sig .tc := ⟨.hbm, 58, rfl⟩
abbrev main_v16 : Ref sig .tc := ⟨.hbm, 59, rfl⟩
abbrev main_v17 : Ref sig .tc := ⟨.hbm, 60, rfl⟩
abbrev main_v18 : Ref sig .tc := ⟨.hbm, 61, rfl⟩
abbrev main_v19 : Ref sig .tc := ⟨.hbm, 62, rfl⟩
abbrev main_v20 : Ref sig .tc := ⟨.hbm, 63, rfl⟩
abbrev main_v21 : Ref sig .tc := ⟨.hbm, 64, rfl⟩
abbrev main_v22 : Ref sig .tc := ⟨.hbm, 65, rfl⟩
abbrev main_v23 : Ref sig .tc := ⟨.hbm, 66, rfl⟩
abbrev main_v24 : Ref sig .tc := ⟨.hbm, 67, rfl⟩
abbrev main_v25 : Ref sig .tc := ⟨.hbm, 68, rfl⟩
abbrev main_call2_v0 : Ref sig .tc := ⟨.hbm, 69, rfl⟩
abbrev main_call2_v1 : Ref sig .tc := ⟨.hbm, 70, rfl⟩
abbrev main_v26 : Ref sig .tc := ⟨.hbm, 71, rfl⟩
abbrev main_cst_3 : Ref sig .tc := ⟨.hbm, 72, rfl⟩
abbrev main_v27 : Ref sig .tc := ⟨.hbm, 73, rfl⟩
abbrev main_v28 : Ref sig .tc := ⟨.hbm, 74, rfl⟩
abbrev main_v29 : Ref sig .tc := ⟨.hbm, 75, rfl⟩
abbrev main_v30 : Ref sig .tc := ⟨.hbm, 76, rfl⟩
abbrev main_v31 : Ref sig .tc := ⟨.hbm, 77, rfl⟩
abbrev main_c_4 : Ref sig .tc := ⟨.hbm, 78, rfl⟩
abbrev main_v32 : Ref sig .tc := ⟨.hbm, 79, rfl⟩
abbrev main_v33 : Ref sig .tc := ⟨.hbm, 80, rfl⟩
abbrev main_cst_5 : Ref sig .tc := ⟨.hbm, 81, rfl⟩
abbrev main_v34 : Ref sig .tc := ⟨.hbm, 82, rfl⟩
abbrev main_v35 : Ref sig .tc := ⟨.hbm, 83, rfl⟩
abbrev main_cst_6 : Ref sig .tc := ⟨.hbm, 84, rfl⟩
abbrev main_call3_v0 : Ref sig .tc := ⟨.hbm, 85, rfl⟩
abbrev main_call3_v1 : Ref sig .tc := ⟨.hbm, 86, rfl⟩
abbrev main_call3_v2 : Ref sig .tc := ⟨.hbm, 87, rfl⟩
abbrev main_v36 : Ref sig .tc := ⟨.hbm, 88, rfl⟩
abbrev main_v37 : Ref sig .tc := ⟨.hbm, 89, rfl⟩
abbrev main_v38 : Ref sig .tc := ⟨.hbm, 90, rfl⟩
abbrev main_v39 : Ref sig .tc := ⟨.hbm, 91, rfl⟩
abbrev main_cst_7 : Ref sig .tc := ⟨.hbm, 92, rfl⟩
abbrev main_call4_v0 : Ref sig .tc := ⟨.hbm, 93, rfl⟩
abbrev main_call4_v1 : Ref sig .tc := ⟨.hbm, 94, rfl⟩
abbrev main_call4_v2 : Ref sig .tc := ⟨.hbm, 95, rfl⟩
abbrev main_v40 : Ref sig .tc := ⟨.hbm, 96, rfl⟩
abbrev main_v41 : Ref sig .tc := ⟨.hbm, 97, rfl⟩
abbrev main_v42 : Ref sig .tc := ⟨.hbm, 98, rfl⟩
abbrev main_v43 : Ref sig .tc := ⟨.hbm, 99, rfl⟩
abbrev main_v44 : Ref sig .tc := ⟨.hbm, 100, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F] [Named F]

def κ : String → Option EReal := fun
  | "mask" => some ⊥
  | "scale" => some (((Real.sqrt 128)⁻¹ : ℝ) : EReal)
  | _ => none

abbrev grid0 : Pipeline.Grid := .none

abbrev stage0_0 : Fin 1 → Memref sig .tc .vmem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.Contents.lean ====
/- What each buffer of the kernel holds: the key and value heads a slot of a double buffer carries, one head's
   attention over them, the context block by block, the partial products and the two sums of the exchange. Over any
   interpretation of the floating-point types. -/
module

public import proofs.«01_k».proof.Proof.Gen.KernelIdeal.Skeleton
public import proofs.«01_k».proof.Proof.Gen.KernelIdeal.Frame

@[expose] public section

set_option maxRecDepth 16384
set_option synthInstance.maxSize 4096

noncomputable section

namespace Cert.KernelIdeal.Own

open Idealize Idealize.ShloMosaic Idealize.SL.Sem
open Cert.KernelIdeal Cert.KernelIdeal.Gen

variable {F : FTy → Type} [FloatOps F] [Named F]

/-- The device one pairing away: 0 with 1 and 2 with 3. -/
def pa (c : Dev nD) : Dev nD := (![1, 0, 3, 2] : Fin 4 → Fin 4) c
/-- The device the other pairing away: 0 with 3 and 1 with 2. -/
def pb (c : Dev nD) : Dev nD := (![3, 2, 1, 0] : Fin 4 → Fin 4) c

/-- The first partner's first partner is the device itself. -/
theorem pa_pa (c : Dev nD) : pa (pa c) = c := by revert c; decide
/-- The second partner's second partner is the device itself. -/
theorem pb_pb (c : Dev nD) : pb (pb c) = c := by revert c; decide
/-- The first partner is another device. -/
theorem pa_ne (c : Dev nD) : pa c ≠ c := by revert c; decide
/-- The second partner is another device. -/
theorem pb_ne (c : Dev nD) : pb c ≠ c := by revert c; decide
/-- The two partners differ. -/
theorem pa_ne_pb (c : Dev nD) : pa c ≠ pb c := by revert c; decide
/-- The device that the first remote copy names is the first partner. -/
theorem dev3_eq (c : Dev nD) : (⟨k0_dev3 c, k0_dev3_lt c⟩ : Dev nD) = pa c := by revert c; decide +kernel
/-- The device that the second remote copy names is the second partner. -/
theorem dev4_eq (c : Dev nD) : (⟨k0_dev4 c, k0_dev4_lt c⟩ : Dev nD) = pb c := by revert c; decide +kernel

/-- Where the window of query block 0 begins in the stored keys and values. -/
theorem off1_eq (c : Dev nD) : k0_off1 c = ![0, 0, 0, 8 * c.val, 0] := by revert c; decide +kernel
/-- Where the window of query block 1 begins. -/
theorem off2_eq (c : Dev nD) : k0_off2 c = ![0, 1, 0, 8 * c.val, 0] := by revert c; decide +kernel
/-- Where the window of query block 2 begins. -/
theorem off3_eq (c : Dev nD) : k0_off3 c = ![0, 2, 0, 8 * c.val, 0] := by revert c; decide +kernel
/-- Where the window of query block 3 begins. -/
theorem off4_eq (c : Dev nD) : k0_off4 c = ![0, 3, 0, 8 * c.val, 0] := by revert c; decide +kernel

/-- What one device's kernel is given. -/
structure Inp (F : FTy → Type) where
  x : Vec F S256x1024 .f32
  wq : Vec F S1024x1024 .f32
  k : Vec F S16x4x64x32x128 .f32
  v : Vec F S16x4x64x32x128 .f32
  wo : Vec F S1024x1024 .f32

/-- The index of the stored keys (or values) at position `(a, r)` of query block `qb`, head `o` and lane `l`. -/
def kvIx (a : Fin 16) (qb : Fin 4) (r : Fin 64) (o : Fin 32) (l : Fin 128) : S16x4x64x32x128.Idx
  | ⟨0, _⟩ => a | ⟨1, _⟩ => qb | ⟨2, _⟩ => r | ⟨3, _⟩ => o | ⟨4, _⟩ => l | ⟨_ + 5, h⟩ => absurd h (Nat.not_lt.2 (Nat.le_add_left _ _))

/-- Head `h` of device `c` among all the heads. -/
def hd (c : Dev nD) (h : Fin 8) : Fin 32 := ⟨8 * c.val + h.val, by have := c.isLt; have := h.isLt; simp only [nD] at *; omega⟩

/-- What a slot of a double buffer holds for query block `qb`: device `c`'s heads of the keys (or values), the same
    whichever slot it is. -/
def slotOf (K : Vec F S16x4x64x32x128 .f32) (c : Dev nD) (qb : Fin 4) : Vec F S2x16x64x8x128 .f32 :=
  fun i => K (kvIx (i 1) qb (i 2) (hd c (i 3)) (i 4))

/-- One head of it. -/
def headOf (K : Vec F S16x4x64x32x128 .f32) (c : Dev nD) (qb : Fin 4) (h : Fin 8) : Vec F S1x16x64x1x128 .f32 :=
  fun i => K (kvIx (i 1) qb (i 2) (hd c h) (i 4))

/-- One head's attention: the scores of 64 queries against 1024 keys, the softmax of each row and the weighted sum of
    the values. -/
def headPay (qh : FVec F S64x128 .f32) (k v : Vec F S1x16x64x1x128 .f32) : FVec F S64x128 .bf16 :=
  k0_pay6 (truncf .bf16 qh bitsLt_bf16_f32) (k0_pay5 k) v

/-- The 64 queries of block `qb` at head `h`. -/
def qBlk (q : FVec F S256x1024 .f32) (qb : Fin 4) (h : Fin 8) : FVec F S64x128 .f32 :=
  fun i => q (fun
    | ⟨0, _⟩ => (⟨64 * qb.val + (i 0).val, by have := (i 0).isLt; have := qb.isLt; simp at *; omega⟩ : Fin 256)
    | ⟨1, _⟩ => (⟨128 * h.val + (i 1).val, by have := (i 1).isLt; have := h.isLt; simp at *; omega⟩ : Fin 1024)
    | ⟨_ + 2, h⟩ => absurd h (Nat.not_lt.2 (Nat.le_add_left _ _)))

/-- The scaled queries. -/
def qOf (I : Inp F) : FVec F S256x1024 .f32 := k0_pay2 I.x I.wq

/-- The context of query block `qb` at head `h`. -/
def blk (I : Inp F) (c : Dev nD) (qb : Fin 4) (h : Fin 8) : FVec F S64x128 .bf16 :=
  headPay (qBlk (qOf I) qb h) (headOf I.k c qb h) (headOf I.v c qb h)

/-- The query block of a row. -/
def rowBlk (i : S256x1024.Idx) : Fin 4 := ⟨(i 0).val / 64, by have := (i 0).isLt; simp at *; omega⟩
/-- The head of a column. -/
def colBlk (i : S256x1024.Idx) : Fin 8 := ⟨(i 1).val / 128, by have := (i 1).isLt; simp at *; omega⟩
/-- A row and a column within their block. -/
def inBlk (i : S256x1024.Idx) : S64x128.Idx
  | ⟨0, _⟩ => (⟨(i 0).val % 64, Nat.mod_lt _ (by decide)⟩ : Fin 64)
  | ⟨1, _⟩ => (⟨(i 1).val % 128, Nat.mod_lt _ (by decide)⟩ : Fin 128)
  | ⟨_ + 2, h⟩ => absurd h (Nat.not_lt.2 (Nat.le_add_left _ _))

/-- The whole context. -/
def ctxOf (I : Inp F) (c : Dev nD) : Vec F S256x1024 .bf16 := fun i => blk I c (rowBlk i) (colBlk i) (inBlk i)

/-- A device's part of the output product. -/
def pOf (I : Dev nD → Inp F) (c : Dev nD) : Vec F S256x1024 .bf16 := k0_pay71 (ctxOf (I c) c) (I c).wo
/-- The sum over a device and its first partner. -/
def sOf (I : Dev nD → Inp F) (c : Dev nD) : Vec F S256x1024 .bf16 := k0_pay73 (k0_pay72 (pOf I c) (pOf I (pa c)))
/-- The sum over all four. -/
def outOf (I : Dev nD → Inp F) (c : Dev nD) : Vec F S256x1024 .f32 := k0_pay1 (sOf I c) (sOf I (pb c))

/-! ## Where the windows lie -/

/-- Dropping the unit axis of a window of the stored keys. -/
theorem unsq_src (h : S16x64x8x128.numel = S16x1x64x8x128.numel) (p : S16x64x8x128.Idx) (a : Fin 5) :
    ((Shape.reshapeEquiv h p) a).val = (![(p 0).val, 0, (p 1).val, (p 2).val, (p 3).val] : Fin 5 → ℕ) a := by
  have e : Shape.reshapeEquiv h p = (fun
      | ⟨0, _⟩ => (p 0 : Fin 16) | ⟨1, _⟩ => (0 : Fin 1) | ⟨2, _⟩ => (p 1 : Fin 64) | ⟨3, _⟩ => (p 2 : Fin 8)
      | ⟨4, _⟩ => (p 3 : Fin 128) | ⟨_ + 5, h⟩ => absurd h (Nat.not_lt.2 (Nat.le_add_left _ _)) : S16x1x64x8x128.Idx) := by
    refine Shape.reshapeEquiv_eq_of_rowMajor h ?_
    rw [Shape.rowMajor_val_five, Shape.rowMajor_val_four]
    simp
  rw [e]
  match a with
  | 0 => rfl
  | 1 => rfl
  | 2 => rfl
  | 3 => rfl
  | 4 => rfl

/-- Dropping the unit axis of a slot. -/
theorem unsq_dst (h : S16x64x8x128.numel = S1x16x64x8x128.numel) (p : S16x64x8x128.Idx) (a : Fin 5) :
    ((Shape.reshapeEquiv h p) a).val = (![0, (p 0).val, (p 1).val, (p 2).val, (p 3).val] : Fin 5 → ℕ) a := by
  have e : Shape.reshapeEquiv h p = (fun
      | ⟨0, _⟩ => (0 : Fin 1) | ⟨1, _⟩ => (p 0 : Fin 16) | ⟨2, _⟩ => (p 1 : Fin 64) | ⟨3, _⟩ => (p 2 : Fin 8)
      | ⟨4, _⟩ => (p 3 : Fin 128) | ⟨_ + 5, h⟩ => absurd h (Nat.not_lt.2 (Nat.le_add_left _ _)) : S1x16x64x8x128.Idx) := by
    refine Shape.reshapeEquiv_eq_of_rowMajor h ?_
    rw [Shape.rowMajor_val_five, Shape.rowMajor_val_four]
    simp
  rw [e]
  match a with
  | 0 => rfl
  | 1 => rfl
  | 2 => rfl
  | 3 => rfl
  | 4 => rfl

/-! ## The memrefs the kernel names -/

/-- The input. -/
abbrev xM : Memref sig .tc .vmem S256x1024 .f32 := Memref.whole cc0_stg0_0
/-- The block of the query projection. -/
abbrev wqM : Memref sig .tc .vmem S1024x1024 .f32 := Memref.whole cc0_stg1_0
/-- The block of the output projection. -/
abbrev woM : Memref sig .tc .vmem S1024x1024 .f32 := Memref.whole cc0_stg2_0
/-- The result. -/
abbrev oM : Memref sig .tc .vmem S256x1024 .f32 := Memref.whole cc0_stg3_0
/-- The stored keys. -/
abbrev kM : Memref sig .tc .hbm S16x4x64x32x128 .f32 := Memref.whole main_v2
/-- The stored values. -/
abbrev vM : Memref sig .tc .hbm S16x4x64x32x128 .f32 := Memref.whole main_v3
/-- The keys' double buffer. -/
abbrev kbM : Memref sig .tc .vmem S2x16x64x8x128 .f32 := Memref.whole cc0_scratch0
/-- The values' double buffer. -/
abbrev vbM : Memref sig .tc .vmem S2x16x64x8x128 .f32 := Memref.whole cc0_scratch1
/-- The context. -/
abbrev cM : Memref sig .tc .vmem S256x1024 .bf16 := Memref.whole cc0_scratch2
/-- The device's own partial output. -/
abbrev pM : Memref sig .tc .vmem S256x1024 .bf16 := Memref.whole cc0_scratch3
/-- The sum of the first exchange. -/
abbrev sM : Memref sig .tc .vmem S256x1024 .bf16 := Memref.whole cc0_scratch4
/-- Where the first partner's partial output lands. -/
abbrev aM : Memref sig .tc .vmem S256x1024 .bf16 := Memref.whole cc0_scratch5
/-- Where the second partner's sum lands. -/
abbrev bM : Memref sig .tc .vmem S256x1024 .bf16 := Memref.whole cc0_scratch6

/-- A window of the stored keys or values at an offset. -/
abbrev srcAt (M : Memref sig .tc .hbm S16x4x64x32x128 .f32) (off : Fin 5 → ℕ)
    (inb : ∀ a, off a + S16x1x64x8x128.size a ≤ S16x4x64x32x128.size a) : Memref sig .tc .hbm S16x64x8x128 .f32 :=
  (M.slice (Rect.unit (s := S16x4x64x32x128) off S16x1x64x8x128.size inb) (fun _ => rfl)).squeeze S16x64x8x128
    squeezes_S16x1x64x8x128_S16x64x8x128

/-- A slot of a double buffer. -/
abbrev slotAt (M : Memref sig .tc .vmem S2x16x64x8x128 .f32) (off : Fin 5 → ℕ)
    (inb : ∀ a, off a + S1x16x64x8x128.size a ≤ S2x16x64x8x128.size a) : Memref sig .tc .vmem S16x64x8x128 .f32 :=
  (M.slice (Rect.unit (s := S2x16x64x8x128) off S1x16x64x8x128.size inb) (fun _ => rfl)).squeeze S16x64x8x128
    squeezes_S1x16x64x8x128_S16x64x8x128

/-- The elements of the window device `c` copies for query block `qb`. -/
def winSet (c : Dev nD) (qb : Fin 4) : Finset S16x4x64x32x128.Idx :=
  Finset.univ.filter fun i => (i 1).val = qb.val ∧ (i 3).val / 8 = c.val

/-- The elements of slot `s`. -/
def slotSet (s : Fin 2) : Finset S2x16x64x8x128.Idx := Finset.univ.filter fun i => (i 0).val = s.val

/-- An element of slot `s`. -/
def slIx (s : Fin 2) (a : Fin 16) (r : Fin 64) (h : Fin 8) (l : Fin 128) : S2x16x64x8x128.Idx
  | ⟨0, _⟩ => s | ⟨1, _⟩ => a | ⟨2, _⟩ => r | ⟨3, _⟩ => h | ⟨4, _⟩ => l | ⟨_ + 5, h⟩ => absurd h (Nat.not_lt.2 (Nat.le_add_left _ _))

/-- An element of a window. -/
def pIx (a : Fin 16) (r : Fin 64) (h : Fin 8) (l : Fin 128) : S16x64x8x128.Idx
  | ⟨0, _⟩ => a | ⟨1, _⟩ => r | ⟨2, _⟩ => h | ⟨3, _⟩ => l | ⟨_ + 4, h⟩ => absurd h (Nat.not_lt.2 (Nat.le_add_left _ _))

section Geometry

variable (c : Dev nD) (s : Fin 2) (qb : Fin 4) (h : Fin 8)

/-- Where an element of a window lies in the stored keys. -/
theorem src_emb (off : Fin 5 → ℕ) (inb : ∀ a, off a + S16x1x64x8x128.size a ≤ S16x4x64x32x128.size a)
    (ho : off = ![0, qb.val, 0, 8 * c.val, 0]) (p : S16x64x8x128.Idx) :
    (srcAt kM off inb).view.emb p = kvIx (p 0) qb (p 1) (hd c (p 2)) (p 3) := by
  subst ho
  refine funext fun (a : Fin 5) => Fin.ext ?_
  have hu := unsq_src (squeezes_S16x1x64x8x128_S16x64x8x128).numel_eq p a
  refine (congrArg (fun n => (![0, qb.val, 0, 8 * c.val, 0] : Fin 5 → ℕ) a + 1 * n) hu).trans ?_
  clear hu
  match a with
  | 0 => show 0 + 1 * (p 0).val = (p 0).val; omega
  | 1 => show qb.val + 1 * 0 = qb.val; omega
  | 2 => show 0 + 1 * (p 1).val = (p 1).val; omega
  | 3 => show 8 * c.val + 1 * (p 2).val = 8 * c.val + (p 2).val; omega
  | 4 => show 0 + 1 * (p 3).val = (p 3).val; omega

/-- The window's elements. -/
theorem src_set (off : Fin 5 → ℕ) (inb : ∀ a, off a + S16x1x64x8x128.size a ≤ S16x4x64x32x128.size a)
    (ho : off = ![0, qb.val, 0, 8 * c.val, 0]) : ((srcAt kM off inb).view.set : Finset S16x4x64x32x128.Idx) = winSet c qb := by
  ext i
  simp only [winSet, Finset.mem_filter, Finset.mem_univ, true_and]
  constructor
  · intro hi
    obtain ⟨p, -, rfl⟩ := Finset.mem_map.mp hi
    rw [src_emb c qb off inb ho]
    refine ⟨rfl, ?_⟩
    show (8 * c.val + (p 2).val) / 8 = c.val
    have : (p 2).val < 8 := (p 2).isLt
    omega
  · rintro ⟨h1, h3⟩
    have e : i = (srcAt kM off inb).view.emb (pIx (i 0) (i 2) ⟨(i 3).val % 8, Nat.mod_lt _ (by decide)⟩ (i 4)) := by
      rw [src_emb c qb off inb ho]
      funext a
      match a with
      | 0 => rfl
      | 1 => exact Fin.ext h1
      | 2 => rfl
      | 3 =>
        apply Fin.ext
        show (i 3).val = 8 * c.val + (i 3).val % 8
        omega
      | 4 => rfl
    rw [e]
    exact View.emb_mem_set _ _

/-- Where an element of a slot lies in its buffer. -/
theorem slot_emb (off : Fin 5 → ℕ) (inb : ∀ a, off a + S1x16x64x8x128.size a ≤ S2x16x64x8x128.size a)
    (ho : off = ![s.val, 0, 0, 0, 0]) (p : S16x64x8x128.Idx) :
    (slotAt kbM off inb).view.emb p = slIx s (p 0) (p 1) (p 2) (p 3) := by
  subst ho
  refine funext fun (a : Fin 5) => Fin.ext ?_
  have hu := unsq_dst (squeezes_S1x16x64x8x128_S16x64x8x128).numel_eq p a
  refine (congrArg (fun n => (![s.val, 0, 0, 0, 0] : Fin 5 → ℕ) a + 1 * n) hu).trans ?_
  clear hu
  match a with
  | 0 => show s.val + 1 * 0 = s.val; omega
  | 1 => show 0 + 1 * (p 0).val = (p 0).val; omega
  | 2 => show 0 + 1 * (p 1).val = (p 1).val; omega
  | 3 => show 0 + 1 * (p 2).val = (p 2).val; omega
  | 4 => show 0 + 1 * (p 3).val = (p 3).val; omega

/-- The slot's elements. -/
theorem slot_set (off : Fin 5 → ℕ) (inb : ∀ a, off a + S1x16x64x8x128.size a ≤ S2x16x64x8x128.size a)
    (ho : off = ![s.val, 0, 0, 0, 0]) : ((slotAt kbM off inb).view.set : Finset S2x16x64x8x128.Idx) = slotSet s := by
  ext i
  simp only [slotSet, Finset.mem_filter, Finset.mem_univ, true_and]
  constructor
  · intro hi
    obtain ⟨p, -, rfl⟩ := Finset.mem_map.mp hi
    rw [slot_emb s off inb ho]; rfl
  · intro hi
    have e : i = (slotAt kbM off inb).view.emb (pIx (i 1) (i 2) (i 3) (i 4)) := by
      rw [slot_emb s off inb ho]
      funext a
      match a with
      | 0 => exact Fin.ext hi
      | 1 => rfl
      | 2 => rfl
      | 3 => rfl
      | 4 => rfl
    rw [e]
    exact View.emb_mem_set _ _

/-- The two slots are a double buffer's elements. -/
theorem slot_compl : (Finset.univ : Finset S2x16x64x8x128.Idx) \ slotSet 0 = slotSet 1 := by
  ext i
  simp only [slotSet, Finset.mem_sdiff, Finset.mem_filter, Finset.mem_univ, true_and]
  have h : (i 0).val < 2 := (i 0).isLt
  show ¬ (i 0).val = 0 ↔ (i 0).val = 1
  omega

/-- What a copy of a window leaves in its slot. -/
theorem copied (off : Fin 5 → ℕ) (inb : ∀ a, off a + S16x1x64x8x128.size a ≤ S16x4x64x32x128.size a)
    (ho : off = ![0, qb.val, 0, 8 * c.val, 0]) (off' : Fin 5 → ℕ)
    (inb' : ∀ a, off' a + S1x16x64x8x128.size a ≤ S2x16x64x8x128.size a) (ho' : off' = ![s.val, 0, 0, 0, 0])
    (K : Vec F S16x4x64x32x128 .f32) (fd : Vec F S2x16x64x8x128 .f32) :
    ∀ i ∈ (slotAt kbM off' inb').view.set,
      (slotAt kbM off' inb').view.write (Elt F) fd ((srcAt kM off inb).view.read (Elt F) K) Finset.univ i = slotOf K c qb i := by
  intro i hi
  obtain ⟨p, -, rfl⟩ := Finset.mem_map.mp hi
  rw [View.write_emb_of_mem _ _ (Finset.mem_univ _), View.read_apply, cast_cast, cast_eq, src_emb c qb off inb ho,
    slot_emb s off' inb' ho']
  rfl

/-- Where an element of one head of a slot lies. -/
theorem head_emb (off : Fin 5 → ℕ) (inb : ∀ a, off a + S1x16x64x1x128.size a ≤ S2x16x64x8x128.size a)
    (ho : off = ![s.val, 0, 0, h.val, 0]) (i : S1x16x64x1x128.Idx) :
    (kbM.access (Rect.unit (s := S2x16x64x8x128) off S1x16x64x1x128.size inb)).emb i = slIx s (i 1) (i 2) h (i 4) := by
  subst ho
  funext a
  apply Fin.ext
  show (![s.val, 0, 0, h.val, 0] : Fin 5 → ℕ) a + 1 * (i a).val = _
  match a with
  | 0 =>
    show s.val + 1 * (i 0).val = s.val
    have : (i 0).val < 1 := (i 0).isLt
    omega
  | 1 => show 0 + 1 * (i 1).val = (i 1).val; omega
  | 2 => show 0 + 1 * (i 2).val = (i 2).val; omega
  | 3 =>
    show h.val + 1 * (i 3).val = h.val
    have : (i 3).val < 1 := (i 3).isLt
    omega
  | 4 => show 0 + 1 * (i 4).val = (i 4).val; omega

/-- A head read out of a slot. -/
theorem head_read (off : Fin 5 → ℕ) (inb : ∀ a, off a + S1x16x64x1x128.size a ≤ S2x16x64x8x128.size a)
    (ho : off = ![s.val, 0, 0, h.val, 0]) (K : Vec F S16x4x64x32x128 .f32) :
    (kbM.access (Rect.unit (s := S2x16x64x8x128) off S1x16x64x1x128.size inb)).read (Elt F) (slotOf K c qb) = headOf K c qb h := by
  funext i
  rw [View.read_apply, cast_eq, head_emb s h off inb ho]
  rfl

/-- A head's elements lie in its slot. -/
theorem head_set (off : Fin 5 → ℕ) (inb : ∀ a, off a + S1x16x64x1x128.size a ≤ S2x16x64x8x128.size a)
    (ho : off = ![s.val, 0, 0, h.val, 0]) :
    ((kbM.access (Rect.unit (s := S2x16x64x8x128) off S1x16x64x1x128.size inb)).set : Finset S2x16x64x8x128.Idx) ⊆ slotSet s := by
  intro i hi
  obtain ⟨p, -, rfl⟩ := Finset.mem_map.mp hi
  simp only [slotSet, Finset.mem_filter, Finset.mem_univ, true_and]
  rw [head_emb s h off inb ho]
  rfl

end Geometry

/-! ## The context, block by block -/

/-- The context is right in the first `n` blocks, counted head by head within query block by query block. -/
def Agree (I : Inp F) (c : Dev nD) (n : ℕ) (f : Vec F S256x1024 .bf16) : Prop :=
  ∀ i : S256x1024.Idx, (i 0).val / 64 * 8 + (i 1).val / 128 < n → f i = ctxOf I c i

/-- Any contents are right in no block. -/
theorem agree_zero (I : Inp F) (c : Dev nD) (f : Vec F S256x1024 .bf16) : Agree I c 0 f :=
  fun i h => absurd h (Nat.not_lt_zero _)

/-- Contents right in all thirty-two blocks are the context. -/
theorem agree_all (I : Inp F) (c : Dev nD) (f : Vec F S256x1024 .bf16) (h : Agree I c 32 f) : f = ctxOf I c :=
  funext fun i => h i (by
    have h0 : (i 0).val < 256 := (i 0).isLt
    have h1 : (i 1).val < 1024 := (i 1).isLt
    omega)

/-- Storing a block makes one more right. -/
theorem agree_store (I : Inp F) (c : Dev nD) (qb : Fin 4) (h : Fin 8) (f : Vec F S256x1024 .bf16) (off : Fin 2 → ℕ)
    (inb : ∀ a, off a + S64x128.size a ≤ S256x1024.size a) (ho : off = ![64 * qb.val, 128 * h.val])
    (n : ℕ) (hn : n = qb.val * 8 + h.val) (hf : Agree I c n f) :
    Agree I c (n + 1) ((cM.access (Rect.unit (s := S256x1024) off S64x128.size inb)).write (Elt F) f (blk I c qb h) Finset.univ) := by
  subst ho hn
  have emb : ∀ (p : S64x128.Idx) (a : Fin 2),
      (((cM.access (Rect.unit (s := S256x1024) ![64 * qb.val, 128 * h.val] S64x128.size inb)).emb p : S256x1024.Idx) a).val
        = (![64 * qb.val + (p 0).val, 128 * h.val + (p 1).val] : Fin 2 → ℕ) a := by
    intro p a
    show (![64 * qb.val, 128 * h.val] : Fin 2 → ℕ) a + 1 * (p a).val = _
    match a with
    | 0 => show 64 * qb.val + 1 * (p 0).val = 64 * qb.val + (p 0).val; omega
    | 1 => show 128 * h.val + 1 * (p 1).val = 128 * h.val + (p 1).val; omega
  intro i hi
  by_cases hm : i ∈ (cM.access (Rect.unit (s := S256x1024) ![64 * qb.val, 128 * h.val] S64x128.size inb)).setOn Finset.univ
  · obtain ⟨p, -, rfl⟩ := Finset.mem_map.mp hm
    rw [View.write_emb_of_mem _ _ (Finset.mem_univ _), cast_eq]
    have h0 := emb p 0
    have h1 := emb p 1
    generalize (cM.access (Rect.unit (s := S256x1024) ![64 * qb.val, 128 * h.val] S64x128.size inb)).emb p = j at *
    replace h0 : (j 0).val = 64 * qb.val + (p 0).val := h0
    replace h1 : (j 1).val = 128 * h.val + (p 1).val := h1
    have p0 : (p 0).val < 64 := (p 0).isLt
    have p1 : (p 1).val < 128 := (p 1).isLt
    have e0 : rowBlk j = qb := Fin.ext (by show (j 0).val / 64 = _; omega)
    have e1 : colBlk j = h := Fin.ext (by show (j 1).val / 128 = _; omega)
    have e2 : inBlk j = p := by
      funext a
      apply Fin.ext
      match a with
      | 0 => show (j 0).val % 64 = (p 0).val; omega
      | 1 => show (j 1).val % 128 = (p 1).val; omega
    show blk I c qb h p = blk I c (rowBlk j) (colBlk j) (inBlk j)
    rw [e0, e1, e2]
  · rw [View.write_of_not_mem _ _ _ hm]
    by_cases hb : (i 0).val / 64 * 8 + (i 1).val / 128 < qb.val * 8 + h.val
    · exact hf i hb
    · exfalso
      apply hm
      have hh := h.isLt
      have hq := qb.isLt
      have i0 : (i 0).val < 256 := (i 0).isLt
      have i1 : (i 1).val < 1024 := (i 1).isLt
      have e : i = (cM.access (Rect.unit (s := S256x1024) ![64 * qb.val, 128 * h.val] S64x128.size inb)).emb (inBlk i) := by
        funext a
        apply Fin.ext
        rw [emb]
        match a with
        | 0 => show (i 0).val = 64 * qb.val + (i 0).val % 64; omega
        | 1 => show (i 1).val = 128 * h.val + (i 1).val % 128; omega
      rw [e, View.setOn_univ]
      exact View.emb_mem_set _ _

end Cert.KernelIdeal.Own

end
-- ==== Proof.Protocol.lean ====
/- The protocol of the exchange: the barrier both partners signal, the four cells of the double buffers' copies, the
   send and receive cells of the two remote copies; what each round of each cell hands to its owner; what each device
   owes at launch, and the order of the waits. -/
module

public import proofs.«01_k».proof.Proof.Contents
public import Idealize.ShloMosaic.Lib.Pipeline.RegionTalk
public import Idealize.ShloMosaic.Lib.Pipeline.Kit
public import Idealize.ShloMosaic.Lib.Tactic

@[expose] public section

set_option maxRecDepth 16384
set_option synthInstance.maxSize 4096

noncomputable section

namespace Cert.KernelIdeal.Own

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-- The exchange's own share of the ghost state: a cell's duties are named by the two truth values. -/
abbrev UB : Type := URounds (GSem nD τ sig) Bool
/-- With the staging buffers' share. -/
abbrev UU : Type := UR sig nD τ × UB

local notation "𝕄" => MT nD τ sig Unit (Elt F) ℕ UU ℕ

/-- The staging buffers' share, embedded. -/
abbrev EP : Emb (UR sig nD τ) (MT nD τ sig Unit (Elt F) ℕ UU ℕ) := embL
/-- The exchange's share, embedded. -/
abbrev ER : Emb UB (MT nD τ sig Unit (Elt F) ℕ UU ℕ) := embR

variable (I : Dev nD → Inp F)

/-! ## Cells and buffers -/

/-- A device's barrier. -/
abbrev barCell (c : Dev nD) : GSem nD τ sig := ((c : Thread nD τ), .reg barrier0)
/-- A device's `k`-th DMA semaphore. -/
abbrev dCell (c : Dev nD) (k : DmaSem sig) : GSem nD τ sig := ((c : Thread nD τ), .dma k)

/-- The scoped DMA semaphores of the kernel's own. -/
abbrev osem0 : Fin 8 → SemLoc sig := fun
  | 0 => .dma 4 | 1 => .dma 5 | 2 => .dma 6 | 3 => .dma 7 | 4 => .dma 8 | 5 => .dma 9 | 6 => .dma 10 | 7 => .dma 11

/-- What one remote copy counts. -/
abbrev NR : ℕ := (aM : Memref sig .tc .vmem S256x1024 .bf16).view.dmaCredit
/-- What one copy into a double buffer counts. -/
abbrev NK : ℕ := (slotAt kbM ![0, 0, 0, 0, 0] inb_S2x16x64x8x128_S1x16x64x8x128_0_0_0_0_0).view.dmaCredit
/-- A remote copy counts something. -/
theorem NR_pos : 0 < NR := View.dmaCredit_pos _ (by decide)
/-- A copy into a double buffer counts something. -/
theorem NK_pos : 0 < NK := View.dmaCredit_pos _ (by decide)

/-- A whole buffer of a device. -/
abbrev pt (c : Dev nD) (b : Ref sig .tc) (f : b.ty.Contents (Elt F)) : sProp 𝕄 := ((c : Thread nD τ).loc b) ↦{fullShare} f

/-- Where the first partner's partial output lands. -/
abbrev aPts (c : Dev nD) (f : Vec F S256x1024 .bf16) : sProp 𝕄 := pt c cc0_scratch5 f
/-- Where the second partner's sum lands. -/
abbrev bPts (c : Dev nD) (f : Vec F S256x1024 .bf16) : sProp 𝕄 := pt c cc0_scratch6 f
/-- The device's own partial output. -/
abbrev pPts (c : Dev nD) (f : Vec F S256x1024 .bf16) : sProp 𝕄 := pt c cc0_scratch3 f
/-- The sum of the first exchange. -/
abbrev sPts (c : Dev nD) (f : Vec F S256x1024 .bf16) : sProp 𝕄 := pt c cc0_scratch4 f
/-- Slot `s` of the keys' double buffer. -/
abbrev kbPts (c : Dev nD) (s : Fin 2) (f : Vec F S2x16x64x8x128 .f32) : sProp 𝕄 :=
  ((c : Thread nD τ).loc cc0_scratch0) ↦[slotSet s]{fullShare} f
/-- Slot `s` of the values' double buffer. -/
abbrev vbPts (c : Dev nD) (s : Fin 2) (f : Vec F S2x16x64x8x128 .f32) : sProp 𝕄 :=
  ((c : Thread nD τ).loc cc0_scratch1) ↦[slotSet s]{fullShare} f

/-- The share of the stored keys (or values) the copies into slot `s` read. -/
def half (s : Fin 2) : PosShare TreeShare := if s = 0 then (fullShare : PosShare TreeShare).left else (fullShare : PosShare TreeShare).right

/-- The window of the stored keys that fills slot `s` for query block `qb`. -/
abbrev kWin (c : Dev nD) (s : Fin 2) (qb : Fin 4) : sProp 𝕄 := ((c : Thread nD τ).loc main_v2) ↦[winSet c qb]{half s} (I c).k
/-- The window of the stored values that fills slot `s` for query block `qb`. -/
abbrev vWin (c : Dev nD) (s : Fin 2) (qb : Fin 4) : sProp 𝕄 := ((c : Thread nD τ).loc main_v3) ↦[winSet c qb]{half s} (I c).v
/-- The stored keys, in the share of slot `s`. -/
abbrev kHalf (c : Dev nD) (s : Fin 2) : sProp 𝕄 := ((c : Thread nD τ).loc main_v2) ↦{half s} (I c).k
/-- The stored values, in the share of slot `s`. -/
abbrev vHalf (c : Dev nD) (s : Fin 2) : sProp 𝕄 := ((c : Thread nD τ).loc main_v3) ↦{half s} (I c).v

/-! ## The schedule -/

/-- Paid to device `c`'s barrier by its first partner: where the partner's first sum is to land, and that the partner's
    first receive cell is open. -/
def barPayA (c : Dev nD) : sProp 𝕄 := iprop((∃ f, aPts (pa c) f) ∗ reached ER (dCell (pa c) 10) 0)
/-- The same of its second partner. -/
def barPayB (c : Dev nD) : sProp 𝕄 := iprop((∃ f, bPts (pb c) f) ∗ reached ER (dCell (pb c) 11) 0)
/-- A slot filled for query block `qb`, and the window it was filled from. -/
def kPay (c : Dev nD) (s : Fin 2) (qb : Fin 4) : sProp 𝕄 := iprop(kbPts c s (slotOf (I c).k c qb) ∗ kWin I c s qb)
/-- The same of the values. -/
def vPay (c : Dev nD) (s : Fin 2) (qb : Fin 4) : sProp 𝕄 := iprop(vbPts c s (slotOf (I c).v c qb) ∗ vWin I c s qb)
/-- The source of the first remote copy back. -/
def sendPayA (c : Dev nD) : sProp 𝕄 := pPts c (pOf I c)
/-- The source of the second remote copy back. -/
def sendPayB (c : Dev nD) : sProp 𝕄 := sPts c (sOf I c)
/-- What the first remote copy brings. -/
def recvPayA (c : Dev nD) : sProp 𝕄 := aPts c (pOf I (pa c))
/-- What the second remote copy brings. -/
def recvPayB (c : Dev nD) : sProp 𝕄 := bPts c (sOf I (pb c))

/-- The duties of a cell's round. -/
def duty : SemLoc sig → ℕ → Finset Bool
  | .reg _, r => if r = 0 then {false, true} else ∅
  | .dma k, r => if 4 ≤ k.val then (if r = 0 then {false} else if r = 1 ∧ k.val < 8 then {false} else ∅) else ∅

/-- What a duty pays. -/
def pay (c : Dev nD) : SemLoc sig → ℕ → Bool → sProp 𝕄
  | .reg _, _, d => if d = false then barPayA c else barPayB c
  | .dma k, r, _ =>
    if k.val = 4 then kPay I c 0 (if r = 0 then 0 else 2)
    else if k.val = 5 then vPay I c 0 (if r = 0 then 0 else 2)
    else if k.val = 6 then kPay I c 1 (if r = 0 then 1 else 3)
    else if k.val = 7 then vPay I c 1 (if r = 0 then 1 else 3)
    else if k.val = 8 then sendPayA I c
    else if k.val = 9 then sendPayB I c
    else if k.val = 10 then recvPayA I c
    else recvPayB I c

/-- What a duty counts. -/
def amt : SemLoc sig → ℕ
  | .reg _ => 1
  | .dma k => if k.val < 8 then NK else NR

/-- The schedule: each cell's rounds, their duties, what each counts and what it pays. -/
def Rd : Rounds.Schedule (GSem nD τ sig) Bool 𝕄 where
  duties g r := duty g.2 r
  unitless _ := False
  amount g _ _ := amt g.2
  payload g r d := pay I g.1.1 g.2 r d
  amount_pos g r d h := by
    unfold amt
    cases g.2 with
    | reg s => exact Nat.one_pos
    | dma k =>
      by_cases h : k.val < 8
      · simp only [if_pos h]; exact NK_pos
      · simp only [if_neg h]; exact NR_pos

/-- What a duty pays can be kept in an invariant. -/
instance Rd_payload_storable (g : GSem nD τ sig) (r : ℕ) (d : Bool) :
    BI.Storable (upEmb : UEmb _ 𝕄) ((Rd (F := F) I).payload g r d) := by
  show BI.Storable upEmb (pay I g.1.1 g.2 r d)
  cases g.2 with
  | reg s =>
    show BI.Storable upEmb (if d = false then barPayA g.1.1 else barPayB g.1.1)
    unfold barPayA barPayB
    split <;> infer_instance
  | dma k =>
    show BI.Storable upEmb (if k.val = 4 then kPay I g.1.1 0 (if r = 0 then 0 else 2)
      else if k.val = 5 then vPay I g.1.1 0 (if r = 0 then 0 else 2)
      else if k.val = 6 then kPay I g.1.1 1 (if r = 0 then 1 else 3)
      else if k.val = 7 then vPay I g.1.1 1 (if r = 0 then 1 else 3)
      else if k.val = 8 then sendPayA I g.1.1
      else if k.val = 9 then sendPayB I g.1.1
      else if k.val = 10 then recvPayA I g.1.1
      else recvPayB I g.1.1)
    unfold kPay vPay sendPayA sendPayB recvPayA recvPayB
    (repeat' split) <;> infer_instance

section Sched

variable (c : Dev nD)

/-- The barrier's one round has two duties. -/
theorem duties_bar : (Rd (F := F) I).duties (barCell c) 0 = {false, true} := rfl
/-- The duties of a DMA semaphore's round. -/
theorem duties_dma (k : DmaSem sig) (r : ℕ) : (Rd (F := F) I).duties (dCell c k) r
    = if 4 ≤ k.val then (if r = 0 then {false} else if r = 1 ∧ k.val < 8 then {false} else ∅) else ∅ := rfl
/-- A double buffer's semaphore has one duty in each of its two rounds. -/
theorem duties_kv (k : DmaSem sig) (h4 : 4 ≤ k.val) (h8 : k.val < 8) (r : ℕ) (hr : r < 2) :
    (Rd (F := F) I).duties (dCell c k) r = {false} := by
  rw [duties_dma]
  by_cases h : r = 0
  · rw [if_pos h4, if_pos h]
  · rw [if_pos h4, if_neg h, if_pos ⟨by omega, h8⟩]
/-- A remote copy's semaphore has one duty in its one round. -/
theorem duties_x (k : DmaSem sig) (h8 : 8 ≤ k.val) : (Rd (F := F) I).duties (dCell c k) 0 = {false} := by
  rw [duties_dma]
  rw [if_pos (by omega), if_pos rfl]
/-- The barrier has no later round. -/
theorem duties_late_bar : ∀ r, 1 ≤ r → (Rd (F := F) I).duties (barCell c) r = ∅ :=
  fun r hr => if_neg (by omega)
/-- No DMA semaphore has a third round. -/
theorem duties_late_kv (k : DmaSem sig) : ∀ r, 2 ≤ r → (Rd (F := F) I).duties (dCell c k) r = ∅ := fun r hr => by
  rw [duties_dma]
  by_cases h4 : 4 ≤ k.val
  · rw [if_pos h4, if_neg (by omega), if_neg (by omega)]
  · rw [if_neg h4]
/-- A remote copy's semaphore has no second round. -/
theorem duties_late_x (k : DmaSem sig) (h8 : 8 ≤ k.val) : ∀ r, 1 ≤ r → (Rd (F := F) I).duties (dCell c k) r = ∅ := fun r hr => by
  rw [duties_dma]
  rw [if_pos (by omega), if_neg (by omega), if_neg (by omega)]

/-- A signal of the barrier counts one. -/
theorem amount_bar (r : ℕ) (d : Bool) : (Rd (F := F) I).amount (barCell c) r d = 1 := rfl
/-- What a duty of a double buffer's semaphore counts. -/
theorem amount_kv (k : DmaSem sig) (h8 : k.val < 8) (r : ℕ) (d : Bool) : (Rd (F := F) I).amount (dCell c k) r d = NK := if_pos h8
/-- What a duty of a remote copy's semaphore counts. -/
theorem amount_x (k : DmaSem sig) (h8 : 8 ≤ k.val) (r : ℕ) (d : Bool) : (Rd (F := F) I).amount (dCell c k) r d = NR :=
  if_neg (by omega)

/-- The barrier's round counts two. -/
theorem expect_bar : (Rd (F := F) I).expect (barCell c) 0 = 2 := by
  unfold Schedule.expect Schedule.amountOf; rw [duties_bar]; rfl
/-- What a round of a double buffer's semaphore counts. -/
theorem expect_kv (k : DmaSem sig) (h4 : 4 ≤ k.val) (h8 : k.val < 8) (r : ℕ) (hr : r < 2) :
    (Rd (F := F) I).expect (dCell c k) r = NK := by
  unfold Schedule.expect Schedule.amountOf; rw [duties_kv I c k h4 h8 r hr, Finset.sum_singleton, amount_kv I c k h8]
/-- What a round of a remote copy's semaphore counts. -/
theorem expect_x (k : DmaSem sig) (h8 : 8 ≤ k.val) : (Rd (F := F) I).expect (dCell c k) 0 = NR := by
  unfold Schedule.expect Schedule.amountOf; rw [duties_x I c k h8, Finset.sum_singleton, amount_x I c k h8]

/-- The barrier's round pays both partners' landing buffers. -/
theorem rest_bar : bigSep ((Rd (F := F) I).duties (barCell c) 0 \ ∅) (fun d => (Rd (F := F) I).payload (barCell c) 0 d)
    = iprop(barPayA c ∗ barPayB c) := by
  rw [Finset.sdiff_empty, duties_bar]
  rw [show ({false, true} : Finset Bool) = insert false {true} from rfl, bigSep_insert (by decide), bigSep_singleton]
  rfl
/-- What a round of a double buffer's semaphore pays. -/
theorem rest_kv (k : DmaSem sig) (h4 : 4 ≤ k.val) (h8 : k.val < 8) (r : ℕ) (hr : r < 2) :
    bigSep ((Rd (F := F) I).duties (dCell c k) r \ ∅) (fun d => (Rd (F := F) I).payload (dCell c k) r d)
    = pay I c (.dma k) r false := by
  rw [Finset.sdiff_empty, duties_kv I c k h4 h8 r hr, bigSep_singleton]; rfl
/-- What the round of a remote copy's semaphore pays. -/
theorem rest_x (k : DmaSem sig) (h8 : 8 ≤ k.val) :
    bigSep ((Rd (F := F) I).duties (dCell c k) 0 \ ∅) (fun d => (Rd (F := F) I).payload (dCell c k) 0 d)
    = pay I c (.dma k) 0 false := by
  rw [Finset.sdiff_empty, duties_x I c k h8, bigSep_singleton]; rfl

end Sched

/-! ## What each device owes at launch; the order of the waits -/

/-- The two landings it owes its partners. -/
def OR (c : Dev nD) : CellTallies nD τ sig Unit := tallyAt (dCell (pb c) 11) () NR + tallyAt (dCell (pa c) 10) () NR
/-- With the two barrier units. -/
def O₀ (c : Dev nD) : CellTallies nD τ sig Unit := OR c + tallyAt (barCell (pa c)) () 1 + tallyAt (barCell (pb c)) () 1

/-- Every TensorCore's semaphores are ordered; no other's are used. -/
def L (g : GSem nD τ sig) : Finset Unit := if g.1.2 = .tc then {()} else ∅
/-- Barriers at 1, the first landing at 2, the second at 3, the rest at 0. -/
def lvs (sm : SemLoc sig) : ℕ :=
  if sm = .reg barrier0 then 1 else if sm = .dma 10 then 2 else if sm = .dma 11 then 3 else 0
/-- A cell's place in the order. -/
def lv (g : GSem nD τ sig) (_ : Unit) : ℕ := lvs g.2

/-- No other core's semaphores are ordered. -/
theorem L_of_ne (g : GSem nD τ sig) (h : g.1.2 ≠ .tc) : L g = ∅ := if_neg h
/-- A TensorCore's semaphores are. -/
theorem L_tc (c : Dev nD) (sm : SemLoc sig) : L ((c : Thread nD τ), sm) = {()} := if_pos rfl

/-- A wait below what a single cell at level `n` is owed. -/
theorem below (c : Dev nD) (sm : SemLoc sig) (O : CellTallies nD τ sig Unit) (n : ℕ)
    (hs : lv ((c : Thread nD τ), sm) () ≤ n)
    (hO : ∀ g u, 0 < O g u → g.1.2 = .tc ∧ n < lv g u) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by rw [L, if_pos (hO g u hg).1]; exact Finset.mem_singleton_self _)
    (fun p hp => by rw [Finset.mem_singleton.mp hp]; exact hs)
    (fun g u hg => (hO g u hg).2)

/-- The two landings lie above the barrier. -/
theorem OR_pos (c : Dev nD) (g : GSem nD τ sig) (u : Unit) (h : 0 < OR c g u) : g.1.2 = .tc ∧ 1 < lv g u := by
  unfold OR at h
  rw [show (tallyAt (dCell (pb c) 11) () NR + tallyAt (dCell (pa c) 10) () NR : CellTallies nD τ sig Unit) g u
    = tallyAt (dCell (pb c) 11) () NR g u + tallyAt (dCell (pa c) 10) () NR g u from rfl, tallyAt_apply, tallyAt_apply] at h
  by_cases h1 : g = dCell (pb c) 11 ∧ u = ()
  · rw [h1.1]; exact ⟨rfl, show 1 < lvs (.dma 11) by decide⟩
  · by_cases h2 : g = dCell (pa c) 10 ∧ u = ()
    · rw [h2.1]; exact ⟨rfl, show 1 < lvs (.dma 10) by decide⟩
    · rw [if_neg h1, if_neg h2] at h; exact absurd h (Nat.lt_irrefl 0)

/-- The second landing lies above the first. -/
theorem OB_pos (c : Dev nD) (g : GSem nD τ sig) (u : Unit) (h : 0 < tallyAt (dCell (pb c) 11) () NR g u) :
    g.1.2 = .tc ∧ 2 < lv g u := by
  rw [tallyAt_apply] at h
  by_cases h1 : g = dCell (pb c) 11 ∧ u = ()
  · rw [h1.1]; exact ⟨rfl, show 2 < lvs (.dma 11) by decide⟩
  · rw [if_neg h1] at h; exact absurd h (Nat.lt_irrefl 0)

end Cert.KernelIdeal.Own

end
-- ==== Proof.Steps.lean ====
/- The memory operations of the kernel's body, each as one rule: filling a slot of a double buffer, waiting for it, reading
   a head from it, and storing a block of the context. -/
module

public import proofs.«01_k».proof.Proof.Protocol

@[expose] public section

set_option maxRecDepth 16384
set_option synthInstance.maxSize 4096

noncomputable section

namespace Cert.KernelIdeal.Own

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ
/-- No loop needs a variant. -/
abbrev 𝒱₀ : Variants := Variants.none

/-- What a device's body proves of a program. -/
abbrev WP (c : Dev nD) {α : Type} (p : Prog (TpuEff nD τ sig (Elt F) Λ₀ .tc) α) (Q : α → sProp 𝕄) : sProp 𝕄 :=
  wp frame (wpE (defs₀ (F := F)) 𝒱₀ c none) Set.univ p Q

/-- A program that returns at once. -/
theorem WP_ret (c : Dev nD) {α : Type} {a : α} {Q : α → sProp (MT nD τ sig Unit (Elt F) ℕ UU ℕ)} : Q a ⊢ WP c (.ret a) Q := by
  show _ ⊢ wp _ _ _ _ _
  rw [wp_ret]
  iintro H; imodintro; iexact H

/-- A program followed by another. -/
theorem WP_bind (c : Dev nD) {α β : Type} {p : Prog (TpuEff nD τ sig (Elt F) Λ₀ .tc) α}
    {k : α → Prog (TpuEff nD τ sig (Elt F) Λ₀ .tc) β} {Q : β → sProp (MT nD τ sig Unit (Elt F) ℕ UU ℕ)} :
    WP c p (fun a => WP c (k a) Q) ⊢ WP c (p >>= k) Q := by
  show _ ⊢ wp _ _ _ _ _
  rw [wp_bind]

variable (I : Dev nD → Inp F) (c : Dev nD)

/-- The context, right in its first `n` blocks. -/
def cAg (n : ℕ) : sProp 𝕄 := iprop(∃ f, ⌜Agree (I c) c n f⌝ ∗ pt c cc0_scratch2 f)

/-- A filled slot of each double buffer, and the context right in its first `n` blocks. -/
def hold (s : Fin 2) (qb : Fin 4) (n : ℕ) : sProp 𝕄 :=
  iprop(kbPts c s (slotOf (I c).k c qb) ∗ vbPts c s (slotOf (I c).v c qb) ∗ cAg I c n)

section Heads

variable {α : Type} {Q : α → sProp (MT nD τ sig Unit (Elt F) ℕ UU ℕ)} (s : Fin 2) (qb : Fin 4) (h : Fin 8) (n : ℕ)

/-- Reading head `h` of the keys. -/
theorem ldK (off : Fin 5 → ℕ) (inb : ∀ a, off a + S1x16x64x1x128.size a ≤ S2x16x64x8x128.size a)
    (ho : off = ![s.val, 0, 0, h.val, 0])
    {hl : kbM.view.LoadsAt (Rect.unit (s := S2x16x64x8x128) off S1x16x64x1x128.size inb).toLoadRect}
    {k : Vec F S1x16x64x1x128 .f32 → Prog (TpuEff nD τ sig (Elt F) Λ₀ .tc) α} :
    hold I c s qb n ⊢ iprop((hold I c s qb n -∗ WP c (k (headOf (I c).k c qb h)) Q)
      -∗ WP c (.op (.load kbM (Rect.unit (s := S2x16x64x8x128) off S1x16x64x1x128.size inb).toLoadRect hl) k) Q) := by
  unfold hold
  iintro ⟨HK, HV, HC⟩ Hk
  iapply (wp_load_rect 𝒱₀ (c : Thread nD τ) none Set.univ (m := kbM)
    (r := Rect.unit (s := S2x16x64x8x128) off S1x16x64x1x128.size inb) (head_set s h off inb ho)) $$ [HK]
  · iexact HK
  rw [head_read c s qb h off inb ho (I c).k]
  iintro HK
  iapply Hk
  isplitl [HK]; · iexact HK
  isplitl [HV]; · iexact HV
  iexact HC

/-- Reading head `h` of the values. -/
theorem ldV (off : Fin 5 → ℕ) (inb : ∀ a, off a + S1x16x64x1x128.size a ≤ S2x16x64x8x128.size a)
    (ho : off = ![s.val, 0, 0, h.val, 0])
    {hl : vbM.view.LoadsAt (Rect.unit (s := S2x16x64x8x128) off S1x16x64x1x128.size inb).toLoadRect}
    {k : Vec F S1x16x64x1x128 .f32 → Prog (TpuEff nD τ sig (Elt F) Λ₀ .tc) α} :
    hold I c s qb n ⊢ iprop((hold I c s qb n -∗ WP c (k (headOf (I c).v c qb h)) Q)
      -∗ WP c (.op (.load vbM (Rect.unit (s := S2x16x64x8x128) off S1x16x64x1x128.size inb).toLoadRect hl) k) Q) := by
  have hr : (vbM.access (Rect.unit (s := S2x16x64x8x128) off S1x16x64x1x128.size inb)).read (Elt F) (slotOf (I c).v c qb)
      = headOf (I c).v c qb h := head_read c s qb h off inb ho (I c).v
  unfold hold
  iintro ⟨HK, HV, HC⟩ Hk
  iapply (wp_load_rect 𝒱₀ (c : Thread nD τ) none Set.univ (m := vbM)
    (r := Rect.unit (s := S2x16x64x8x128) off S1x16x64x1x128.size inb) (head_set s h off inb ho)) $$ [HV]
  · iexact HV
  rw [hr]
  iintro HV
  iapply Hk
  isplitl [HK]; · iexact HK
  isplitl [HV]; · iexact HV
  iexact HC

/-- Reading a block of the context, to no use. -/
theorem ldC (off : Fin 2 → ℕ) (inb : ∀ a, off a + S64x128.size a ≤ S256x1024.size a)
    {hl : cM.view.LoadsAt (Rect.unit (s := S256x1024) off S64x128.size inb).toLoadRect}
    {p : Prog (TpuEff nD τ sig (Elt F) Λ₀ .tc) α} :
    hold I c s qb n ⊢ iprop((hold I c s qb n -∗ WP c p Q)
      -∗ WP c (.op (.load cM (Rect.unit (s := S256x1024) off S64x128.size inb).toLoadRect hl) fun _ => p) Q) := by
  unfold hold cAg
  iintro ⟨HK, HV, %f, %hf, HC⟩ Hk
  iapply (wp_load_rect 𝒱₀ (c : Thread nD τ) none Set.univ (m := cM)
    (r := Rect.unit (s := S256x1024) off S64x128.size inb) (Finset.subset_univ _)) $$ [HC]
  · iexact HC
  iintro HC
  iapply Hk
  isplitl [HK]; · iexact HK
  isplitl [HV]; · iexact HV
  iexists f
  isplitr; · ipureintro; exact hf
  iexact HC

/-- Storing a block of the context. -/
theorem stC (off : Fin 2 → ℕ) (inb : ∀ a, off a + S64x128.size a ≤ S256x1024.size a)
    (ho : off = ![64 * qb.val, 128 * h.val]) (hn : n = qb.val * 8 + h.val) {w : FVec F S64x128 .bf16}
    (hw : w = blk (I c) c qb h)
    {hx : (cM.access (Rect.unit (s := S256x1024) off S64x128.size inb)).Stores Finset.univ}
    {hm : (Finset.univ : Finset S64x128.Idx) = Finset.univ ∨ ∀ a, (Rect.unit (s := S256x1024) off S64x128.size inb).stride a = 1}
    {k : PUnit → Prog (TpuEff nD τ sig (Elt F) Λ₀ .tc) α} :
    hold I c s qb n ⊢ iprop((hold I c s qb (n + 1) -∗ WP c (k ⟨⟩) Q)
      -∗ WP c (.op (.store cM (Rect.unit (s := S256x1024) off S64x128.size inb) w Finset.univ hx hm) k) Q) := by
  subst hw
  unfold hold cAg
  iintro ⟨HK, HV, %f, %hf, HC⟩ Hk
  iapply (wp_store 𝒱₀ (c : Thread nD τ) none Set.univ (m := cM)
    (r := Rect.unit (s := S256x1024) off S64x128.size inb) (Finset.subset_univ _)) $$ [HC]
  · iexact HC
  iintro HC
  iapply Hk
  isplitl [HK]; · iexact HK
  isplitl [HV]; · iexact HV
  iexists _
  isplitr; · ipureintro; exact agree_store (I c) c qb h f off inb ho n hn hf
  iexact HC

end Heads

/-! ## The copies into the double buffers -/

/-- What is left of the stored keys (or values) while a window is being copied. -/
abbrev kOut (s : Fin 2) (qb : Fin 4) : sProp 𝕄 :=
  ((c : Thread nD τ).loc main_v2) ↦[Finset.univ \ winSet c qb]{half s} (I c).k
/-- The same of the values. -/
abbrev vOut (s : Fin 2) (qb : Fin 4) : sProp 𝕄 :=
  ((c : Thread nD τ).loc main_v3) ↦[Finset.univ \ winSet c qb]{half s} (I c).v

section Copies

variable {α : Type} {Q : α → sProp (MT nD τ sig Unit (Elt F) ℕ UU ℕ)} (s : Fin 2) (qb : Fin 4) (r : ℕ) (kk : DmaSem sig)

/-- Starting the copy of query block `qb`'s keys into slot `s`. -/
theorem fillK {κ : ℕ} (hr : r < 2) (h4 : 4 ≤ kk.val) (h8 : kk.val < 8) (hp : pay I c (.dma kk) r false = kPay I c s qb)
    (off : Fin 5 → ℕ) (inb : ∀ a, off a + S16x1x64x8x128.size a ≤ S16x4x64x32x128.size a)
    (ho : off = ![0, qb.val, 0, 8 * c.val, 0]) (off' : Fin 5 → ℕ)
    (inb' : ∀ a, off' a + S1x16x64x8x128.size a ≤ S2x16x64x8x128.size a) (ho' : off' = ![s.val, 0, 0, 0, 0])
    {hsrc : (srcAt kM off inb).view.WordExact} {hdst : (slotAt kbM off' inb').view.WordExact}
    {hsem : DmaTarget.Typed (nD := nD) .hbm (.dma kk) (.here (p := (.tc : Proc τ)) (slotAt kbM off' inb'))}
    {k : PUnit → Prog (TpuEff nD τ sig (Elt F) Λ₀ .tc) α} :
    iprop(cellInv ER (Rd I) κ (dCell c kk) ∗ kHalf I c s ∗ (∃ f, kbPts c s f) ∗ dutyTok ER (dCell c kk) r false
        ∗ reached ER (dCell c kk) r)
      ⊢ iprop(((cred (tallyAt (dCell c kk) () NK) ∗ kOut I c s qb) -∗ WP c (k ⟨⟩) Q)
        -∗ WP c (.op (.enqueueDma (srcAt kM off inb) (.here (slotAt kbM off' inb')) (.dma kk) hsrc hdst hsem) k) Q) := by
  have e1 : (srcAt kM off inb).view.set = winSet c qb := src_set c qb off inb ho
  have e2 : (slotAt kbM off' inb').view.set = slotSet s := slot_set s off' inb' ho'
  iintro ⟨#HI, HS, ⟨%f, HD⟩, Ht, #Hr⟩ Hk
  ihave HS := (Entails.of_eq rfl : kHalf I c s ⊢ ((c : Thread nD τ).loc main_v2) ↦[Finset.univ]{half s} (I c).k) $$ HS
  ihave HS := (pointsTo_split_subset (Finset.subset_univ (winSet c qb))) $$ HS
  icases HS with ⟨HW, HR⟩
  iapply (Rounds.wp_copy_pointsTo 𝒱₀ ER (Rd I) (c : Thread nD τ) none (src := srcAt kM off inb) (dst := slotAt kbM off' inb')
      (hsrc := hsrc) (hdst := hdst) (hsem := hsem) (sem := .dma kk) (q := half s) (fs := (I c).k) (fd := f) (r := r) (d := false) (κ := κ)
      (by rw [duties_kv I c kk h4 h8 r hr]; exact Finset.mem_singleton_self _) () NK rfl (amount_kv I c kk h8 r false)
      (by
        rw [show (Rd I).payload (dCell c kk) r false = kPay I c s qb from hp, e1, e2]
        unfold kPay
        rw [pointsTo_congr (fun i hi => copied c s qb off inb ho off' inb' ho' (I c).k f i (by rw [e2]; exact hi))]))
    $$ [HW HD Ht]
  · isplitr; · iexact HI
    isplitl [HW]; · rw [e1]; iexact HW
    isplitl [HD]; · rw [e2]; iexact HD
    isplitl [Ht]; · iexact Ht
    iexact Hr
  iintro Hc
  iapply Hk
  isplitl [Hc]; · iexact Hc
  iexact HR

/-- Waiting for it, while the two landings are owed. -/
theorem awaitK {κ : ℕ} (W : Waits sig Unit) (hr : r < 2) (h4 : 4 ≤ kk.val) (h8 : kk.val < 8)
    (hp : pay I c (.dma kk) r false = kPay I c s qb) (src : Memref sig .tc .hbm S16x64x8x128 .f32)
    (off' : Fin 5 → ℕ) (inb' : ∀ a, off' a + S1x16x64x8x128.size a ≤ S2x16x64x8x128.size a)
    {hsrc : src.view.WordExact} {hdst : (slotAt kbM off' inb').view.WordExact}
    {k : PUnit → Prog (TpuEff nD τ sig (Elt F) Λ₀ .tc) α} :
    iprop(cellInv ER (Rd I) κ (dCell c kk) ∗ levAts L lv ∗ cred (tallyAt (dCell c kk) () NK)
        ∗ owes (c : Thread nD τ) (OR c) W ∗ atPos ER (dCell c kk) r ∅ 0 ∗ kOut I c s qb)
      ⊢ iprop(((∃ W', owes (c : Thread nD τ) (OR c) W') ∗ atPos ER (dCell c kk) (r + 1) ∅ 0 ∗ reached ER (dCell c kk) (r + 1)
            ∗ kbPts c s (slotOf (I c).k c qb) ∗ kHalf I c s -∗ WP c (k ⟨⟩) Q)
        -∗ WP c (.op (.waitDma2 kk src (slotAt kbM off' inb') hsrc hdst) k) Q) := by
  iintro ⟨#HI, #Hlev, Hc, HO, Hat, HR⟩ Hk
  iapply (Rounds.wp_wait_rest_token 𝒱₀ ER (Rd I) (c : Thread nD τ) none (κ := κ)
      (wpE_waitDma2_eq (src := src) (dst := slotAt kbM off' inb') (hsrc := hsrc) (hdst := hdst) 𝒱₀ (c : Thread nD τ) none Set.univ)
      (Set.mem_univ _) () (O := OR c) (W := W) (R := r) (m := 0) (T := ∅)
      ((Nat.zero_add _).trans (expect_kv I c kk h4 h8 r hr).symm)) $$ [Hc HO Hat]
  · isplitr; · iexact HI
    isplitl [Hc]; · iexact Hc
    isplitl [HO]; · iexact HO
    isplitr
    · iapply (below c (.dma kk) (OR c) 1 (by
        show lvs (.dma kk) ≤ 1
        unfold lvs
        rw [if_neg (by simp), if_neg (by intro h; injection h with h; rw [h] at h8; exact absurd h8 (by decide)),
          if_neg (by intro h; injection h with h; rw [h] at h8; exact absurd h8 (by decide))]
        exact Nat.zero_le _) (OR_pos c))
      iexact Hlev
    iexact Hat
  iintro ⟨HO, Hat, Hr, Hp⟩
  ihave Hp := (Entails.of_eq ((rest_kv I c kk h4 h8 r hr).trans hp)) $$ Hp
  unfold kPay
  icases Hp with ⟨HD, HW⟩
  have hj : iprop(kWin I c s qb ∗ kOut I c s qb) ⊢ kHalf I c s := (pointsTo_split_subset (Finset.subset_univ _)).2
  ihave HS := hj $$ [HW HR]
  · isplitl [HW]; · iexact HW
    iexact HR
  iapply Hk
  isplitl [HO]; · iexists _; iexact HO
  isplitl [Hat]; · iexact Hat
  isplitl [Hr]; · iexact Hr
  isplitl [HD]; · iexact HD
  iexact HS

/-- Starting the copy of query block `qb`'s values into slot `s`. -/
theorem fillV {κ : ℕ} (hr : r < 2) (h4 : 4 ≤ kk.val) (h8 : kk.val < 8) (hp : pay I c (.dma kk) r false = vPay I c s qb)
    (off : Fin 5 → ℕ) (inb : ∀ a, off a + S16x1x64x8x128.size a ≤ S16x4x64x32x128.size a)
    (ho : off = ![0, qb.val, 0, 8 * c.val, 0]) (off' : Fin 5 → ℕ)
    (inb' : ∀ a, off' a + S1x16x64x8x128.size a ≤ S2x16x64x8x128.size a) (ho' : off' = ![s.val, 0, 0, 0, 0])
    {hsrc : (srcAt vM off inb).view.WordExact} {hdst : (slotAt vbM off' inb').view.WordExact}
    {hsem : DmaTarget.Typed (nD := nD) .hbm (.dma kk) (.here (p := (.tc : Proc τ)) (slotAt vbM off' inb'))}
    {k : PUnit → Prog (TpuEff nD τ sig (Elt F) Λ₀ .tc) α} :
    iprop(cellInv ER (Rd I) κ (dCell c kk) ∗ vHalf I c s ∗ (∃ f, vbPts c s f) ∗ dutyTok ER (dCell c kk) r false
        ∗ reached ER (dCell c kk) r)
      ⊢ iprop(((cred (tallyAt (dCell c kk) () NK) ∗ vOut I c s qb) -∗ WP c (k ⟨⟩) Q)
        -∗ WP c (.op (.enqueueDma (srcAt vM off inb) (.here (slotAt vbM off' inb')) (.dma kk) hsrc hdst hsem) k) Q) := by
  have e1 : (srcAt vM off inb).view.set = winSet c qb := src_set c qb off inb ho
  have e2 : (slotAt vbM off' inb').view.set = slotSet s := slot_set s off' inb' ho'
  have hcp : ∀ f, ∀ i ∈ (slotAt vbM off' inb').view.set,
      (slotAt vbM off' inb').view.write (Elt F) f ((srcAt vM off inb).view.read (Elt F) (I c).v) Finset.univ i = slotOf (I c).v c qb i :=
    fun f i hi => copied c s qb off inb ho off' inb' ho' (I c).v f i hi
  iintro ⟨#HI, HS, ⟨%f, HD⟩, Ht, #Hr⟩ Hk
  ihave HS := (Entails.of_eq rfl : vHalf I c s ⊢ ((c : Thread nD τ).loc main_v3) ↦[Finset.univ]{half s} (I c).v) $$ HS
  ihave HS := (pointsTo_split_subset (Finset.subset_univ (winSet c qb))) $$ HS
  icases HS with ⟨HW, HR⟩
  iapply (Rounds.wp_copy_pointsTo 𝒱₀ ER (Rd I) (c : Thread nD τ) none (src := srcAt vM off inb) (dst := slotAt vbM off' inb')
      (hsrc := hsrc) (hdst := hdst) (hsem := hsem) (sem := .dma kk) (q := half s) (fs := (I c).v) (fd := f) (r := r) (d := false) (κ := κ)
      (by rw [duties_kv I c kk h4 h8 r hr]; exact Finset.mem_singleton_self _) () NK rfl (amount_kv I c kk h8 r false)
      (by
        rw [show (Rd I).payload (dCell c kk) r false = vPay I c s qb from hp, e1, e2]
        unfold vPay
        rw [pointsTo_congr (fun i hi => hcp f i (by rw [e2]; exact hi))]))
    $$ [HW HD Ht]
  · isplitr; · iexact HI
    isplitl [HW]; · rw [e1]; iexact HW
    isplitl [HD]; · rw [e2]; iexact HD
    isplitl [Ht]; · iexact Ht
    iexact Hr
  iintro Hc
  iapply Hk
  isplitl [Hc]; · iexact Hc
  iexact HR

/-- Waiting for it, while the two landings are owed. -/
theorem awaitV {κ : ℕ} (W : Waits sig Unit) (hr : r < 2) (h4 : 4 ≤ kk.val) (h8 : kk.val < 8)
    (hp : pay I c (.dma kk) r false = vPay I c s qb) (src : Memref sig .tc .hbm S16x64x8x128 .f32)
    (off' : Fin 5 → ℕ) (inb' : ∀ a, off' a + S1x16x64x8x128.size a ≤ S2x16x64x8x128.size a)
    {hsrc : src.view.WordExact} {hdst : (slotAt vbM off' inb').view.WordExact}
    {k : PUnit → Prog (TpuEff nD τ sig (Elt F) Λ₀ .tc) α} :
    iprop(cellInv ER (Rd I) κ (dCell c kk) ∗ levAts L lv ∗ cred (tallyAt (dCell c kk) () NK)
        ∗ owes (c : Thread nD τ) (OR c) W ∗ atPos ER (dCell c kk) r ∅ 0 ∗ vOut I c s qb)
      ⊢ iprop(((∃ W', owes (c : Thread nD τ) (OR c) W') ∗ atPos ER (dCell c kk) (r + 1) ∅ 0 ∗ reached ER (dCell c kk) (r + 1)
            ∗ vbPts c s (slotOf (I c).v c qb) ∗ vHalf I c s -∗ WP c (k ⟨⟩) Q)
        -∗ WP c (.op (.waitDma2 kk src (slotAt vbM off' inb') hsrc hdst) k) Q) := by
  iintro ⟨#HI, #Hlev, Hc, HO, Hat, HR⟩ Hk
  iapply (Rounds.wp_wait_rest_token 𝒱₀ ER (Rd I) (c : Thread nD τ) none (κ := κ)
      (wpE_waitDma2_eq (src := src) (dst := slotAt vbM off' inb') (hsrc := hsrc) (hdst := hdst) 𝒱₀ (c : Thread nD τ) none Set.univ)
      (Set.mem_univ _) () (O := OR c) (W := W) (R := r) (m := 0) (T := ∅)
      ((Nat.zero_add _).trans (expect_kv I c kk h4 h8 r hr).symm)) $$ [Hc HO Hat]
  · isplitr; · iexact HI
    isplitl [Hc]; · iexact Hc
    isplitl [HO]; · iexact HO
    isplitr
    · iapply (below c (.dma kk) (OR c) 1 (by
        show lvs (.dma kk) ≤ 1
        unfold lvs
        rw [if_neg (by simp), if_neg (by intro h; injection h with h; rw [h] at h8; exact absurd h8 (by decide)),
          if_neg (by intro h; injection h with h; rw [h] at h8; exact absurd h8 (by decide))]
        exact Nat.zero_le _) (OR_pos c))
      iexact Hlev
    iexact Hat
  iintro ⟨HO, Hat, Hr, Hp⟩
  ihave Hp := (Entails.of_eq ((rest_kv I c kk h4 h8 r hr).trans hp)) $$ Hp
  unfold vPay
  icases Hp with ⟨HD, HW⟩
  have hj : iprop(vWin I c s qb ∗ vOut I c s qb) ⊢ vHalf I c s := (pointsTo_split_subset (Finset.subset_univ _)).2
  ihave HS := hj $$ [HW HR]
  · isplitl [HW]; · iexact HW
    iexact HR
  iapply Hk
  isplitl [HO]; · iexists _; iexact HO
  isplitl [Hat]; · iexact Hat
  isplitl [Hr]; · iexact Hr
  isplitl [HD]; · iexact HD
  iexact HS

end Copies

/-! ## The stages of a copy -/

/-- Slot `s` of the keys free to be filled, by round `r` of its cell. -/
def idleK (s : Fin 2) (kk : DmaSem sig) (r : ℕ) : sProp 𝕄 :=
  iprop(kHalf I c s ∗ (∃ f, kbPts c s f) ∗ dutyTok ER (dCell c kk) r false ∗ reached ER (dCell c kk) r ∗ atPos ER (dCell c kk) r ∅ 0)
/-- The same of the values. -/
def idleV (s : Fin 2) (kk : DmaSem sig) (r : ℕ) : sProp 𝕄 :=
  iprop(vHalf I c s ∗ (∃ f, vbPts c s f) ∗ dutyTok ER (dCell c kk) r false ∗ reached ER (dCell c kk) r ∗ atPos ER (dCell c kk) r ∅ 0)
/-- The copy on its way. -/
def flyK (s : Fin 2) (qb : Fin 4) (kk : DmaSem sig) (r : ℕ) : sProp 𝕄 :=
  iprop(cred (tallyAt (dCell c kk) () NK) ∗ kOut I c s qb ∗ atPos ER (dCell c kk) r ∅ 0)
/-- The same of the values. -/
def flyV (s : Fin 2) (qb : Fin 4) (kk : DmaSem sig) (r : ℕ) : sProp 𝕄 :=
  iprop(cred (tallyAt (dCell c kk) () NK) ∗ vOut I c s qb ∗ atPos ER (dCell c kk) r ∅ 0)
/-- The copy over, the slot aside. -/
def restK (s : Fin 2) (kk : DmaSem sig) (r : ℕ) : sProp 𝕄 :=
  iprop(kHalf I c s ∗ reached ER (dCell c kk) r ∗ atPos ER (dCell c kk) r ∅ 0)
/-- The same of the values. -/
def restV (s : Fin 2) (kk : DmaSem sig) (r : ℕ) : sProp 𝕄 :=
  iprop(vHalf I c s ∗ reached ER (dCell c kk) r ∗ atPos ER (dCell c kk) r ∅ 0)

/-- Two landings owed. -/
def OW : sProp 𝕄 := iprop(∃ W, owes (c : Thread nD τ) (OR c) W)

/-- The invariants of the double buffers' cells, and the levels. Persistent. -/
def kvEnv (KK : GSem nD τ sig → ℕ) : sProp 𝕄 :=
  iprop(cellInv ER (Rd I) (KK (dCell c 4)) (dCell c 4) ∗ cellInv ER (Rd I) (KK (dCell c 5)) (dCell c 5)
    ∗ cellInv ER (Rd I) (KK (dCell c 6)) (dCell c 6) ∗ cellInv ER (Rd I) (KK (dCell c 7)) (dCell c 7) ∗ levAts L lv)

/-- These can be copied. -/
instance kvEnv_persistent (KK : GSem nD τ sig → ℕ) : BI.Persistent (kvEnv I c KK) := by unfold kvEnv; infer_instance

/-- The start of a copy of keys: from an idle slot to a copy on its way. -/
theorem startK {α : Type} {Q : α → sProp (MT nD τ sig Unit (Elt F) ℕ UU ℕ)} (s : Fin 2) (qb : Fin 4) (r : ℕ) (kk : DmaSem sig)
    {κ : ℕ} (hr : r < 2) (h4 : 4 ≤ kk.val) (h8 : kk.val < 8) (hp : pay I c (.dma kk) r false = kPay I c s qb)
    (off : Fin 5 → ℕ) (inb : ∀ a, off a + S16x1x64x8x128.size a ≤ S16x4x64x32x128.size a)
    (ho : off = ![0, qb.val, 0, 8 * c.val, 0]) (off' : Fin 5 → ℕ)
    (inb' : ∀ a, off' a + S1x16x64x8x128.size a ≤ S2x16x64x8x128.size a) (ho' : off' = ![s.val, 0, 0, 0, 0])
    {hsrc : (srcAt kM off inb).view.WordExact} {hdst : (slotAt kbM off' inb').view.WordExact}
    {hsem : DmaTarget.Typed (nD := nD) .hbm (.dma kk) (.here (p := (.tc : Proc τ)) (slotAt kbM off' inb'))}
    {k : PUnit → Prog (TpuEff nD τ sig (Elt F) Λ₀ .tc) α} :
    iprop(cellInv ER (Rd I) κ (dCell c kk) ∗ idleK I c s kk r)
      ⊢ iprop((flyK I c s qb kk r -∗ WP c (k ⟨⟩) Q)
        -∗ WP c (.op (.enqueueDma (srcAt kM off inb) (.here (slotAt kbM off' inb')) (.dma kk) hsrc hdst hsem) k) Q) := by
  unfold idleK flyK
  iintro ⟨#HI, HS, HD, Ht, #Hr, Hat⟩ Hk
  iapply (fillK I c s qb r kk hr h4 h8 hp off inb ho off' inb' ho' (hsrc := hsrc) (hdst := hdst) (hsem := hsem)) $$ [HS HD Ht]
  · isplitr; · iexact HI
    isplitl [HS]; · iexact HS
    isplitl [HD]; · iexact HD
    isplitl [Ht]; · iexact Ht
    iexact Hr
  iintro ⟨Hc, HR⟩
  iapply Hk
  isplitl [Hc]; · iexact Hc
  isplitl [HR]; · iexact HR
  iexact Hat

/-- The wait for a copy of keys: the slot holds the block's keys. -/
theorem doneK {α : Type} {Q : α → sProp (MT nD τ sig Unit (Elt F) ℕ UU ℕ)} (s : Fin 2) (qb : Fin 4) (r : ℕ) (kk : DmaSem sig)
    {κ : ℕ} (hr : r < 2) (h4 : 4 ≤ kk.val) (h8 : kk.val < 8) (hp : pay I c (.dma kk) r false = kPay I c s qb)
    (src : Memref sig .tc .hbm S16x64x8x128 .f32)
    (off' : Fin 5 → ℕ) (inb' : ∀ a, off' a + S1x16x64x8x128.size a ≤ S2x16x64x8x128.size a)
    {hsrc : src.view.WordExact} {hdst : (slotAt kbM off' inb').view.WordExact}
    {k : PUnit → Prog (TpuEff nD τ sig (Elt F) Λ₀ .tc) α} :
    iprop(cellInv ER (Rd I) κ (dCell c kk) ∗ levAts L lv ∗ flyK I c s qb kk r ∗ OW c)
      ⊢ iprop((OW c ∗ kbPts c s (slotOf (I c).k c qb) ∗ restK I c s kk (r + 1) -∗ WP c (k ⟨⟩) Q)
        -∗ WP c (.op (.waitDma2 kk src (slotAt kbM off' inb') hsrc hdst) k) Q) := by
  unfold flyK OW restK
  iintro ⟨#HI, #Hlev, ⟨Hc, HR, Hat⟩, ⟨%W, HO⟩⟩ Hk
  iapply (awaitK I c s qb r kk W hr h4 h8 hp src off' inb' (hsrc := hsrc) (hdst := hdst)) $$ [Hc HR Hat HO]
  · isplitr; · iexact HI
    isplitr; · iexact Hlev
    isplitl [Hc]; · iexact Hc
    isplitl [HO]; · iexact HO
    isplitl [Hat]; · iexact Hat
    iexact HR
  iintro ⟨HO, Hat, Hr, HD, HS⟩
  iapply Hk
  isplitl [HO]; · iexact HO
  isplitl [HD]; · iexact HD
  isplitl [HS]; · iexact HS
  isplitl [Hr]; · iexact Hr
  iexact Hat

/-- The start of a copy of values: from an idle slot to a copy on its way. -/
theorem startV {α : Type} {Q : α → sProp (MT nD τ sig Unit (Elt F) ℕ UU ℕ)} (s : Fin 2) (qb : Fin 4) (r : ℕ) (kk : DmaSem sig)
    {κ : ℕ} (hr : r < 2) (h4 : 4 ≤ kk.val) (h8 : kk.val < 8) (hp : pay I c (.dma kk) r false = vPay I c s qb)
    (off : Fin 5 → ℕ) (inb : ∀ a, off a + S16x1x64x8x128.size a ≤ S16x4x64x32x128.size a)
    (ho : off = ![0, qb.val, 0, 8 * c.val, 0]) (off' : Fin 5 → ℕ)
    (inb' : ∀ a, off' a + S1x16x64x8x128.size a ≤ S2x16x64x8x128.size a) (ho' : off' = ![s.val, 0, 0, 0, 0])
    {hsrc : (srcAt vM off inb).view.WordExact} {hdst : (slotAt vbM off' inb').view.WordExact}
    {hsem : DmaTarget.Typed (nD := nD) .hbm (.dma kk) (.here (p := (.tc : Proc τ)) (slotAt vbM off' inb'))}
    {k : PUnit → Prog (TpuEff nD τ sig (Elt F) Λ₀ .tc) α} :
    iprop(cellInv ER (Rd I) κ (dCell c kk) ∗ idleV I c s kk r)
      ⊢ iprop((flyV I c s qb kk r -∗ WP c (k ⟨⟩) Q)
        -∗ WP c (.op (.enqueueDma (srcAt vM off inb) (.here (slotAt vbM off' inb')) (.dma kk) hsrc hdst hsem) k) Q) := by
  unfold idleV flyV
  iintro ⟨#HI, HS, HD, Ht, #Hr, Hat⟩ Hk
  iapply (fillV I c s qb r kk hr h4 h8 hp off inb ho off' inb' ho' (hsrc := hsrc) (hdst := hdst) (hsem := hsem)) $$ [HS HD Ht]
  · isplitr; · iexact HI
    isplitl [HS]; · iexact HS
    isplitl [HD]; · iexact HD
    isplitl [Ht]; · iexact Ht
    iexact Hr
  iintro ⟨Hc, HR⟩
  iapply Hk
  isplitl [Hc]; · iexact Hc
  isplitl [HR]; · iexact HR
  iexact Hat

/-- The wait for a copy of values: the slot holds the block's values. -/
theorem doneV {α : Type} {Q : α → sProp (MT nD τ sig Unit (Elt F) ℕ UU ℕ)} (s : Fin 2) (qb : Fin 4) (r : ℕ) (kk : DmaSem sig)
    {κ : ℕ} (hr : r < 2) (h4 : 4 ≤ kk.val) (h8 : kk.val < 8) (hp : pay I c (.dma kk) r false = vPay I c s qb)
    (src : Memref sig .tc .hbm S16x64x8x128 .f32)
    (off' : Fin 5 → ℕ) (inb' : ∀ a, off' a + S1x16x64x8x128.size a ≤ S2x16x64x8x128.size a)
    {hsrc : src.view.WordExact} {hdst : (slotAt vbM off' inb').view.WordExact}
    {k : PUnit → Prog (TpuEff nD τ sig (Elt F) Λ₀ .tc) α} :
    iprop(cellInv ER (Rd I) κ (dCell c kk) ∗ levAts L lv ∗ flyV I c s qb kk r ∗ OW c)
      ⊢ iprop((OW c ∗ vbPts c s (slotOf (I c).v c qb) ∗ restV I c s kk (r + 1) -∗ WP c (k ⟨⟩) Q)
        -∗ WP c (.op (.waitDma2 kk src (slotAt vbM off' inb') hsrc hdst) k) Q) := by
  unfold flyV OW restV
  iintro ⟨#HI, #Hlev, ⟨Hc, HR, Hat⟩, ⟨%W, HO⟩⟩ Hk
  iapply (awaitV I c s qb r kk W hr h4 h8 hp src off' inb' (hsrc := hsrc) (hdst := hdst)) $$ [Hc HR Hat HO]
  · isplitr; · iexact HI
    isplitr; · iexact Hlev
    isplitl [Hc]; · iexact Hc
    isplitl [HO]; · iexact HO
    isplitl [Hat]; · iexact Hat
    iexact HR
  iintro ⟨HO, Hat, Hr, HD, HS⟩
  iapply Hk
  isplitl [HO]; · iexact HO
  isplitl [HD]; · iexact HD
  isplitl [HS]; · iexact HS
  isplitl [Hr]; · iexact Hr
  iexact Hat

end Cert.KernelIdeal.Own

end
-- ==== Proof.Blocks.lean ====
/- Each store of the context is a block's attention. -/
module

public import proofs.«01_k».proof.Proof.Contents
public import Idealize.ShloMosaic.Lib.Pipeline.Value

@[expose] public section

set_option maxRecDepth 16384
set_option synthInstance.maxSize 4096

noncomputable section

namespace Cert.KernelIdeal.Own

open Idealize Idealize.ShloMosaic Idealize.SL.Sem
open Cert.KernelIdeal Cert.KernelIdeal.Gen

variable {F : FTy → Type} [FloatOps F] [Named F] (q : FVec F S256x1024 .f32) (k v : Vec F S1x16x64x1x128 .f32)

/-- The slice of the scaled queries at a block's offset is that block's queries. -/
theorem qBlk_eq (qb : Fin 4) (h : Fin 8) (off : Fin 2 → ℕ) (hs : S256x1024.Slices off S64x128)
    (ho : off = ![64 * qb.val, 128 * h.val]) : extractStridedSlice S64x128 off q hs = qBlk q qb h := by
  subst ho
  funext i
  unfold qBlk
  refine extractStridedSlice_apply _ _ _ i _ fun a => ?_
  match a with
  | 0 => rfl
  | 1 => rfl

/-! ## The thirty-two stores: `st_b_h` says that what is stored for query block `b` and head `h` is that block's attention -/

/-- What is stored for query block 0 and head 0 is that block's attention. -/
theorem st_0_0 : k0_pay3 q k v = headPay (qBlk q 0 0) k v := by
  unfold headPay; rw [← qBlk_eq q 0 0 ![0, 0] slices_S256x1024_o0_0_S64x128 rfl]; rfl

/-- What is stored for query block 0 and head 1 is that block's attention. -/
theorem st_0_1 : k0_pay6 (k0_pay4 q) (k0_pay5 k) v = headPay (qBlk q 0 1) k v := by
  unfold headPay; rw [← qBlk_eq q 0 1 ![0, 128] slices_S256x1024_o0_128_S64x128 rfl]; rfl

/-- What is stored for query block 0 and head 2 is that block's attention. -/
theorem st_0_2 : k0_pay9 (k0_pay7 v) (k0_pay8 q k) = headPay (qBlk q 0 2) k v := by
  unfold headPay; rw [← qBlk_eq q 0 2 ![0, 256] slices_S256x1024_o0_256_S64x128 rfl]; rfl

/-- What is stored for query block 0 and head 3 is that block's attention. -/
theorem st_0_3 : k0_pay10 q k v = headPay (qBlk q 0 3) k v := by
  unfold headPay; rw [← qBlk_eq q 0 3 ![0, 384] slices_S256x1024_o0_384_S64x128 rfl]; rfl

/-- What is stored for query block 0 and head 4 is that block's attention. -/
theorem st_0_4 : k0_pay12 (k0_pay11 q) k v = headPay (qBlk q 0 4) k v := by
  unfold headPay; rw [← qBlk_eq q 0 4 ![0, 512] slices_S256x1024_o0_512_S64x128 rfl]; rfl

/-- What is stored for query block 0 and head 5 is that block's attention. -/
theorem st_0_5 : k0_pay16 (k0_pay13 q) (k0_pay14 k) (k0_pay15 v) = headPay (qBlk q 0 5) k v := by
  unfold headPay; rw [← qBlk_eq q 0 5 ![0, 640] slices_S256x1024_o0_640_S64x128 rfl]; rfl

/-- What is stored for query block 0 and head 6 is that block's attention. -/
theorem st_0_6 : k0_pay18 (k0_pay17 q k v) = headPay (qBlk q 0 6) k v := by
  unfold headPay; rw [← qBlk_eq q 0 6 ![0, 768] slices_S256x1024_o0_768_S64x128 rfl]; rfl

/-- What is stored for query block 0 and head 7 is that block's attention. -/
theorem st_0_7 : k0_pay19 q k v = headPay (qBlk q 0 7) k v := by
  unfold headPay; rw [← qBlk_eq q 0 7 ![0, 896] slices_S256x1024_o0_896_S64x128 rfl]; rfl

/-- What is stored for query block 1 and head 0 is that block's attention. -/
theorem st_1_0 : k0_pay20 q k v = headPay (qBlk q 1 0) k v := by
  unfold headPay; rw [← qBlk_eq q 1 0 ![64, 0] slices_S256x1024_o64_0_S64x128 rfl]; rfl

/-- What is stored for query block 1 and head 1 is that block's attention. -/
theorem st_1_1 : k0_pay23 (k0_pay21 q) (k0_pay22 k) v = headPay (qBlk q 1 1) k v := by
  unfold headPay; rw [← qBlk_eq q 1 1 ![64, 128] slices_S256x1024_o64_128_S64x128 rfl]; rfl

/-- What is stored for query block 1 and head 2 is that block's attention. -/
theorem st_1_2 : k0_pay26 (k0_pay24 v) (k0_pay25 q k) = headPay (qBlk q 1 2) k v := by
  unfold headPay; rw [← qBlk_eq q 1 2 ![64, 256] slices_S256x1024_o64_256_S64x128 rfl]; rfl

/-- What is stored for query block 1 and head 3 is that block's attention. -/
theorem st_1_3 : k0_pay27 q k v = headPay (qBlk q 1 3) k v := by
  unfold headPay; rw [← qBlk_eq q 1 3 ![64, 384] slices_S256x1024_o64_384_S64x128 rfl]; rfl

/-- What is stored for query block 1 and head 4 is that block's attention. -/
theorem st_1_4 : k0_pay29 (k0_pay28 q) k v = headPay (qBlk q 1 4) k v := by
  unfold headPay; rw [← qBlk_eq q 1 4 ![64, 512] slices_S256x1024_o64_512_S64x128 rfl]; rfl

/-- What is stored for query block 1 and head 5 is that block's attention. -/
theorem st_1_5 : k0_pay33 (k0_pay30 v) (k0_pay31 q k) (k0_pay32 q k) = headPay (qBlk q 1 5) k v := by
  unfold headPay; rw [← qBlk_eq q 1 5 ![64, 640] slices_S256x1024_o64_640_S64x128 rfl]; rfl

/-- What is stored for query block 1 and head 6 is that block's attention. -/
theorem st_1_6 : k0_pay35 (k0_pay34 q k v) = headPay (qBlk q 1 6) k v := by
  unfold headPay; rw [← qBlk_eq q 1 6 ![64, 768] slices_S256x1024_o64_768_S64x128 rfl]; rfl

/-- What is stored for query block 1 and head 7 is that block's attention. -/
theorem st_1_7 : k0_pay36 q k v = headPay (qBlk q 1 7) k v := by
  unfold headPay; rw [← qBlk_eq q 1 7 ![64, 896] slices_S256x1024_o64_896_S64x128 rfl]; rfl

/-- What is stored for query block 2 and head 0 is that block's attention. -/
theorem st_2_0 : k0_pay38 (k0_pay37 q) k v = headPay (qBlk q 2 0) k v := by
  unfold headPay; rw [← qBlk_eq q 2 0 ![128, 0] slices_S256x1024_o128_0_S64x128 rfl]; rfl

/-- What is stored for query block 2 and head 1 is that block's attention. -/
theorem st_2_1 : k0_pay42 (k0_pay39 q) (k0_pay40 k) (k0_pay41 v) = headPay (qBlk q 2 1) k v := by
  unfold headPay; rw [← qBlk_eq q 2 1 ![128, 128] slices_S256x1024_o128_128_S64x128 rfl]; rfl

/-- What is stored for query block 2 and head 2 is that block's attention. -/
theorem st_2_2 : k0_pay44 (k0_pay43 q k v) = headPay (qBlk q 2 2) k v := by
  unfold headPay; rw [← qBlk_eq q 2 2 ![128, 256] slices_S256x1024_o128_256_S64x128 rfl]; rfl

/-- What is stored for query block 2 and head 3 is that block's attention. -/
theorem st_2_3 : k0_pay45 q k v = headPay (qBlk q 2 3) k v := by
  unfold headPay; rw [← qBlk_eq q 2 3 ![128, 384] slices_S256x1024_o128_384_S64x128 rfl]; rfl

/-- What is stored for query block 2 and head 4 is that block's attention. -/
theorem st_2_4 : k0_pay48 (k0_pay46 q) (k0_pay47 k) v = headPay (qBlk q 2 4) k v := by
  unfold headPay; rw [← qBlk_eq q 2 4 ![128, 512] slices_S256x1024_o128_512_S64x128 rfl]; rfl

/-- What is stored for query block 2 and head 5 is that block's attention. -/
theorem st_2_5 : k0_pay51 (k0_pay49 v) (k0_pay50 q k) = headPay (qBlk q 2 5) k v := by
  unfold headPay; rw [← qBlk_eq q 2 5 ![128, 640] slices_S256x1024_o128_640_S64x128 rfl]; rfl

/-- What is stored for query block 2 and head 6 is that block's attention. -/
theorem st_2_6 : k0_pay52 q k v = headPay (qBlk q 2 6) k v := by
  unfold headPay; rw [← qBlk_eq q 2 6 ![128, 768] slices_S256x1024_o128_768_S64x128 rfl]; rfl

/-- What is stored for query block 2 and head 7 is that block's attention. -/
theorem st_2_7 : k0_pay54 (k0_pay53 q) k v = headPay (qBlk q 2 7) k v := by
  unfold headPay; rw [← qBlk_eq q 2 7 ![128, 896] slices_S256x1024_o128_896_S64x128 rfl]; rfl

/-- What is stored for query block 3 and head 0 is that block's attention. -/
theorem st_3_0 : k0_pay55 q k v = headPay (qBlk q 3 0) k v := by
  unfold headPay; rw [← qBlk_eq q 3 0 ![192, 0] slices_S256x1024_o192_0_S64x128 rfl]; rfl

/-- What is stored for query block 3 and head 1 is that block's attention. -/
theorem st_3_1 : k0_pay56 q k v = headPay (qBlk q 3 1) k v := by
  unfold headPay; rw [← qBlk_eq q 3 1 ![192, 128] slices_S256x1024_o192_128_S64x128 rfl]; rfl

/-- What is stored for query block 3 and head 2 is that block's attention. -/
theorem st_3_2 : k0_pay59 (k0_pay57 q) (k0_pay58 k) v = headPay (qBlk q 3 2) k v := by
  unfold headPay; rw [← qBlk_eq q 3 2 ![192, 256] slices_S256x1024_o192_256_S64x128 rfl]; rfl

/-- What is stored for query block 3 and head 3 is that block's attention. -/
theorem st_3_3 : k0_pay62 (k0_pay60 v) (k0_pay61 q k) = headPay (qBlk q 3 3) k v := by
  unfold headPay; rw [← qBlk_eq q 3 3 ![192, 384] slices_S256x1024_o192_384_S64x128 rfl]; rfl

/-- What is stored for query block 3 and head 4 is that block's attention. -/
theorem st_3_4 : k0_pay63 q k v = headPay (qBlk q 3 4) k v := by
  unfold headPay; rw [← qBlk_eq q 3 4 ![192, 512] slices_S256x1024_o192_512_S64x128 rfl]; rfl

/-- What is stored for query block 3 and head 5 is that block's attention. -/
theorem st_3_5 : k0_pay65 (k0_pay64 q) k v = headPay (qBlk q 3 5) k v := by
  unfold headPay; rw [← qBlk_eq q 3 5 ![192, 640] slices_S256x1024_o192_640_S64x128 rfl]; rfl

/-- What is stored for query block 3 and head 6 is that block's attention. -/
theorem st_3_6 : k0_pay69 (k0_pay66 v) (k0_pay67 q k) (k0_pay68 q k) = headPay (qBlk q 3 6) k v := by
  unfold headPay; rw [← qBlk_eq q 3 6 ![192, 768] slices_S256x1024_o192_768_S64x128 rfl]; rfl

/-- What is stored for query block 3 and head 7 is that block's attention. -/
theorem st_3_7 : k0_pay70 q k v = headPay (qBlk q 3 7) k v := by
  unfold headPay; rw [← qBlk_eq q 3 7 ![192, 896] slices_S256x1024_o192_896_S64x128 rfl]; rfl

end Cert.KernelIdeal.Own

end
-- ==== Proof.Heads.lean ====
/- The parts of the kernel's body that only read heads and store blocks of the context. -/
module

public import proofs.«01_k».proof.Proof.Steps
public import proofs.«01_k».proof.Proof.Blocks

@[expose] public section

set_option maxRecDepth 16384
set_option synthInstance.maxSize 4096

noncomputable section

namespace Cert.KernelIdeal.Own

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ
variable (I : Dev nD → Inp F) (c : Dev nD)

/-- Part 5 of the body: the blocks of the context that are done go from 1 to 2. -/
theorem part5 (Kt) :
    iprop(hold I c 0 0 1 ∗ (hold I c 0 0 2 -∗ Kt ⟨k0_pay7 (headOf (I c).v c 0 2), k0_pay8 (qOf (I c)) (headOf (I c).k c 0 2)⟩))
      ⊢ WP c (k0_part5 xM (Memref.isWhole_whole _) wqM (Memref.isWhole_whole _) kM (Memref.isWhole_whole _) vM (Memref.isWhole_whole _) woM (Memref.isWhole_whole _) oM (Memref.isWhole_whole _) kbM (Memref.isWhole_whole _) vbM (Memref.isWhole_whole _) cM (Memref.isWhole_whole _) pM (Memref.isWhole_whole _) sM (Memref.isWhole_whole _) aM (Memref.isWhole_whole _) bM (Memref.isWhole_whole _) cc0_scratch7 cc0_scratch8 cc0_scratch9 (qOf (I c)) (k0_pay4 (qOf (I c))) (k0_pay5 (headOf (I c).k c 0 1))) Kt := by
  rw [k0_part5_eq_skeleton]; unfold k0_part5_skel
  simp only [Prog.lift, Prog.bind_op, Prog.bind_ret, Prog.pure_eq_ret]
  iintro ⟨H, Hk⟩
  iapply (ldV I c 0 0 1 1 ![0, 0, 0, 1, 0] inb_S2x16x64x8x128_S1x16x64x1x128_0_0_0_1_0 rfl) $$ [H]
  · iexact H
  iintro H
  iapply (ldC I c 0 0 1 ![0, 128] inb_S256x1024_S64x128_0_128) $$ [H]
  · iexact H
  iintro H
  iapply (stC I c 0 0 1 1 ![0, 128] inb_S256x1024_S64x128_0_128 rfl rfl (st_0_1 _ _ _)) $$ [H]
  · iexact H
  iintro H
  iapply (ldK I c 0 0 2 2 ![0, 0, 0, 2, 0] inb_S2x16x64x8x128_S1x16x64x1x128_0_0_0_2_0 rfl) $$ [H]
  · iexact H
  iintro H
  iapply (ldV I c 0 0 2 2 ![0, 0, 0, 2, 0] inb_S2x16x64x8x128_S1x16x64x1x128_0_0_0_2_0 rfl) $$ [H]
  · iexact H
  iintro H
  iapply (WP_ret c)
  iapply Hk; iexact H

/-- Part 6 of the body: the blocks of the context that are done go from 2 to 4. -/
theorem part6 (Kt) :
    iprop(hold I c 0 0 2 ∗ (hold I c 0 0 4 -∗ Kt (k0_pay11 (qOf (I c)))))
      ⊢ WP c (k0_part6 xM (Memref.isWhole_whole _) wqM (Memref.isWhole_whole _) kM (Memref.isWhole_whole _) vM (Memref.isWhole_whole _) woM (Memref.isWhole_whole _) oM (Memref.isWhole_whole _) kbM (Memref.isWhole_whole _) vbM (Memref.isWhole_whole _) cM (Memref.isWhole_whole _) pM (Memref.isWhole_whole _) sM (Memref.isWhole_whole _) aM (Memref.isWhole_whole _) bM (Memref.isWhole_whole _) cc0_scratch7 cc0_scratch8 cc0_scratch9 (qOf (I c)) (k0_pay7 (headOf (I c).v c 0 2)) (k0_pay8 (qOf (I c)) (headOf (I c).k c 0 2))) Kt := by
  rw [k0_part6_eq_skeleton]; unfold k0_part6_skel
  simp only [Prog.lift, Prog.bind_op, Prog.bind_ret, Prog.pure_eq_ret]
  iintro ⟨H, Hk⟩
  iapply (ldC I c 0 0 2 ![0, 256] inb_S256x1024_S64x128_0_256) $$ [H]
  · iexact H
  iintro H
  iapply (stC I c 0 0 2 2 ![0, 256] inb_S256x1024_S64x128_0_256 rfl rfl (st_0_2 _ _ _)) $$ [H]
  · iexact H
  iintro H
  iapply (ldK I c 0 0 3 3 ![0, 0, 0, 3, 0] inb_S2x16x64x8x128_S1x16x64x1x128_0_0_0_3_0 rfl) $$ [H]
  · iexact H
  iintro H
  iapply (ldV I c 0 0 3 3 ![0, 0, 0, 3, 0] inb_S2x16x64x8x128_S1x16x64x1x128_0_0_0_3_0 rfl) $$ [H]
  · iexact H
  iintro H
  iapply (ldC I c 0 0 3 ![0, 384] inb_S256x1024_S64x128_0_384) $$ [H]
  · iexact H
  iintro H
  iapply (stC I c 0 0 3 3 ![0, 384] inb_S256x1024_S64x128_0_384 rfl rfl (st_0_3 _ _ _)) $$ [H]
  · iexact H
  iintro H
  iapply (WP_ret c)
  iapply Hk; iexact H

/-- Part 7 of the body: the blocks of the context that are done go from 4 to 5. -/
theorem part7 (Kt) :
    iprop(hold I c 0 0 4 ∗ (hold I c 0 0 5 -∗ Kt ⟨k0_pay13 (qOf (I c)), k0_pay14 (headOf (I c).k c 0 5), k0_pay15 (headOf (I c).v c 0 5)⟩))
      ⊢ WP c (k0_part7 xM (Memref.isWhole_whole _) wqM (Memref.isWhole_whole _) kM (Memref.isWhole_whole _) vM (Memref.isWhole_whole _) woM (Memref.isWhole_whole _) oM (Memref.isWhole_whole _) kbM (Memref.isWhole_whole _) vbM (Memref.isWhole_whole _) cM (Memref.isWhole_whole _) pM (Memref.isWhole_whole _) sM (Memref.isWhole_whole _) aM (Memref.isWhole_whole _) bM (Memref.isWhole_whole _) cc0_scratch7 cc0_scratch8 cc0_scratch9 (qOf (I c)) (k0_pay11 (qOf (I c)))) Kt := by
  rw [k0_part7_eq_skeleton]; unfold k0_part7_skel
  simp only [Prog.lift, Prog.bind_op, Prog.bind_ret, Prog.pure_eq_ret]
  iintro ⟨H, Hk⟩
  iapply (ldK I c 0 0 4 4 ![0, 0, 0, 4, 0] inb_S2x16x64x8x128_S1x16x64x1x128_0_0_0_4_0 rfl) $$ [H]
  · iexact H
  iintro H
  iapply (ldV I c 0 0 4 4 ![0, 0, 0, 4, 0] inb_S2x16x64x8x128_S1x16x64x1x128_0_0_0_4_0 rfl) $$ [H]
  · iexact H
  iintro H
  iapply (ldC I c 0 0 4 ![0, 512] inb_S256x1024_S64x128_0_512) $$ [H]
  · iexact H
  iintro H
  iapply (stC I c 0 0 4 4 ![0, 512] inb_S256x1024_S64x128_0_512 rfl rfl (st_0_4 _ _ _)) $$ [H]
  · iexact H
  iintro H
  iapply (ldK I c 0 0 5 5 ![0, 0, 0, 5, 0] inb_S2x16x64x8x128_S1x16x64x1x128_0_0_0_5_0 rfl) $$ [H]
  · iexact H
  iintro H
  iapply (ldV I c 0 0 5 5 ![0, 0, 0, 5, 0] inb_S2x16x64x8x128_S1x16x64x1x128_0_0_0_5_0 rfl) $$ [H]
  · iexact H
  iintro H
  iapply (WP_ret c)
  iapply Hk; iexact H

/-- Part 8 of the body: the blocks of the context that are done go from 5 to 6. -/
theorem part8 (Kt) :
    iprop(hold I c 0 0 5 ∗ (hold I c 0 0 6 -∗ Kt (k0_pay17 (qOf (I c)) (headOf (I c).k c 0 6) (headOf (I c).v c 0 6))))
      ⊢ WP c (k0_part8 xM (Memref.isWhole_whole _) wqM (Memref.isWhole_whole _) kM (Memref.isWhole_whole _) vM (Memref.isWhole_whole _) woM (Memref.isWhole_whole _) oM (Memref.isWhole_whole _) kbM (Memref.isWhole_whole _) vbM (Memref.isWhole_whole _) cM (Memref.isWhole_whole _) pM (Memref.isWhole_whole _) sM (Memref.isWhole_whole _) aM (Memref.isWhole_whole _) bM (Memref.isWhole_whole _) cc0_scratch7 cc0_scratch8 cc0_scratch9 (qOf (I c)) (k0_pay13 (qOf (I c))) (k0_pay14 (headOf (I c).k c 0 5)) (k0_pay15 (headOf (I c).v c 0 5))) Kt := by
  rw [k0_part8_eq_skeleton]; unfold k0_part8_skel
  simp only [Prog.lift, Prog.bind_op, Prog.bind_ret, Prog.pure_eq_ret]
  iintro ⟨H, Hk⟩
  iapply (ldC I c 0 0 5 ![0, 640] inb_S256x1024_S64x128_0_640) $$ [H]
  · iexact H
  iintro H
  iapply (stC I c 0 0 5 5 ![0, 640] inb_S256x1024_S64x128_0_640 rfl rfl (st_0_5 _ _ _)) $$ [H]
  · iexact H
  iintro H
  iapply (ldK I c 0 0 6 6 ![0, 0, 0, 6, 0] inb_S2x16x64x8x128_S1x16x64x1x128_0_0_0_6_0 rfl) $$ [H]
  · iexact H
  iintro H
  iapply (ldV I c 0 0 6 6 ![0, 0, 0, 6, 0] inb_S2x16x64x8x128_S1x16x64x1x128_0_0_0_6_0 rfl) $$ [H]
  · iexact H
  iintro H
  iapply (WP_ret c)
  iapply Hk; iexact H

/-- Part 9 of the body: the blocks of the context that are done go from 6 to 8. -/
theorem part9 (Kt) :
    iprop(hold I c 0 0 6 ∗ (hold I c 0 0 8 -∗ Kt ⟨⟩))
      ⊢ WP c (k0_part9 xM (Memref.isWhole_whole _) wqM (Memref.isWhole_whole _) kM (Memref.isWhole_whole _) vM (Memref.isWhole_whole _) woM (Memref.isWhole_whole _) oM (Memref.isWhole_whole _) kbM (Memref.isWhole_whole _) vbM (Memref.isWhole_whole _) cM (Memref.isWhole_whole _) pM (Memref.isWhole_whole _) sM (Memref.isWhole_whole _) aM (Memref.isWhole_whole _) bM (Memref.isWhole_whole _) cc0_scratch7 cc0_scratch8 cc0_scratch9 (qOf (I c)) (k0_pay17 (qOf (I c)) (headOf (I c).k c 0 6) (headOf (I c).v c 0 6))) Kt := by
  rw [k0_part9_eq_skeleton]; unfold k0_part9_skel
  simp only [Prog.lift, Prog.bind_op, Prog.bind_ret, Prog.pure_eq_ret]
  iintro ⟨H, Hk⟩
  iapply (ldC I c 0 0 6 ![0, 768] inb_S256x1024_S64x128_0_768) $$ [H]
  · iexact H
  iintro H
  iapply (stC I c 0 0 6 6 ![0, 768] inb_S256x1024_S64x128_0_768 rfl rfl (st_0_6 _ _ _)) $$ [H]
  · iexact H
  iintro H
  iapply (ldK I c 0 0 7 7 ![0, 0, 0, 7, 0] inb_S2x16x64x8x128_S1x16x64x1x128_0_0_0_7_0 rfl) $$ [H]
  · iexact H
  iintro H
  iapply (ldV I c 0 0 7 7 ![0, 0, 0, 7, 0] inb_S2x16x64x8x128_S1x16x64x1x128_0_0_0_7_0 rfl) $$ [H]
  · iexact H
  iintro H
  iapply (ldC I c 0 0 7 ![0, 896] inb_S256x1024_S64x128_0_896) $$ [H]
  · iexact H
  iintro H
  iapply (stC I c 0 0 7 7 ![0, 896] inb_S256x1024_S64x128_0_896 rfl rfl (st_0_7 _ _ _)) $$ [H]
  · iexact H
  iintro H
  iapply (WP_ret c)
  iapply Hk; iexact H

/-- Part 12 of the body: the blocks of the context that are done go from 9 to 10. -/
theorem part12 (Kt) :
    iprop(hold I c 1 1 9 ∗ (hold I c 1 1 10 -∗ Kt ⟨k0_pay24 (headOf (I c).v c 1 2), k0_pay25 (qOf (I c)) (headOf (I c).k c 1 2)⟩))
      ⊢ WP c (k0_part12 xM (Memref.isWhole_whole _) wqM (Memref.isWhole_whole _) kM (Memref.isWhole_whole _) vM (Memref.isWhole_whole _) woM (Memref.isWhole_whole _) oM (Memref.isWhole_whole _) kbM (Memref.isWhole_whole _) vbM (Memref.isWhole_whole _) cM (Memref.isWhole_whole _) pM (Memref.isWhole_whole _) sM (Memref.isWhole_whole _) aM (Memref.isWhole_whole _) bM (Memref.isWhole_whole _) cc0_scratch7 cc0_scratch8 cc0_scratch9 (qOf (I c)) (k0_pay21 (qOf (I c))) (k0_pay22 (headOf (I c).k c 1 1))) Kt := by
  rw [k0_part12_eq_skeleton]; unfold k0_part12_skel
  simp only [Prog.lift, Prog.bind_op, Prog.bind_ret, Prog.pure_eq_ret]
  iintro ⟨H, Hk⟩
  iapply (ldV I c 1 1 1 9 ![1, 0, 0, 1, 0] inb_S2x16x64x8x128_S1x16x64x1x128_1_0_0_1_0 rfl) $$ [H]
  · iexact H
  iintro H
  iapply (ldC I c 1 1 9 ![64, 128] inb_S256x1024_S64x128_64_128) $$ [H]
  · iexact H
  iintro H
  iapply (stC I c 1 1 1 9 ![64, 128] inb_S256x1024_S64x128_64_128 rfl rfl (st_1_1 _ _ _)) $$ [H]
  · iexact H
  iintro H
  iapply (ldK I c 1 1 2 10 ![1, 0, 0, 2, 0] inb_S2x16x64x8x128_S1x16x64x1x128_1_0_0_2_0 rfl) $$ [H]
  · iexact H
  iintro H
  iapply (ldV I c 1 1 2 10 ![1, 0, 0, 2, 0] inb_S2x16x64x8x128_S1x16x64x1x128_1_0_0_2_0 rfl) $$ [H]
  · iexact H
  iintro H
  iapply (WP_ret c)
  iapply Hk; iexact H

/-- Part 13 of the body: the blocks of the context that are done go from 10 to 12. -/
theorem part13 (Kt) :
    iprop(hold I c 1 1 10 ∗ (hold I c 1 1 12 -∗ Kt (k0_pay28 (qOf (I c)))))
      ⊢ WP c (k0_part13 xM (Memref.isWhole_whole _) wqM (Memref.isWhole_whole _) kM (Memref.isWhole_whole _) vM (Memref.isWhole_whole _) woM (Memref.isWhole_whole _) oM (Memref.isWhole_whole _) kbM (Memref.isWhole_whole _) vbM (Memref.isWhole_whole _) cM (Memref.isWhole_whole _) pM (Memref.isWhole_whole _) sM (Memref.isWhole_whole _) aM (Memref.isWhole_whole _) bM (Memref.isWhole_whole _) cc0_scratch7 cc0_scratch8 cc0_scratch9 (qOf (I c)) (k0_pay24 (headOf (I c).v c 1 2)) (k0_pay25 (qOf (I c)) (headOf (I c).k c 1 2))) Kt := by
  rw [k0_part13_eq_skeleton]; unfold k0_part13_skel
  simp only [Prog.lift, Prog.bind_op, Prog.bind_ret, Prog.pure_eq_ret]
  iintro ⟨H, Hk⟩
  iapply (ldC I c 1 1 10 ![64, 256] inb_S256x1024_S64x128_64_256) $$ [H]
  · iexact H
  iintro H
  iapply (stC I c 1 1 2 10 ![64, 256] inb_S256x1024_S64x128_64_256 rfl rfl (st_1_2 _ _ _)) $$ [H]
  · iexact H
  iintro H
  iapply (ldK I c 1 1 3 11 ![1, 0, 0, 3, 0] inb_S2x16x64x8x128_S1x16x64x1x128_1_0_0_3_0 rfl) $$ [H]
  · iexact H
  iintro H
  iapply (ldV I c 1 1 3 11 ![1, 0, 0, 3, 0] inb_S2x16x64x8x128_S1x16x64x1x128_1_0_0_3_0 rfl) $$ [H]
  · iexact H
  iintro H
  iapply (ldC I c 1 1 11 ![64, 384] inb_S256x1024_S64x128_64_384) $$ [H]
  · iexact H
  iintro H
  iapply (stC I c 1 1 3 11 ![64, 384] inb_S256x1024_S64x128_64_384 rfl rfl (st_1_3 _ _ _)) $$ [H]
  · iexact H
  iintro H
  iapply (WP_ret c)
  iapply Hk; iexact H

/-- Part 14 of the body: the blocks of the context that are done go from 12 to 13. -/
theorem part14 (Kt) :
    iprop(hold I c 1 1 12 ∗ (hold I c 1 1 13 -∗ Kt ⟨k0_pay30 (headOf (I c).v c 1 5), k0_pay31 (qOf (I c)) (headOf (I c).k c 1 5), k0_pay32 (qOf (I c)) (headOf (I c).k c 1 5)⟩))
      ⊢ WP c (k0_part14 xM (Memref.isWhole_whole _) wqM (Memref.isWhole_whole _) kM (Memref.isWhole_whole _) vM (Memref.isWhole_whole _) woM (Memref.isWhole_whole _) oM (Memref.isWhole_whole _) kbM (Memref.isWhole_whole _) vbM (Memref.isWhole_whole _) cM (Memref.isWhole_whole _) pM (Memref.isWhole_whole _) sM (Memref.isWhole_whole _) aM (Memref.isWhole_whole _) bM (Memref.isWhole_whole _) cc0_scratch7 cc0_scratch8 cc0_scratch9 (qOf (I c)) (k0_pay28 (qOf (I c)))) Kt := by
  rw [k0_part14_eq_skeleton]; unfold k0_part14_skel
  simp only [Prog.lift, Prog.bind_op, Prog.bind_ret, Prog.pure_eq_ret]
  iintro ⟨H, Hk⟩
  iapply (ldK I c 1 1 4 12 ![1, 0, 0, 4, 0] inb_S2x16x64x8x128_S1x16x64x1x128_1_0_0_4_0 rfl) $$ [H]
  · iexact H
  iintro H
  iapply (ldV I c 1 1 4 12 ![1, 0, 0, 4, 0] inb_S2x16x64x8x128_S1x16x64x1x128_1_0_0_4_0 rfl) $$ [H]
  · iexact H
  iintro H
  iapply (ldC I c 1 1 12 ![64, 512] inb_S256x1024_S64x128_64_512) $$ [H]
  · iexact H
  iintro H
  iapply (stC I c 1 1 4 12 ![64, 512] inb_S256x1024_S64x128_64_512 rfl rfl (st_1_4 _ _ _)) $$ [H]
  · iexact H
  iintro H
  iapply (ldK I c 1 1 5 13 ![1, 0, 0, 5, 0] inb_S2x16x64x8x128_S1x16x64x1x128_1_0_0_5_0 rfl) $$ [H]
  · iexact H
  iintro H
  iapply (ldV I c 1 1 5 13 ![1, 0, 0, 5, 0] inb_S2x16x64x8x128_S1x16x64x1x128_1_0_0_5_0 rfl) $$ [H]
  · iexact H
  iintro H
  iapply (WP_ret c)
  iapply Hk; iexact H

/-- Part 15 of the body: the blocks of the context that are done go from 13 to 14. -/
theorem part15 (Kt) :
    iprop(hold I c 1 1 13 ∗ (hold I c 1 1 14 -∗ Kt (k0_pay34 (qOf (I c)) (headOf (I c).k c 1 6) (headOf (I c).v c 1 6))))
      ⊢ WP c (k0_part15 xM (Memref.isWhole_whole _) wqM (Memref.isWhole_whole _) kM (Memref.isWhole_whole _) vM (Memref.isWhole_whole _) woM (Memref.isWhole_whole _) oM (Memref.isWhole_whole _) kbM (Memref.isWhole_whole _) vbM (Memref.isWhole_whole _) cM (Memref.isWhole_whole _) pM (Memref.isWhole_whole _) sM (Memref.isWhole_whole _) aM (Memref.isWhole_whole _) bM (Memref.isWhole_whole _) cc0_scratch7 cc0_scratch8 cc0_scratch9 (qOf (I c)) (k0_pay30 (headOf (I c).v c 1 5)) (k0_pay31 (qOf (I c)) (headOf (I c).k c 1 5)) (k0_pay32 (qOf (I c)) (headOf (I c).k c 1 5))) Kt := by
  rw [k0_part15_eq_skeleton]; unfold k0_part15_skel
  simp only [Prog.lift, Prog.bind_op, Prog.bind_ret, Prog.pure_eq_ret]
  iintro ⟨H, Hk⟩
  iapply (ldC I c 1 1 13 ![64, 640] inb_S256x1024_S64x128_64_640) $$ [H]
  · iexact H
  iintro H
  iapply (stC I c 1 1 5 13 ![64, 640] inb_S256x1024_S64x128_64_640 rfl rfl (st_1_5 _ _ _)) $$ [H]
  · iexact H
  iintro H
  iapply (ldK I c 1 1 6 14 ![1, 0, 0, 6, 0] inb_S2x16x64x8x128_S1x16x64x1x128_1_0_0_6_0 rfl) $$ [H]
  · iexact H
  iintro H
  iapply (ldV I c 1 1 6 14 ![1, 0, 0, 6, 0] inb_S2x16x64x8x128_S1x16x64x1x128_1_0_0_6_0 rfl) $$ [H]
  · iexact H
  iintro H
  iapply (ldC I c 1 1 14 ![64, 768] inb_S256x1024_S64x128_64_768) $$ [H]
  · iexact H
  iintro H
  iapply (WP_ret c)
  iapply Hk; iexact H

/-- Part 16 of the body: the blocks of the context that are done go from 14 to 16. -/
theorem part16 (Kt) :
    iprop(hold I c 1 1 14 ∗ (hold I c 1 1 16 -∗ Kt ⟨⟩))
      ⊢ WP c (k0_part16 xM (Memref.isWhole_whole _) wqM (Memref.isWhole_whole _) kM (Memref.isWhole_whole _) vM (Memref.isWhole_whole _) woM (Memref.isWhole_whole _) oM (Memref.isWhole_whole _) kbM (Memref.isWhole_whole _) vbM (Memref.isWhole_whole _) cM (Memref.isWhole_whole _) pM (Memref.isWhole_whole _) sM (Memref.isWhole_whole _) aM (Memref.isWhole_whole _) bM (Memref.isWhole_whole _) cc0_scratch7 cc0_scratch8 cc0_scratch9 (qOf (I c)) (k0_pay34 (qOf (I c)) (headOf (I c).k c 1 6) (headOf (I c).v c 1 6))) Kt := by
  rw [k0_part16_eq_skeleton]; unfold k0_part16_skel
  simp only [Prog.lift, Prog.bind_op, Prog.bind_ret, Prog.pure_eq_ret]
  iintro ⟨H, Hk⟩
  iapply (stC I c 1 1 6 14 ![64, 768] inb_S256x1024_S64x128_64_768 rfl rfl (st_1_6 _ _ _)) $$ [H]
  · iexact H
  iintro H
  iapply (ldK I c 1 1 7 15 ![1, 0, 0, 7, 0] inb_S2x16x64x8x128_S1x16x64x1x128_1_0_0_7_0 rfl) $$ [H]
  · iexact H
  iintro H
  iapply (ldV I c 1 1 7 15 ![1, 0, 0, 7, 0] inb_S2x16x64x8x128_S1x16x64x1x128_1_0_0_7_0 rfl) $$ [H]
  · iexact H
  iintro H
  iapply (ldC I c 1 1 15 ![64, 896] inb_S256x1024_S64x128_64_896) $$ [H]
  · iexact H
  iintro H
  iapply (stC I c 1 1 7 15 ![64, 896] inb_S256x1024_S64x128_64_896 rfl rfl (st_1_7 _ _ _)) $$ [H]
  · iexact H
  iintro H
  iapply (WP_ret c)
  iapply Hk; iexact H

/-- Part 18 of the body: the blocks of the context that are done go from 16 to 17. -/
theorem part18 (Kt) :
    iprop(hold I c 0 2 16 ∗ (hold I c 0 2 17 -∗ Kt ⟨k0_pay39 (qOf (I c)), k0_pay40 (headOf (I c).k c 2 1), k0_pay41 (headOf (I c).v c 2 1)⟩))
      ⊢ WP c (k0_part18 xM (Memref.isWhole_whole _) wqM (Memref.isWhole_whole _) kM (Memref.isWhole_whole _) vM (Memref.isWhole_whole _) woM (Memref.isWhole_whole _) oM (Memref.isWhole_whole _) kbM (Memref.isWhole_whole _) vbM (Memref.isWhole_whole _) cM (Memref.isWhole_whole _) pM (Memref.isWhole_whole _) sM (Memref.isWhole_whole _) aM (Memref.isWhole_whole _) bM (Memref.isWhole_whole _) cc0_scratch7 cc0_scratch8 cc0_scratch9 (qOf (I c)) (k0_pay37 (qOf (I c)))) Kt := by
  rw [k0_part18_eq_skeleton]; unfold k0_part18_skel
  simp only [Prog.lift, Prog.bind_op, Prog.bind_ret, Prog.pure_eq_ret]
  iintro ⟨H, Hk⟩
  iapply (ldK I c 0 2 0 16 ![0, 0, 0, 0, 0] inb_S2x16x64x8x128_S1x16x64x1x128_0_0_0_0_0 rfl) $$ [H]
  · iexact H
  iintro H
  iapply (ldV I c 0 2 0 16 ![0, 0, 0, 0, 0] inb_S2x16x64x8x128_S1x16x64x1x128_0_0_0_0_0 rfl) $$ [H]
  · iexact H
  iintro H
  iapply (ldC I c 0 2 16 ![128, 0] inb_S256x1024_S64x128_128_0) $$ [H]
  · iexact H
  iintro H
  iapply (stC I c 0 2 0 16 ![128, 0] inb_S256x1024_S64x128_128_0 rfl rfl (st_2_0 _ _ _)) $$ [H]
  · iexact H
  iintro H
  iapply (ldK I c 0 2 1 17 ![0, 0, 0, 1, 0] inb_S2x16x64x8x128_S1x16x64x1x128_0_0_0_1_0 rfl) $$ [H]
  · iexact H
  iintro H
  iapply (ldV I c 0 2 1 17 ![0, 0, 0, 1, 0] inb_S2x16x64x8x128_S1x16x64x1x128_0_0_0_1_0 rfl) $$ [H]
  · iexact H
  iintro H
  iapply (WP_ret c)
  iapply Hk; iexact H

/-- Part 19 of the body: the blocks of the context that are done go from 17 to 18. -/
theorem part19 (Kt) :
    iprop(hold I c 0 2 17 ∗ (hold I c 0 2 18 -∗ Kt (k0_pay43 (qOf (I c)) (headOf (I c).k c 2 2) (headOf (I c).v c 2 2))))
      ⊢ WP c (k0_part19 xM (Memref.isWhole_whole _) wqM (Memref.isWhole_whole _) kM (Memref.isWhole_whole _) vM (Memref.isWhole_whole _) woM (Memref.isWhole_whole _) oM (Memref.isWhole_whole _) kbM (Memref.isWhole_whole _) vbM (Memref.isWhole_whole _) cM (Memref.isWhole_whole _) pM (Memref.isWhole_whole _) sM (Memref.isWhole_whole _) aM (Memref.isWhole_whole _) bM (Memref.isWhole_whole _) cc0_scratch7 cc0_scratch8 cc0_scratch9 (qOf (I c)) (k0_pay39 (qOf (I c))) (k0_pay40 (headOf (I c).k c 2 1)) (k0_pay41 (headOf (I c).v c 2 1))) Kt := by
  rw [k0_part19_eq_skeleton]; unfold k0_part19_skel
  simp only [Prog.lift, Prog.bind_op, Prog.bind_ret, Prog.pure_eq_ret]
  iintro ⟨H, Hk⟩
  iapply (ldC I c 0 2 17 ![128, 128] inb_S256x1024_S64x128_128_128) $$ [H]
  · iexact H
  iintro H
  iapply (stC I c 0 2 1 17 ![128, 128] inb_S256x1024_S64x128_128_128 rfl rfl (st_2_1 _ _ _)) $$ [H]
  · iexact H
  iintro H
  iapply (ldK I c 0 2 2 18 ![0, 0, 0, 2, 0] inb_S2x16x64x8x128_S1x16x64x1x128_0_0_0_2_0 rfl) $$ [H]
  · iexact H
  iintro H
  iapply (ldV I c 0 2 2 18 ![0, 0, 0, 2, 0] inb_S2x16x64x8x128_S1x16x64x1x128_0_0_0_2_0 rfl) $$ [H]
  · iexact H
  iintro H
  iapply (WP_ret c)
  iapply Hk; iexact H

/-- Part 20 of the body: the blocks of the context that are done go from 18 to 20. -/
theorem part20 (Kt) :
    iprop(hold I c 0 2 18 ∗ (hold I c 0 2 20 -∗ Kt ⟨k0_pay46 (qOf (I c)), k0_pay47 (headOf (I c).k c 2 4)⟩))
      ⊢ WP c (k0_part20 xM (Memref.isWhole_whole _) wqM (Memref.isWhole_whole _) kM (Memref.isWhole_whole _) vM (Memref.isWhole_whole _) woM (Memref.isWhole_whole _) oM (Memref.isWhole_whole _) kbM (Memref.isWhole_whole _) vbM (Memref.isWhole_whole _) cM (Memref.isWhole_whole _) pM (Memref.isWhole_whole _) sM (Memref.isWhole_whole _) aM (Memref.isWhole_whole _) bM (Memref.isWhole_whole _) cc0_scratch7 cc0_scratch8 cc0_scratch9 (qOf (I c)) (k0_pay43 (qOf (I c)) (headOf (I c).k c 2 2) (headOf (I c).v c 2 2))) Kt := by
  rw [k0_part20_eq_skeleton]; unfold k0_part20_skel
  simp only [Prog.lift, Prog.bind_op, Prog.bind_ret, Prog.pure_eq_ret]
  iintro ⟨H, Hk⟩
  iapply (ldC I c 0 2 18 ![128, 256] inb_S256x1024_S64x128_128_256) $$ [H]
  · iexact H
  iintro H
  iapply (stC I c 0 2 2 18 ![128, 256] inb_S256x1024_S64x128_128_256 rfl rfl (st_2_2 _ _ _)) $$ [H]
  · iexact H
  iintro H
  iapply (ldK I c 0 2 3 19 ![0, 0, 0, 3, 0] inb_S2x16x64x8x128_S1x16x64x1x128_0_0_0_3_0 rfl) $$ [H]
  · iexact H
  iintro H
  iapply (ldV I c 0 2 3 19 ![0, 0, 0, 3, 0] inb_S2x16x64x8x128_S1x16x64x1x128_0_0_0_3_0 rfl) $$ [H]
  · iexact H
  iintro H
  iapply (ldC I c 0 2 19 ![128, 384] inb_S256x1024_S64x128_128_384) $$ [H]
  · iexact H
  iintro H
  iapply (stC I c 0 2 3 19 ![128, 384] inb_S256x1024_S64x128_128_384 rfl rfl (st_2_3 _ _ _)) $$ [H]
  · iexact H
  iintro H
  iapply (ldK I c 0 2 4 20 ![0, 0, 0, 4, 0] inb_S2x16x64x8x128_S1x16x64x1x128_0_0_0_4_0 rfl) $$ [H]
  · iexact H
  iintro H
  iapply (WP_ret c)
  iapply Hk; iexact H

/-- Part 21 of the body: the blocks of the context that are done go from 20 to 21. -/
theorem part21 (Kt) :
    iprop(hold I c 0 2 20 ∗ (hold I c 0 2 21 -∗ Kt ⟨k0_pay49 (headOf (I c).v c 2 5), k0_pay50 (qOf (I c)) (headOf (I c).k c 2 5)⟩))
      ⊢ WP c (k0_part21 xM (Memref.isWhole_whole _) wqM (Memref.isWhole_whole _) kM (Memref.isWhole_whole _) vM (Memref.isWhole_whole _) woM (Memref.isWhole_whole _) oM (Memref.isWhole_whole _) kbM (Memref.isWhole_whole _) vbM (Memref.isWhole_whole _) cM (Memref.isWhole_whole _) pM (Memref.isWhole_whole _) sM (Memref.isWhole_whole _) aM (Memref.isWhole_whole _) bM (Memref.isWhole_whole _) cc0_scratch7 cc0_scratch8 cc0_scratch9 (qOf (I c)) (k0_pay46 (qOf (I c))) (k0_pay47 (headOf (I c).k c 2 4))) Kt := by
  rw [k0_part21_eq_skeleton]; unfold k0_part21_skel
  simp only [Prog.lift, Prog.bind_op, Prog.bind_ret, Prog.pure_eq_ret]
  iintro ⟨H, Hk⟩
  iapply (ldV I c 0 2 4 20 ![0, 0, 0, 4, 0] inb_S2x16x64x8x128_S1x16x64x1x128_0_0_0_4_0 rfl) $$ [H]
  · iexact H
  iintro H
  iapply (ldC I c 0 2 20 ![128, 512] inb_S256x1024_S64x128_128_512) $$ [H]
  · iexact H
  iintro H
  iapply (stC I c 0 2 4 20 ![128, 512] inb_S256x1024_S64x128_128_512 rfl rfl (st_2_4 _ _ _)) $$ [H]
  · iexact H
  iintro H
  iapply (ldK I c 0 2 5 21 ![0, 0, 0, 5, 0] inb_S2x16x64x8x128_S1x16x64x1x128_0_0_0_5_0 rfl) $$ [H]
  · iexact H
  iintro H
  iapply (ldV I c 0 2 5 21 ![0, 0, 0, 5, 0] inb_S2x16x64x8x128_S1x16x64x1x128_0_0_0_5_0 rfl) $$ [H]
  · iexact H
  iintro H
  iapply (WP_ret c)
  iapply Hk; iexact H

/-- Part 22 of the body: the blocks of the context that are done go from 21 to 23. -/
theorem part22 (Kt) :
    iprop(hold I c 0 2 21 ∗ (hold I c 0 2 23 -∗ Kt (k0_pay53 (qOf (I c)))))
      ⊢ WP c (k0_part22 xM (Memref.isWhole_whole _) wqM (Memref.isWhole_whole _) kM (Memref.isWhole_whole _) vM (Memref.isWhole_whole _) woM (Memref.isWhole_whole _) oM (Memref.isWhole_whole _) kbM (Memref.isWhole_whole _) vbM (Memref.isWhole_whole _) cM (Memref.isWhole_whole _) pM (Memref.isWhole_whole _) sM (Memref.isWhole_whole _) aM (Memref.isWhole_whole _) bM (Memref.isWhole_whole _) cc0_scratch7 cc0_scratch8 cc0_scratch9 (qOf (I c)) (k0_pay49 (headOf (I c).v c 2 5)) (k0_pay50 (qOf (I c)) (headOf (I c).k c 2 5))) Kt := by
  rw [k0_part22_eq_skeleton]; unfold k0_part22_skel
  simp only [Prog.lift, Prog.bind_op, Prog.bind_ret, Prog.pure_eq_ret]
  iintro ⟨H, Hk⟩
  iapply (ldC I c 0 2 21 ![128, 640] inb_S256x1024_S64x128_128_640) $$ [H]
  · iexact H
  iintro H
  iapply (stC I c 0 2 5 21 ![128, 640] inb_S256x1024_S64x128_128_640 rfl rfl (st_2_5 _ _ _)) $$ [H]
  · iexact H
  iintro H
  iapply (ldK I c 0 2 6 22 ![0, 0, 0, 6, 0] inb_S2x16x64x8x128_S1x16x64x1x128_0_0_0_6_0 rfl) $$ [H]
  · iexact H
  iintro H
  iapply (ldV I c 0 2 6 22 ![0, 0, 0, 6, 0] inb_S2x16x64x8x128_S1x16x64x1x128_0_0_0_6_0 rfl) $$ [H]
  · iexact H
  iintro H
  iapply (ldC I c 0 2 22 ![128, 768] inb_S256x1024_S64x128_128_768) $$ [H]
  · iexact H
  iintro H
  iapply (stC I c 0 2 6 22 ![128, 768] inb_S256x1024_S64x128_128_768 rfl rfl (st_2_6 _ _ _)) $$ [H]
  · iexact H
  iintro H
  iapply (WP_ret c)
  iapply Hk; iexact H

/-- Part 25 of the body: the blocks of the context that are done go from 25 to 26. -/
theorem part25 (Kt) :
    iprop(hold I c 1 3 25 ∗ (hold I c 1 3 26 -∗ Kt ⟨k0_pay57 (qOf (I c)), k0_pay58 (headOf (I c).k c 3 2), (headOf (I c).v c 3 2)⟩))
      ⊢ WP c (k0_part25 xM (Memref.isWhole_whole _) wqM (Memref.isWhole_whole _) kM (Memref.isWhole_whole _) vM (Memref.isWhole_whole _) woM (Memref.isWhole_whole _) oM (Memref.isWhole_whole _) kbM (Memref.isWhole_whole _) vbM (Memref.isWhole_whole _) cM (Memref.isWhole_whole _) pM (Memref.isWhole_whole _) sM (Memref.isWhole_whole _) aM (Memref.isWhole_whole _) bM (Memref.isWhole_whole _) cc0_scratch7 cc0_scratch8 cc0_scratch9 (qOf (I c))) Kt := by
  rw [k0_part25_eq_skeleton]; unfold k0_part25_skel
  simp only [Prog.lift, Prog.bind_op, Prog.bind_ret, Prog.pure_eq_ret]
  iintro ⟨H, Hk⟩
  iapply (ldK I c 1 3 1 25 ![1, 0, 0, 1, 0] inb_S2x16x64x8x128_S1x16x64x1x128_1_0_0_1_0 rfl) $$ [H]
  · iexact H
  iintro H
  iapply (ldV I c 1 3 1 25 ![1, 0, 0, 1, 0] inb_S2x16x64x8x128_S1x16x64x1x128_1_0_0_1_0 rfl) $$ [H]
  · iexact H
  iintro H
  iapply (ldC I c 1 3 25 ![192, 128] inb_S256x1024_S64x128_192_128) $$ [H]
  · iexact H
  iintro H
  iapply (stC I c 1 3 1 25 ![192, 128] inb_S256x1024_S64x128_192_128 rfl rfl (st_3_1 _ _ _)) $$ [H]
  · iexact H
  iintro H
  iapply (ldK I c 1 3 2 26 ![1, 0, 0, 2, 0] inb_S2x16x64x8x128_S1x16x64x1x128_1_0_0_2_0 rfl) $$ [H]
  · iexact H
  iintro H
  iapply (ldV I c 1 3 2 26 ![1, 0, 0, 2, 0] inb_S2x16x64x8x128_S1x16x64x1x128_1_0_0_2_0 rfl) $$ [H]
  · iexact H
  iintro H
  iapply (WP_ret c)
  iapply Hk; iexact H

/-- Part 26 of the body: the blocks of the context that are done go from 26 to 27. -/
theorem part26 (Kt) :
    iprop(hold I c 1 3 26 ∗ (hold I c 1 3 27 -∗ Kt ⟨k0_pay60 (headOf (I c).v c 3 3), k0_pay61 (qOf (I c)) (headOf (I c).k c 3 3)⟩))
      ⊢ WP c (k0_part26 xM (Memref.isWhole_whole _) wqM (Memref.isWhole_whole _) kM (Memref.isWhole_whole _) vM (Memref.isWhole_whole _) woM (Memref.isWhole_whole _) oM (Memref.isWhole_whole _) kbM (Memref.isWhole_whole _) vbM (Memref.isWhole_whole _) cM (Memref.isWhole_whole _) pM (Memref.isWhole_whole _) sM (Memref.isWhole_whole _) aM (Memref.isWhole_whole _) bM (Memref.isWhole_whole _) cc0_scratch7 cc0_scratch8 cc0_scratch9 (qOf (I c)) (k0_pay57 (qOf (I c))) (k0_pay58 (headOf (I c).k c 3 2)) ((headOf (I c).v c 3 2))) Kt := by
  rw [k0_part26_eq_skeleton]; unfold k0_part26_skel
  simp only [Prog.lift, Prog.bind_op, Prog.bind_ret, Prog.pure_eq_ret]
  iintro ⟨H, Hk⟩
  iapply (ldC I c 1 3 26 ![192, 256] inb_S256x1024_S64x128_192_256) $$ [H]
  · iexact H
  iintro H
  iapply (stC I c 1 3 2 26 ![192, 256] inb_S256x1024_S64x128_192_256 rfl rfl (st_3_2 _ _ _)) $$ [H]
  · iexact H
  iintro H
  iapply (ldK I c 1 3 3 27 ![1, 0, 0, 3, 0] inb_S2x16x64x8x128_S1x16x64x1x128_1_0_0_3_0 rfl) $$ [H]
  · iexact H
  iintro H
  iapply (ldV I c 1 3 3 27 ![1, 0, 0, 3, 0] inb_S2x16x64x8x128_S1x16x64x1x128_1_0_0_3_0 rfl) $$ [H]
  · iexact H
  iintro H
  iapply (WP_ret c)
  iapply Hk; iexact H

/-- Part 27 of the body: the blocks of the context that are done go from 27 to 29. -/
theorem part27 (Kt) :
    iprop(hold I c 1 3 27 ∗ (hold I c 1 3 29 -∗ Kt ⟨k0_pay64 (qOf (I c)), (headOf (I c).k c 3 5)⟩))
      ⊢ WP c (k0_part27 xM (Memref.isWhole_whole _) wqM (Memref.isWhole_whole _) kM (Memref.isWhole_whole _) vM (Memref.isWhole_whole _) woM (Memref.isWhole_whole _) oM (Memref.isWhole_whole _) kbM (Memref.isWhole_whole _) vbM (Memref.isWhole_whole _) cM (Memref.isWhole_whole _) pM (Memref.isWhole_whole _) sM (Memref.isWhole_whole _) aM (Memref.isWhole_whole _) bM (Memref.isWhole_whole _) cc0_scratch7 cc0_scratch8 cc0_scratch9 (qOf (I c)) (k0_pay60 (headOf (I c).v c 3 3)) (k0_pay61 (qOf (I c)) (headOf (I c).k c 3 3))) Kt := by
  rw [k0_part27_eq_skeleton]; unfold k0_part27_skel
  simp only [Prog.lift, Prog.bind_op, Prog.bind_ret, Prog.pure_eq_ret]
  iintro ⟨H, Hk⟩
  iapply (ldC I c 1 3 27 ![192, 384] inb_S256x1024_S64x128_192_384) $$ [H]
  · iexact H
  iintro H
  iapply (stC I c 1 3 3 27 ![192, 384] inb_S256x1024_S64x128_192_384 rfl rfl (st_3_3 _ _ _)) $$ [H]
  · iexact H
  iintro H
  iapply (ldK I c 1 3 4 28 ![1, 0, 0, 4, 0] inb_S2x16x64x8x128_S1x16x64x1x128_1_0_0_4_0 rfl) $$ [H]
  · iexact H
  iintro H
  iapply (ldV I c 1 3 4 28 ![1, 0, 0, 4, 0] inb_S2x16x64x8x128_S1x16x64x1x128_1_0_0_4_0 rfl) $$ [H]
  · iexact H
  iintro H
  iapply (ldC I c 1 3 28 ![192, 512] inb_S256x1024_S64x128_192_512) $$ [H]
  · iexact H
  iintro H
  iapply (stC I c 1 3 4 28 ![192, 512] inb_S256x1024_S64x128_192_512 rfl rfl (st_3_4 _ _ _)) $$ [H]
  · iexact H
  iintro H
  iapply (ldK I c 1 3 5 29 ![1, 0, 0, 5, 0] inb_S2x16x64x8x128_S1x16x64x1x128_1_0_0_5_0 rfl) $$ [H]
  · iexact H
  iintro H
  iapply (WP_ret c)
  iapply Hk; iexact H

/-- Part 28 of the body: the blocks of the context that are done go from 29 to 30. -/
theorem part28 (Kt) :
    iprop(hold I c 1 3 29 ∗ (hold I c 1 3 30 -∗ Kt ⟨k0_pay66 (headOf (I c).v c 3 6), k0_pay67 (qOf (I c)) (headOf (I c).k c 3 6), k0_pay68 (qOf (I c)) (headOf (I c).k c 3 6)⟩))
      ⊢ WP c (k0_part28 xM (Memref.isWhole_whole _) wqM (Memref.isWhole_whole _) kM (Memref.isWhole_whole _) vM (Memref.isWhole_whole _) woM (Memref.isWhole_whole _) oM (Memref.isWhole_whole _) kbM (Memref.isWhole_whole _) vbM (Memref.isWhole_whole _) cM (Memref.isWhole_whole _) pM (Memref.isWhole_whole _) sM (Memref.isWhole_whole _) aM (Memref.isWhole_whole _) bM (Memref.isWhole_whole _) cc0_scratch7 cc0_scratch8 cc0_scratch9 (qOf (I c)) (k0_pay64 (qOf (I c))) ((headOf (I c).k c 3 5))) Kt := by
  rw [k0_part28_eq_skeleton]; unfold k0_part28_skel
  simp only [Prog.lift, Prog.bind_op, Prog.bind_ret, Prog.pure_eq_ret]
  iintro ⟨H, Hk⟩
  iapply (ldV I c 1 3 5 29 ![1, 0, 0, 5, 0] inb_S2x16x64x8x128_S1x16x64x1x128_1_0_0_5_0 rfl) $$ [H]
  · iexact H
  iintro H
  iapply (ldC I c 1 3 29 ![192, 640] inb_S256x1024_S64x128_192_640) $$ [H]
  · iexact H
  iintro H
  iapply (stC I c 1 3 5 29 ![192, 640] inb_S256x1024_S64x128_192_640 rfl rfl (st_3_5 _ _ _)) $$ [H]
  · iexact H
  iintro H
  iapply (ldK I c 1 3 6 30 ![1, 0, 0, 6, 0] inb_S2x16x64x8x128_S1x16x64x1x128_1_0_0_6_0 rfl) $$ [H]
  · iexact H
  iintro H
  iapply (ldV I c 1 3 6 30 ![1, 0, 0, 6, 0] inb_S2x16x64x8x128_S1x16x64x1x128_1_0_0_6_0 rfl) $$ [H]
  · iexact H
  iintro H
  iapply (WP_ret c)
  iapply Hk; iexact H

/-- Part 29 of the body: the blocks of the context that are done go from 30 to 31. -/
theorem part29 (Kt) :
    iprop(hold I c 1 3 30 ∗ (hold I c 1 3 31 -∗ Kt (k0_pay70 (qOf (I c)) (headOf (I c).k c 3 7) (headOf (I c).v c 3 7))))
      ⊢ WP c (k0_part29 xM (Memref.isWhole_whole _) wqM (Memref.isWhole_whole _) kM (Memref.isWhole_whole _) vM (Memref.isWhole_whole _) woM (Memref.isWhole_whole _) oM (Memref.isWhole_whole _) kbM (Memref.isWhole_whole _) vbM (Memref.isWhole_whole _) cM (Memref.isWhole_whole _) pM (Memref.isWhole_whole _) sM (Memref.isWhole_whole _) aM (Memref.isWhole_whole _) bM (Memref.isWhole_whole _) cc0_scratch7 cc0_scratch8 cc0_scratch9 (qOf (I c)) (k0_pay66 (headOf (I c).v c 3 6)) (k0_pay67 (qOf (I c)) (headOf (I c).k c 3 6)) (k0_pay68 (qOf (I c)) (headOf (I c).k c 3 6))) Kt := by
  rw [k0_part29_eq_skeleton]; unfold k0_part29_skel
  simp only [Prog.lift, Prog.bind_op, Prog.bind_ret, Prog.pure_eq_ret]
  iintro ⟨H, Hk⟩
  iapply (ldC I c 1 3 30 ![192, 768] inb_S256x1024_S64x128_192_768) $$ [H]
  · iexact H
  iintro H
  iapply (stC I c 1 3 6 30 ![192, 768] inb_S256x1024_S64x128_192_768 rfl rfl (st_3_6 _ _ _)) $$ [H]
  · iexact H
  iintro H
  iapply (ldK I c 1 3 7 31 ![1, 0, 0, 7, 0] inb_S2x16x64x8x128_S1x16x64x1x128_1_0_0_7_0 rfl) $$ [H]
  · iexact H
  iintro H
  iapply (ldV I c 1 3 7 31 ![1, 0, 0, 7, 0] inb_S2x16x64x8x128_S1x16x64x1x128_1_0_0_7_0 rfl) $$ [H]
  · iexact H
  iintro H
  iapply (ldC I c 1 3 31 ![192, 896] inb_S256x1024_S64x128_192_896) $$ [H]
  · iexact H
  iintro H
  iapply (WP_ret c)
  iapply Hk; iexact H

end Cert.KernelIdeal.Own

end
-- ==== Proof.Talk.lean ====
/- The parts of the kernel's body that start and await copies into the double buffers. -/
module

public import proofs.«01_k».proof.Proof.Heads

@[expose] public section

set_option maxRecDepth 16384
set_option synthInstance.maxSize 4096

noncomputable section

namespace Cert.KernelIdeal.Own

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ
variable (I : Dev nD → Inp F) (c : Dev nD)

/-- Reading a whole buffer. -/
theorem ldWhole {α : Type} {Q : α → sProp (MT nD τ sig Unit (Elt F) ℕ UU ℕ)} {cs : CoreSpace} {i : Fin (sig.nNear .tc cs)}
    {hκ : sig.names .tc cs i = true} (f : (sig.tyNear .tc cs i).Contents (Elt F))
    {off : Fin (sig.tyNear .tc cs i).shape.rank → ℕ}
    (inb : ∀ a, off a + (sig.tyNear .tc cs i).shape.size a ≤ (sig.tyNear .tc cs i).shape.size a) (h0 : off = fun _ => 0)
    {hl : (Memref.whole ⟨cs, i, hκ⟩ : Memref sig .tc _ _ _).view.LoadsAt (Rect.unit off (sig.tyNear .tc cs i).shape.size inb).toLoadRect}
    {k : (sig.tyNear .tc cs i).Contents (Elt F) → Prog (TpuEff nD τ sig (Elt F) Λ₀ .tc) α} :
    pt c ⟨cs, i, hκ⟩ f ⊢ iprop((pt c ⟨cs, i, hκ⟩ f -∗ WP c (k f) Q)
      -∗ WP c (.op (.load (Memref.whole ⟨cs, i, hκ⟩) (Rect.unit off (sig.tyNear .tc cs i).shape.size inb).toLoadRect hl) k) Q) := by
  have h := wp_load (defs := defs₀ (F := F)) 𝒱₀ (c : Thread nD τ) none (Γ := .empty) Set.univ (Q := Q) (m := Memref.whole ⟨cs, i, hκ⟩)
    (r := (Rect.unit off (sig.tyNear .tc cs i).shape.size inb).toLoadRect) (hl := hl) (k := k) (q := fullShare) (f := f)
    (S := Finset.univ) (Finset.subset_univ _)
  rwa [Memref.readAt_unit_zero (Elt F) _ h0] at h

/-- Writing a whole buffer. -/
theorem stWhole {α : Type} {Q : α → sProp (MT nD τ sig Unit (Elt F) ℕ UU ℕ)} {cs : CoreSpace} {i : Fin (sig.nNear .tc cs)}
    {hκ : sig.names .tc cs i = true} (f w : (sig.tyNear .tc cs i).Contents (Elt F))
    {off : Fin (sig.tyNear .tc cs i).shape.rank → ℕ}
    (inb : ∀ a, off a + (sig.tyNear .tc cs i).shape.size a ≤ (sig.tyNear .tc cs i).shape.size a) (h0 : off = fun _ => 0)
    {hx : ((Memref.whole ⟨cs, i, hκ⟩).access (Rect.unit off (sig.tyNear .tc cs i).shape.size inb) : View sig .tc _ _ _).Stores Finset.univ}
    {hm : Finset.univ = Finset.univ ∨ ∀ a, (Rect.unit off (sig.tyNear .tc cs i).shape.size inb).stride a = 1}
    {k : PUnit → Prog (TpuEff nD τ sig (Elt F) Λ₀ .tc) α} :
    pt c ⟨cs, i, hκ⟩ f ⊢ iprop((pt c ⟨cs, i, hκ⟩ w -∗ WP c (k ⟨⟩) Q)
      -∗ WP c (.op (.store (Memref.whole ⟨cs, i, hκ⟩) (Rect.unit off (sig.tyNear .tc cs i).shape.size inb) w Finset.univ hx hm) k) Q) := by
  have h := wp_store (defs := defs₀ (F := F)) 𝒱₀ (c : Thread nD τ) none (Γ := .empty) Set.univ (Q := Q) (m := Memref.whole ⟨cs, i, hκ⟩)
    (r := Rect.unit off (sig.tyNear .tc cs i).shape.size inb) (w := w) (Mk := Finset.univ) (hx := hx) (hm := hm) (k := k) (f := f)
    (S := Finset.univ) (Finset.subset_univ _)
  rwa [Memref.write_access_unit_zero_univ (Elt F) _ h0] at h

/-! ## The cells the program names -/

/-- The keys' semaphore of slot 0. -/
theorem sem00 : ((cc0_scratch7.slice (Rect.unit (s := S2x2) ![0, 0] S1x1.size inb_S2x2_S1x1_0_0)).squeeze S_ squeezes_S1x1_S_).sem = (4 : DmaSem sig) := by decide
/-- The values' semaphore of slot 0. -/
theorem sem01 : ((cc0_scratch7.slice (Rect.unit (s := S2x2) ![0, 1] S1x1.size inb_S2x2_S1x1_0_1)).squeeze S_ squeezes_S1x1_S_).sem = (5 : DmaSem sig) := by decide
/-- The keys' semaphore of slot 1. -/
theorem sem10 : ((cc0_scratch7.slice (Rect.unit (s := S2x2) ![1, 0] S1x1.size inb_S2x2_S1x1_1_0)).squeeze S_ squeezes_S1x1_S_).sem = (6 : DmaSem sig) := by decide
/-- The values' semaphore of slot 1. -/
theorem sem11 : ((cc0_scratch7.slice (Rect.unit (s := S2x2) ![1, 1] S1x1.size inb_S2x2_S1x1_1_1)).squeeze S_ squeezes_S1x1_S_).sem = (7 : DmaSem sig) := by decide
/-- The first sending semaphore. -/
theorem semS0 : ((cc0_scratch8.slice (Rect.unit (s := S2) ![0] S1.size inb_S2_S1_0)).squeeze S_ squeezes_S1_S_).sem = (8 : DmaSem sig) := by decide
/-- The second sending semaphore. -/
theorem semS1 : ((cc0_scratch8.slice (Rect.unit (s := S2) ![1] S1.size inb_S2_S1_1)).squeeze S_ squeezes_S1_S_).sem = (9 : DmaSem sig) := by decide
/-- The first receiving semaphore. -/
theorem semR0 : ((cc0_scratch9.slice (Rect.unit (s := S2) ![0] S1.size inb_S2_S1_0)).squeeze S_ squeezes_S1_S_).sem = (10 : DmaSem sig) := by decide
/-- The second receiving semaphore. -/
theorem semR1 : ((cc0_scratch9.slice (Rect.unit (s := S2) ![1] S1.size inb_S2_S1_1)).squeeze S_ squeezes_S1_S_).sem = (11 : DmaSem sig) := by decide

/-- The last first fill starts; the queries are made; the first keys are in. -/
theorem part3 (KK : GSem nD τ sig → ℕ) (Kt) :
    iprop(kvEnv I c KK ∗ idleV I c 1 7 0 ∗ pt c cc0_stg0_0 (I c).x ∗ pt c cc0_stg1_0 (I c).wq ∗ flyK I c 0 0 4 0 ∗ OW c
        ∗ (flyV I c 1 1 7 0 ∗ pt c cc0_stg0_0 (I c).x ∗ pt c cc0_stg1_0 (I c).wq ∗ OW c ∗ kbPts c 0 (slotOf (I c).k c 0) ∗ restK I c 0 4 1 -∗ Kt (qOf (I c))))
      ⊢ WP c (k0_part3 xM (Memref.isWhole_whole _) wqM (Memref.isWhole_whole _) kM (Memref.isWhole_whole _) vM (Memref.isWhole_whole _) woM (Memref.isWhole_whole _) oM (Memref.isWhole_whole _) kbM (Memref.isWhole_whole _) vbM (Memref.isWhole_whole _) cM (Memref.isWhole_whole _) pM (Memref.isWhole_whole _) sM (Memref.isWhole_whole _) aM (Memref.isWhole_whole _) bM (Memref.isWhole_whole _) cc0_scratch7 cc0_scratch8 cc0_scratch9 c) Kt := by
  rw [show qOf (I c) = k0_pay2 (I c).x (I c).wq from rfl]
  rw [k0_part3_eq_skeleton]; unfold k0_part3_skel kvEnv
  simp only [Prog.lift, Prog.bind_op, Prog.bind_ret, Prog.pure_eq_ret]
  iintro ⟨⟨#E4, #E5, #E6, #E7, #Hlev⟩, IV1, Hx, Hw, FK0, HO, Hk⟩
  iapply (startV I c 1 1 0 7 (κ := KK (dCell c 7)) (by decide) (by decide) (by decide) rfl (k0_off2 c) (k0_off2_inb c) (off2_eq c)
    ![1, 0, 0, 0, 0] inb_S2x16x64x8x128_S1x16x64x8x128_1_0_0_0_0 rfl (hsrc := ((View.wordExact_bits rfl).reshape _ _)) (hdst := ((View.wordExact_bits rfl).reshape _ _)) (hsem := ⟨Or.inl rfl, trivial⟩)) $$ [IV1]
  · isplitr; · iexact E7
    iexact IV1
  iintro FV1
  iapply (ldWhole c (cs := .vmem) (i := 0) (hκ := rfl) (I c).x inb_S256x1024_S256x1024_0_0 (by decide)) $$ [Hx]
  · iexact Hx
  iintro Hx
  iapply (ldWhole c (cs := .vmem) (i := 1) (hκ := rfl) (I c).wq inb_S1024x1024_S1024x1024_0_0 (by decide)) $$ [Hw]
  · iexact Hw
  iintro Hw
  iapply (doneK I c 0 0 0 4 (κ := KK (dCell c 4)) (by decide) (by decide) (by decide) rfl (srcAt kM (k0_off1 c) (k0_off1_inb c))
    ![0, 0, 0, 0, 0] inb_S2x16x64x8x128_S1x16x64x8x128_0_0_0_0_0 (hsrc := ((View.wordExact_bits rfl).reshape _ _)) (hdst := ((View.wordExact_bits rfl).reshape _ _))) $$ [FK0 HO]
  · isplitr; · iexact E4
    isplitr; · iexact Hlev
    isplitl [FK0]; · iexact FK0
    iexact HO
  iintro ⟨HO, BK0, RK0⟩
  iapply (WP_ret c)
  iapply Hk
  isplitl [FV1]; · iexact FV1
  isplitl [Hx]; · iexact Hx
  isplitl [Hw]; · iexact Hw
  isplitl [HO]; · iexact HO
  isplitl [BK0]; · iexact BK0
  iexact RK0

/-- The first values are in; the first block of the context is stored. -/
theorem part4 (KK : GSem nD τ sig → ℕ) (Kt) :
    iprop(kvEnv I c KK ∗ flyV I c 0 0 5 0 ∗ OW c ∗ kbPts c 0 (slotOf (I c).k c 0) ∗ cAg I c 0
        ∗ (restV I c 0 5 1 ∗ OW c ∗ hold I c 0 0 1 -∗ Kt ⟨k0_pay4 (qOf (I c)), k0_pay5 (headOf (I c).k c 0 1)⟩))
      ⊢ WP c (k0_part4 xM (Memref.isWhole_whole _) wqM (Memref.isWhole_whole _) kM (Memref.isWhole_whole _) vM (Memref.isWhole_whole _) woM (Memref.isWhole_whole _) oM (Memref.isWhole_whole _) kbM (Memref.isWhole_whole _) vbM (Memref.isWhole_whole _) cM (Memref.isWhole_whole _) pM (Memref.isWhole_whole _) sM (Memref.isWhole_whole _) aM (Memref.isWhole_whole _) bM (Memref.isWhole_whole _) cc0_scratch7 cc0_scratch8 cc0_scratch9 c (qOf (I c))) Kt := by
  rw [k0_part4_eq_skeleton]; unfold k0_part4_skel kvEnv
  simp only [Prog.lift, Prog.bind_op, Prog.bind_ret, Prog.pure_eq_ret]
  iintro ⟨⟨#E4, #E5, #E6, #E7, #Hlev⟩, FV0, HO, BK0, HC, Hk⟩
  iapply (doneV I c 0 0 0 5 (κ := KK (dCell c 5)) (by decide) (by decide) (by decide) rfl (srcAt vM (k0_off1 c) (k0_off1_inb c))
    ![0, 0, 0, 0, 0] inb_S2x16x64x8x128_S1x16x64x8x128_0_0_0_0_0 (hsrc := ((View.wordExact_bits rfl).reshape _ _)) (hdst := ((View.wordExact_bits rfl).reshape _ _))) $$ [FV0 HO]
  · isplitr; · iexact E5
    isplitr; · iexact Hlev
    isplitl [FV0]; · iexact FV0
    iexact HO
  iintro ⟨HO, BV0, RV0⟩
  ihave H := (Entails.of_eq rfl : iprop(kbPts c 0 _ ∗ vbPts c 0 _ ∗ cAg I c _) ⊢ hold I c 0 _ _) $$ [BK0 BV0 HC]
  · isplitl [BK0]; · iexact BK0
    isplitl [BV0]; · iexact BV0
    iexact HC
  iapply (ldK I c 0 0 0 0 ![0, 0, 0, 0, 0] inb_S2x16x64x8x128_S1x16x64x1x128_0_0_0_0_0 rfl) $$ [H]
  · iexact H
  iintro H
  iapply (ldV I c 0 0 0 0 ![0, 0, 0, 0, 0] inb_S2x16x64x8x128_S1x16x64x1x128_0_0_0_0_0 rfl) $$ [H]
  · iexact H
  iintro H
  iapply (ldC I c 0 0 0 ![0, 0] inb_S256x1024_S64x128_0_0) $$ [H]
  · iexact H
  iintro H
  iapply (stC I c 0 0 0 0 ![0, 0] inb_S256x1024_S64x128_0_0 rfl rfl (st_0_0 _ _ _)) $$ [H]
  · iexact H
  iintro H
  iapply (ldK I c 0 0 1 1 ![0, 0, 0, 1, 0] inb_S2x16x64x8x128_S1x16x64x1x128_0_0_0_1_0 rfl) $$ [H]
  · iexact H
  iintro H
  iapply (WP_ret c)
  iapply Hk
  isplitl [RV0]; · iexact RV0
  isplitl [HO]; · iexact HO
  iexact H

/-- The first slots fill again; the second keys are in. -/
theorem part10 (KK : GSem nD τ sig → ℕ) (Kt) :
    iprop(kvEnv I c KK ∗ idleK I c 0 4 1 ∗ idleV I c 0 5 1 ∗ flyK I c 1 1 6 0 ∗ OW c
        ∗ (flyK I c 0 2 4 1 ∗ flyV I c 0 2 5 1 ∗ OW c ∗ kbPts c 1 (slotOf (I c).k c 1) ∗ restK I c 1 6 1 -∗ Kt ⟨⟩))
      ⊢ WP c (k0_part10 xM (Memref.isWhole_whole _) wqM (Memref.isWhole_whole _) kM (Memref.isWhole_whole _) vM (Memref.isWhole_whole _) woM (Memref.isWhole_whole _) oM (Memref.isWhole_whole _) kbM (Memref.isWhole_whole _) vbM (Memref.isWhole_whole _) cM (Memref.isWhole_whole _) pM (Memref.isWhole_whole _) sM (Memref.isWhole_whole _) aM (Memref.isWhole_whole _) bM (Memref.isWhole_whole _) cc0_scratch7 cc0_scratch8 cc0_scratch9 c) Kt := by
  rw [k0_part10_eq_skeleton]; unfold k0_part10_skel kvEnv
  simp only [Prog.lift, Prog.bind_op, Prog.bind_ret, Prog.pure_eq_ret]
  iintro ⟨⟨#E4, #E5, #E6, #E7, #Hlev⟩, IK0, IV0, FK1, HO, Hk⟩
  iapply (startK I c 0 2 1 4 (κ := KK (dCell c 4)) (by decide) (by decide) (by decide) rfl (k0_off3 c) (k0_off3_inb c) (off3_eq c)
    ![0, 0, 0, 0, 0] inb_S2x16x64x8x128_S1x16x64x8x128_0_0_0_0_0 rfl (hsrc := ((View.wordExact_bits rfl).reshape _ _)) (hdst := ((View.wordExact_bits rfl).reshape _ _)) (hsem := ⟨Or.inl rfl, trivial⟩)) $$ [IK0]
  · isplitr; · iexact E4
    iexact IK0
  iintro FK0
  iapply (startV I c 0 2 1 5 (κ := KK (dCell c 5)) (by decide) (by decide) (by decide) rfl (k0_off3 c) (k0_off3_inb c) (off3_eq c)
    ![0, 0, 0, 0, 0] inb_S2x16x64x8x128_S1x16x64x8x128_0_0_0_0_0 rfl (hsrc := ((View.wordExact_bits rfl).reshape _ _)) (hdst := ((View.wordExact_bits rfl).reshape _ _)) (hsem := ⟨Or.inl rfl, trivial⟩)) $$ [IV0]
  · isplitr; · iexact E5
    iexact IV0
  iintro FV0
  iapply (doneK I c 1 1 0 6 (κ := KK (dCell c 6)) (by decide) (by decide) (by decide) rfl (srcAt kM (k0_off2 c) (k0_off2_inb c))
    ![1, 0, 0, 0, 0] inb_S2x16x64x8x128_S1x16x64x8x128_1_0_0_0_0 (hsrc := ((View.wordExact_bits rfl).reshape _ _)) (hdst := ((View.wordExact_bits rfl).reshape _ _))) $$ [FK1 HO]
  · isplitr; · iexact E6
    isplitr; · iexact Hlev
    isplitl [FK1]; · iexact FK1
    iexact HO
  iintro ⟨HO, BK1, RK1⟩
  iapply (WP_ret c)
  iapply Hk
  isplitl [FK0]; · iexact FK0
  isplitl [FV0]; · iexact FV0
  isplitl [HO]; · iexact HO
  isplitl [BK1]; · iexact BK1
  iexact RK1

/-- The second values are in; the second query block begins. -/
theorem part11 (KK : GSem nD τ sig → ℕ) (Kt) :
    iprop(kvEnv I c KK ∗ flyV I c 1 1 7 0 ∗ kbPts c 1 (slotOf (I c).k c 1) ∗ cAg I c 8 ∗ OW c
        ∗ (restV I c 1 7 1 ∗ hold I c 1 1 9 ∗ OW c -∗ Kt ⟨k0_pay21 (qOf (I c)), k0_pay22 (headOf (I c).k c 1 1)⟩))
      ⊢ WP c (k0_part11 xM (Memref.isWhole_whole _) wqM (Memref.isWhole_whole _) kM (Memref.isWhole_whole _) vM (Memref.isWhole_whole _) woM (Memref.isWhole_whole _) oM (Memref.isWhole_whole _) kbM (Memref.isWhole_whole _) vbM (Memref.isWhole_whole _) cM (Memref.isWhole_whole _) pM (Memref.isWhole_whole _) sM (Memref.isWhole_whole _) aM (Memref.isWhole_whole _) bM (Memref.isWhole_whole _) cc0_scratch7 cc0_scratch8 cc0_scratch9 c (qOf (I c))) Kt := by
  rw [k0_part11_eq_skeleton]; unfold k0_part11_skel kvEnv
  simp only [Prog.lift, Prog.bind_op, Prog.bind_ret, Prog.pure_eq_ret]
  iintro ⟨⟨#E4, #E5, #E6, #E7, #Hlev⟩, FV1, BK1, HC, HO, Hk⟩
  iapply (doneV I c 1 1 0 7 (κ := KK (dCell c 7)) (by decide) (by decide) (by decide) rfl (srcAt vM (k0_off2 c) (k0_off2_inb c))
    ![1, 0, 0, 0, 0] inb_S2x16x64x8x128_S1x16x64x8x128_1_0_0_0_0 (hsrc := ((View.wordExact_bits rfl).reshape _ _)) (hdst := ((View.wordExact_bits rfl).reshape _ _))) $$ [FV1 HO]
  · isplitr; · iexact E7
    isplitr; · iexact Hlev
    isplitl [FV1]; · iexact FV1
    iexact HO
  iintro ⟨HO, BV1, RV1⟩
  ihave H := (Entails.of_eq rfl : iprop(kbPts c 1 _ ∗ vbPts c 1 _ ∗ cAg I c _) ⊢ hold I c 1 _ _) $$ [BK1 BV1 HC]
  · isplitl [BK1]; · iexact BK1
    isplitl [BV1]; · iexact BV1
    iexact HC
  iapply (ldK I c 1 1 0 8 ![1, 0, 0, 0, 0] inb_S2x16x64x8x128_S1x16x64x1x128_1_0_0_0_0 rfl) $$ [H]
  · iexact H
  iintro H
  iapply (ldV I c 1 1 0 8 ![1, 0, 0, 0, 0] inb_S2x16x64x8x128_S1x16x64x1x128_1_0_0_0_0 rfl) $$ [H]
  · iexact H
  iintro H
  iapply (ldC I c 1 1 8 ![64, 0] inb_S256x1024_S64x128_64_0) $$ [H]
  · iexact H
  iintro H
  iapply (stC I c 1 1 0 8 ![64, 0] inb_S256x1024_S64x128_64_0 rfl rfl (st_1_0 _ _ _)) $$ [H]
  · iexact H
  iintro H
  iapply (ldK I c 1 1 1 9 ![1, 0, 0, 1, 0] inb_S2x16x64x8x128_S1x16x64x1x128_1_0_0_1_0 rfl) $$ [H]
  · iexact H
  iintro H
  iapply (WP_ret c)
  iapply Hk
  isplitl [RV1]; · iexact RV1
  isplitl [H]; · iexact H
  iexact HO

/-- The second slots fill again; the third keys and values are in. -/
theorem part17 (KK : GSem nD τ sig → ℕ) (Kt) :
    iprop(kvEnv I c KK ∗ idleK I c 1 6 1 ∗ idleV I c 1 7 1 ∗ flyK I c 0 2 4 1 ∗ flyV I c 0 2 5 1 ∗ OW c
        ∗ (flyK I c 1 3 6 1 ∗ flyV I c 1 3 7 1 ∗ kbPts c 0 (slotOf (I c).k c 2) ∗ vbPts c 0 (slotOf (I c).v c 2) ∗ restK I c 0 4 2 ∗ restV I c 0 5 2 ∗ OW c -∗ Kt (k0_pay37 (qOf (I c)))))
      ⊢ WP c (k0_part17 xM (Memref.isWhole_whole _) wqM (Memref.isWhole_whole _) kM (Memref.isWhole_whole _) vM (Memref.isWhole_whole _) woM (Memref.isWhole_whole _) oM (Memref.isWhole_whole _) kbM (Memref.isWhole_whole _) vbM (Memref.isWhole_whole _) cM (Memref.isWhole_whole _) pM (Memref.isWhole_whole _) sM (Memref.isWhole_whole _) aM (Memref.isWhole_whole _) bM (Memref.isWhole_whole _) cc0_scratch7 cc0_scratch8 cc0_scratch9 c (qOf (I c))) Kt := by
  rw [k0_part17_eq_skeleton]; unfold k0_part17_skel kvEnv
  simp only [Prog.lift, Prog.bind_op, Prog.bind_ret, Prog.pure_eq_ret]
  iintro ⟨⟨#E4, #E5, #E6, #E7, #Hlev⟩, IK1, IV1, FK0, FV0, HO, Hk⟩
  iapply (startK I c 1 3 1 6 (κ := KK (dCell c 6)) (by decide) (by decide) (by decide) rfl (k0_off4 c) (k0_off4_inb c) (off4_eq c)
    ![1, 0, 0, 0, 0] inb_S2x16x64x8x128_S1x16x64x8x128_1_0_0_0_0 rfl (hsrc := ((View.wordExact_bits rfl).reshape _ _)) (hdst := ((View.wordExact_bits rfl).reshape _ _)) (hsem := ⟨Or.inl rfl, trivial⟩)) $$ [IK1]
  · isplitr; · iexact E6
    iexact IK1
  iintro FK1
  iapply (startV I c 1 3 1 7 (κ := KK (dCell c 7)) (by decide) (by decide) (by decide) rfl (k0_off4 c) (k0_off4_inb c) (off4_eq c)
    ![1, 0, 0, 0, 0] inb_S2x16x64x8x128_S1x16x64x8x128_1_0_0_0_0 rfl (hsrc := ((View.wordExact_bits rfl).reshape _ _)) (hdst := ((View.wordExact_bits rfl).reshape _ _)) (hsem := ⟨Or.inl rfl, trivial⟩)) $$ [IV1]
  · isplitr; · iexact E7
    iexact IV1
  iintro FV1
  iapply (doneK I c 0 2 1 4 (κ := KK (dCell c 4)) (by decide) (by decide) (by decide) rfl (srcAt kM (k0_off3 c) (k0_off3_inb c))
    ![0, 0, 0, 0, 0] inb_S2x16x64x8x128_S1x16x64x8x128_0_0_0_0_0 (hsrc := ((View.wordExact_bits rfl).reshape _ _)) (hdst := ((View.wordExact_bits rfl).reshape _ _))) $$ [FK0 HO]
  · isplitr; · iexact E4
    isplitr; · iexact Hlev
    isplitl [FK0]; · iexact FK0
    iexact HO
  iintro ⟨HO, BK0, RK0⟩
  iapply (doneV I c 0 2 1 5 (κ := KK (dCell c 5)) (by decide) (by decide) (by decide) rfl (srcAt vM (k0_off3 c) (k0_off3_inb c))
    ![0, 0, 0, 0, 0] inb_S2x16x64x8x128_S1x16x64x8x128_0_0_0_0_0 (hsrc := ((View.wordExact_bits rfl).reshape _ _)) (hdst := ((View.wordExact_bits rfl).reshape _ _))) $$ [FV0 HO]
  · isplitr; · iexact E5
    isplitr; · iexact Hlev
    isplitl [FV0]; · iexact FV0
    iexact HO
  iintro ⟨HO, BV0, RV0⟩
  iapply (WP_ret c)
  iapply Hk
  isplitl [FK1]; · iexact FK1
  isplitl [FV1]; · iexact FV1
  isplitl [BK0]; · iexact BK0
  isplitl [BV0]; · iexact BV0
  isplitl [RK0]; · iexact RK0
  isplitl [RV0]; · iexact RV0
  iexact HO

/-- The third query block ends; the fourth keys are in. -/
theorem part23 (KK : GSem nD τ sig → ℕ) (Kt) :
    iprop(kvEnv I c KK ∗ hold I c 0 2 23 ∗ flyK I c 1 3 6 1 ∗ OW c
        ∗ (hold I c 0 2 24 ∗ kbPts c 1 (slotOf (I c).k c 3) ∗ restK I c 1 6 2 ∗ OW c -∗ Kt ⟨⟩))
      ⊢ WP c (k0_part23 xM (Memref.isWhole_whole _) wqM (Memref.isWhole_whole _) kM (Memref.isWhole_whole _) vM (Memref.isWhole_whole _) woM (Memref.isWhole_whole _) oM (Memref.isWhole_whole _) kbM (Memref.isWhole_whole _) vbM (Memref.isWhole_whole _) cM (Memref.isWhole_whole _) pM (Memref.isWhole_whole _) sM (Memref.isWhole_whole _) aM (Memref.isWhole_whole _) bM (Memref.isWhole_whole _) cc0_scratch7 cc0_scratch8 cc0_scratch9 c (k0_pay53 (qOf (I c)))) Kt := by
  rw [k0_part23_eq_skeleton]; unfold k0_part23_skel kvEnv
  simp only [Prog.lift, Prog.bind_op, Prog.bind_ret, Prog.pure_eq_ret]
  iintro ⟨⟨#E4, #E5, #E6, #E7, #Hlev⟩, H, FK1, HO, Hk⟩
  iapply (ldK I c 0 2 7 23 ![0, 0, 0, 7, 0] inb_S2x16x64x8x128_S1x16x64x1x128_0_0_0_7_0 rfl) $$ [H]
  · iexact H
  iintro H
  iapply (ldV I c 0 2 7 23 ![0, 0, 0, 7, 0] inb_S2x16x64x8x128_S1x16x64x1x128_0_0_0_7_0 rfl) $$ [H]
  · iexact H
  iintro H
  iapply (ldC I c 0 2 23 ![128, 896] inb_S256x1024_S64x128_128_896) $$ [H]
  · iexact H
  iintro H
  iapply (stC I c 0 2 7 23 ![128, 896] inb_S256x1024_S64x128_128_896 rfl rfl (st_2_7 _ _ _)) $$ [H]
  · iexact H
  iintro H
  iapply (doneK I c 1 3 1 6 (κ := KK (dCell c 6)) (by decide) (by decide) (by decide) rfl (srcAt kM (k0_off4 c) (k0_off4_inb c))
    ![1, 0, 0, 0, 0] inb_S2x16x64x8x128_S1x16x64x8x128_1_0_0_0_0 (hsrc := ((View.wordExact_bits rfl).reshape _ _)) (hdst := ((View.wordExact_bits rfl).reshape _ _))) $$ [FK1 HO]
  · isplitr; · iexact E6
    isplitr; · iexact Hlev
    isplitl [FK1]; · iexact FK1
    iexact HO
  iintro ⟨HO, BK1, RK1⟩
  iapply (WP_ret c)
  iapply Hk
  isplitl [H]; · iexact H
  isplitl [BK1]; · iexact BK1
  isplitl [RK1]; · iexact RK1
  iexact HO

/-- The fourth values are in; the fourth query block begins. -/
theorem part24 (KK : GSem nD τ sig → ℕ) (Kt) :
    iprop(kvEnv I c KK ∗ flyV I c 1 3 7 1 ∗ kbPts c 1 (slotOf (I c).k c 3) ∗ cAg I c 24 ∗ OW c
        ∗ (hold I c 1 3 25 ∗ restV I c 1 7 2 ∗ OW c -∗ Kt ⟨⟩))
      ⊢ WP c (k0_part24 xM (Memref.isWhole_whole _) wqM (Memref.isWhole_whole _) kM (Memref.isWhole_whole _) vM (Memref.isWhole_whole _) woM (Memref.isWhole_whole _) oM (Memref.isWhole_whole _) kbM (Memref.isWhole_whole _) vbM (Memref.isWhole_whole _) cM (Memref.isWhole_whole _) pM (Memref.isWhole_whole _) sM (Memref.isWhole_whole _) aM (Memref.isWhole_whole _) bM (Memref.isWhole_whole _) cc0_scratch7 cc0_scratch8 cc0_scratch9 c (qOf (I c))) Kt := by
  rw [k0_part24_eq_skeleton]; unfold k0_part24_skel kvEnv
  simp only [Prog.lift, Prog.bind_op, Prog.bind_ret, Prog.pure_eq_ret]
  iintro ⟨⟨#E4, #E5, #E6, #E7, #Hlev⟩, FV1, BK1, HC, HO, Hk⟩
  iapply (doneV I c 1 3 1 7 (κ := KK (dCell c 7)) (by decide) (by decide) (by decide) rfl (srcAt vM (k0_off4 c) (k0_off4_inb c))
    ![1, 0, 0, 0, 0] inb_S2x16x64x8x128_S1x16x64x8x128_1_0_0_0_0 (hsrc := ((View.wordExact_bits rfl).reshape _ _)) (hdst := ((View.wordExact_bits rfl).reshape _ _))) $$ [FV1 HO]
  · isplitr; · iexact E7
    isplitr; · iexact Hlev
    isplitl [FV1]; · iexact FV1
    iexact HO
  iintro ⟨HO, BV1, RV1⟩
  ihave H := (Entails.of_eq rfl : iprop(kbPts c 1 _ ∗ vbPts c 1 _ ∗ cAg I c _) ⊢ hold I c 1 _ _) $$ [BK1 BV1 HC]
  · isplitl [BK1]; · iexact BK1
    isplitl [BV1]; · iexact BV1
    iexact HC
  iapply (ldK I c 1 3 0 24 ![1, 0, 0, 0, 0] inb_S2x16x64x8x128_S1x16x64x1x128_1_0_0_0_0 rfl) $$ [H]
  · iexact H
  iintro H
  iapply (ldV I c 1 3 0 24 ![1, 0, 0, 0, 0] inb_S2x16x64x8x128_S1x16x64x1x128_1_0_0_0_0 rfl) $$ [H]
  · iexact H
  iintro H
  iapply (ldC I c 1 3 24 ![192, 0] inb_S256x1024_S64x128_192_0) $$ [H]
  · iexact H
  iintro H
  iapply (stC I c 1 3 0 24 ![192, 0] inb_S256x1024_S64x128_192_0 rfl rfl (st_3_0 _ _ _)) $$ [H]
  · iexact H
  iintro H
  iapply (WP_ret c)
  iapply Hk
  isplitl [H]; · iexact H
  isplitl [RV1]; · iexact RV1
  iexact HO

end Cert.KernelIdeal.Own

end
-- ==== Proof.Exchange.lean ====
/- The parts of the kernel's body that talk to the partners: the barrier, and the first remote copy. -/
module

public import proofs.«01_k».proof.Proof.Talk

@[expose] public section

set_option maxRecDepth 16384
set_option synthInstance.maxSize 4096

noncomputable section

namespace Cert.KernelIdeal.Own

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ
variable (I : Dev nD → Inp F) (c : Dev nD)

/-- The invariants of the cells the exchange uses, the levels, and the rounds known to be open. Persistent. -/
def exEnv (KK : GSem nD τ sig → ℕ) : sProp 𝕄 :=
  iprop(cellInv ER (Rd I) (KK (barCell c)) (barCell c) ∗ cellInv ER (Rd I) (KK (barCell (pa c))) (barCell (pa c))
    ∗ cellInv ER (Rd I) (KK (barCell (pb c))) (barCell (pb c))
    ∗ cellInv ER (Rd I) (KK (dCell c 8)) (dCell c 8) ∗ cellInv ER (Rd I) (KK (dCell c 9)) (dCell c 9)
    ∗ cellInv ER (Rd I) (KK (dCell c 10)) (dCell c 10) ∗ cellInv ER (Rd I) (KK (dCell c 11)) (dCell c 11)
    ∗ cellInv ER (Rd I) (KK (dCell (pa c) 10)) (dCell (pa c) 10) ∗ cellInv ER (Rd I) (KK (dCell (pb c) 11)) (dCell (pb c) 11)
    ∗ levAts L lv ∗ reached ER (barCell (pa c)) 0 ∗ reached ER (barCell (pb c)) 0
    ∗ reached ER (dCell c 8) 0 ∗ reached ER (dCell c 9) 0 ∗ reached ER (dCell c 10) 0 ∗ reached ER (dCell c 11) 0)

/-- These can be copied. -/
instance exEnv_persistent (KK : GSem nD τ sig → ℕ) : BI.Persistent (exEnv I c KK) := by unfold exEnv; infer_instance

section Signals

variable {α : Type} {Q : α → sProp (MT nD τ sig Unit (Elt F) ℕ UU ℕ)}

/-- Signalling the first partner's barrier: its first landing place is handed over. -/
theorem sigA {κ : ℕ} (O : CellTallies nD τ sig Unit) (O' : CellTallies nD τ sig Unit) (hO : O' = O + tallyAt (barCell (pa c)) () 1)
    (W : Waits sig Unit) {k : PUnit → Prog (TpuEff nD τ sig (Elt F) Λ₀ .tc) α} :
    iprop(cellInv ER (Rd I) κ (barCell (pa c)) ∗ owes (c : Thread nD τ) O' W ∗ dutyTok ER (barCell (pa c)) 0 false
        ∗ reached ER (barCell (pa c)) 0 ∗ (∃ f, aPts c f) ∗ reached ER (dCell c 10) 0)
      ⊢ iprop((owes (c : Thread nD τ) O W -∗ WP c (k ⟨⟩) Q)
        -∗ WP c (.op (.semSignal ((pa c, .tc) : Thread nD τ) barrier0 ((1#32 : BitVec 32).toInt)) k) Q) := by
  iintro ⟨#HI, HO, Ht, #Hr, Ha, #Hr'⟩ Hk
  iapply (Rounds.wp_signal 𝒱₀ ER (Rd I) (c : Thread nD τ) none (dst := (pa c : Thread nD τ)) (sem := barrier0) (r := 0) (d := false) (κ := κ)
      (by rw [duties_bar]; decide) (amount_bar I (pa c) 0 false) () O hO) $$ [HO Ht Ha]
  · isplitr; · iexact HI
    isplitl [HO]; · iexact HO
    isplitl [Ht]; · iexact Ht
    isplitl [Ha]
    · rw [show (Rd I).payload (barCell (pa c)) 0 false = barPayA (pa c) from rfl]
      unfold barPayA
      rw [pa_pa]
      isplitl [Ha]; · iexact Ha
      iexact Hr'
    iexact Hr
  iintro HO
  iapply Hk
  iexact HO

/-- Signalling the second partner's barrier: its second landing place is handed over. -/
theorem sigB {κ : ℕ} (O : CellTallies nD τ sig Unit) (O' : CellTallies nD τ sig Unit) (hO : O' = O + tallyAt (barCell (pb c)) () 1)
    (W : Waits sig Unit) {k : PUnit → Prog (TpuEff nD τ sig (Elt F) Λ₀ .tc) α} :
    iprop(cellInv ER (Rd I) κ (barCell (pb c)) ∗ owes (c : Thread nD τ) O' W ∗ dutyTok ER (barCell (pb c)) 0 true
        ∗ reached ER (barCell (pb c)) 0 ∗ (∃ f, bPts c f) ∗ reached ER (dCell c 11) 0)
      ⊢ iprop((owes (c : Thread nD τ) O W -∗ WP c (k ⟨⟩) Q)
        -∗ WP c (.op (.semSignal ((pb c, .tc) : Thread nD τ) barrier0 ((1#32 : BitVec 32).toInt)) k) Q) := by
  iintro ⟨#HI, HO, Ht, #Hr, Hb, #Hr'⟩ Hk
  iapply (Rounds.wp_signal 𝒱₀ ER (Rd I) (c : Thread nD τ) none (dst := (pb c : Thread nD τ)) (sem := barrier0) (r := 0) (d := true) (κ := κ)
      (by rw [duties_bar]; decide) (amount_bar I (pb c) 0 true) () O hO) $$ [HO Ht Hb]
  · isplitr; · iexact HI
    isplitl [HO]; · iexact HO
    isplitl [Ht]; · iexact Ht
    isplitl [Hb]
    · rw [show (Rd I).payload (barCell (pb c)) 0 true = barPayB (pb c) from rfl]
      unfold barPayB
      rw [pb_pb]
      isplitl [Hb]; · iexact Hb
      iexact Hr'
    iexact Hr
  iintro HO
  iapply Hk
  iexact HO

/-- Waiting for one of the exchange's own cells: what it is owed comes back. -/
theorem waitX {κ : ℕ} (kk : DmaSem sig) (h8 : 8 ≤ kk.val) (O : CellTallies nD τ sig Unit) (W : Waits sig Unit)
    (hlev : (levAts L lv : sProp 𝕄) ⊢ MayWait (c : Thread nD τ) (.dma kk) () O)
    (src dst : Memref sig .tc .vmem S256x1024 .bf16) (hN : dst.view.dmaCredit = NR)
    {hsrc : src.view.WordExact} {hdst : dst.view.WordExact}
    {k : PUnit → Prog (TpuEff nD τ sig (Elt F) Λ₀ .tc) α} :
    iprop(cellInv ER (Rd I) κ (dCell c kk) ∗ levAts L lv ∗ cred (tallyAt (dCell c kk) () NR) ∗ owes (c : Thread nD τ) O W
        ∗ atPos ER (dCell c kk) 0 ∅ 0)
      ⊢ iprop(((∃ W', owes (c : Thread nD τ) O W') ∗ atPos ER (dCell c kk) 1 ∅ 0 ∗ pay I c (.dma kk) 0 false -∗ WP c (k ⟨⟩) Q)
        -∗ WP c (.op (.waitDma2 kk src dst hsrc hdst) k) Q) := by
  iintro ⟨#HI, #Hlev, Hc, HO, Hat⟩ Hk
  ihave Hc := (Entails.of_eq (by rw [hN]) : cred (tallyAt (dCell c kk) () NR) ⊢ cred (tallyAt (dCell c kk) () dst.view.dmaCredit)) $$ Hc
  iapply (Rounds.wp_wait_rest_token 𝒱₀ ER (Rd I) (c : Thread nD τ) none (κ := κ)
      (wpE_waitDma2_eq (src := src) (dst := dst) (hsrc := hsrc) (hdst := hdst) 𝒱₀ (c : Thread nD τ) none Set.univ)
      (Set.mem_univ _) () (O := O) (W := W) (R := 0) (m := 0) (T := ∅)
      ((Nat.zero_add _).trans (hN.trans (expect_x I c kk h8).symm))) $$ [Hc HO Hat]
  · isplitr; · iexact HI
    isplitl [Hc]; · iexact Hc
    isplitl [HO]; · iexact HO
    isplitr; · iapply hlev; iexact Hlev
    iexact Hat
  iintro ⟨HO, Hat, -, Hp⟩
  ihave Hp := (Entails.of_eq (rest_x I c kk h8)) $$ Hp
  iapply Hk
  isplitl [HO]; · iexists _; iexact HO
  isplitl [Hat]; · iexact Hat
  iexact Hp

/-- The second landing owed. -/
abbrev OB (c : Dev nD) : CellTallies nD τ sig Unit := tallyAt (dCell (pb c) 11) () NR

/-- The first remote copy: the product goes to the first partner. -/
theorem sendA (d : Dev nD) (hd : d = pa c) {κ₁ κ₂ : ℕ} (W : Waits sig Unit) (fd : Vec F S256x1024 .bf16)
    {hsc : (aM : Memref sig .tc .vmem S256x1024 .bf16).view.ref.isScScratch = false}
    {hsrc : (pM : Memref sig .tc .vmem S256x1024 .bf16).view.WordExact} {hdst : (aM : Memref sig .tc .vmem S256x1024 .bf16).view.WordExact}
    {hsem : DmaTarget.Typed (nD := nD) .vmem (.dma 10) (.remote (p := (.tc : Proc τ)) (Dev.tc d) aM (.dma 8) hsc)}
    {k : PUnit → Prog (TpuEff nD τ sig (Elt F) Λ₀ .tc) α} :
    iprop(cellInv ER (Rd I) κ₁ (dCell c 8) ∗ cellInv ER (Rd I) κ₂ (dCell (pa c) 10) ∗ pPts c (pOf I c) ∗ aPts (pa c) fd
        ∗ owes (c : Thread nD τ) (OR c) W ∗ dutyTok ER (dCell c 8) 0 false ∗ reached ER (dCell c 8) 0
        ∗ dutyTok ER (dCell (pa c) 10) 0 false ∗ reached ER (dCell (pa c) 10) 0)
      ⊢ iprop((cred (tallyAt (dCell c 8) () NR) ∗ owes (c : Thread nD τ) (OB c) W -∗ WP c (k ⟨⟩) Q)
        -∗ WP c (.op (.enqueueDma pM (.remote (Dev.tc d) aM (.dma 8) hsc) (.dma 10) hsrc hdst hsem) k) Q) := by
  subst hd
  have h := Rounds.wp_send_pointsTo (defs := defs₀ (F := F)) 𝒱₀ ER (Rd I) (c : Thread nD τ) none (Γ := .empty) (Es := Set.univ) (Q := Q) (k := k) (W := W)
      (c' := (pa c : Thread nD τ)) (src := pM) (dst := aM) (hsc := hsc) (sS := .dma 8) (sem := .dma 10) (hsrc := hsrc) (hdst := hdst) (hsem := hsem)
      (q := fullShare) (fs := pOf I c) (κ₁ := κ₁) (κ₂ := κ₂) (r₁ := 0) (r₂ := 0) (d₁ := false) (d₂ := false) (fd := fd)
      (by rw [duties_x I c 8 (by decide)]; decide) (by rw [duties_x I (pa c) 10 (by decide)]; decide) () () NR rfl
      (amount_x I c 8 (by decide) 0 false) (amount_x I (pa c) 10 (by decide) 0 false) (OB c) rfl
      (by rw [show (Rd I).payload (dCell c 8) 0 false = sendPayA I c from rfl, View.set_whole]; unfold sendPayA; exact Entails.of_eq rfl)
      (by rw [show (Rd I).payload (dCell (pa c) 10) 0 false = recvPayA I (pa c) from rfl]; unfold recvPayA
          rw [pa_pa, View.set_whole]
          exact Entails.of_eq (congrArg (fun g => aPts (pa c) g) (View.write_whole_univ cc0_scratch5 _ _)))
  rw [View.set_whole, View.set_whole] at h
  exact h

/-- The second remote copy: the sum goes to the second partner. -/
theorem sendB (d : Dev nD) (hd : d = pb c) {κ₁ κ₂ : ℕ} (W : Waits sig Unit) (fd : Vec F S256x1024 .bf16)
    {hsc : (bM : Memref sig .tc .vmem S256x1024 .bf16).view.ref.isScScratch = false}
    {hsrc : (sM : Memref sig .tc .vmem S256x1024 .bf16).view.WordExact} {hdst : (bM : Memref sig .tc .vmem S256x1024 .bf16).view.WordExact}
    {hsem : DmaTarget.Typed (nD := nD) .vmem (.dma 11) (.remote (p := (.tc : Proc τ)) (Dev.tc d) bM (.dma 9) hsc)}
    {k : PUnit → Prog (TpuEff nD τ sig (Elt F) Λ₀ .tc) α} :
    iprop(cellInv ER (Rd I) κ₁ (dCell c 9) ∗ cellInv ER (Rd I) κ₂ (dCell (pb c) 11) ∗ sPts c (sOf I c) ∗ bPts (pb c) fd
        ∗ owes (c : Thread nD τ) (OB c) W ∗ dutyTok ER (dCell c 9) 0 false ∗ reached ER (dCell c 9) 0
        ∗ dutyTok ER (dCell (pb c) 11) 0 false ∗ reached ER (dCell (pb c) 11) 0)
      ⊢ iprop((cred (tallyAt (dCell c 9) () NR) ∗ owes (c : Thread nD τ) (0) W -∗ WP c (k ⟨⟩) Q)
        -∗ WP c (.op (.enqueueDma sM (.remote (Dev.tc d) bM (.dma 9) hsc) (.dma 11) hsrc hdst hsem) k) Q) := by
  subst hd
  have h := Rounds.wp_send_pointsTo (defs := defs₀ (F := F)) 𝒱₀ ER (Rd I) (c : Thread nD τ) none (Γ := .empty) (Es := Set.univ) (Q := Q) (k := k) (W := W)
      (c' := (pb c : Thread nD τ)) (src := sM) (dst := bM) (hsc := hsc) (sS := .dma 9) (sem := .dma 11) (hsrc := hsrc) (hdst := hdst) (hsem := hsem)
      (q := fullShare) (fs := sOf I c) (κ₁ := κ₁) (κ₂ := κ₂) (r₁ := 0) (r₂ := 0) (d₁ := false) (d₂ := false) (fd := fd)
      (by rw [duties_x I c 9 (by decide)]; decide) (by rw [duties_x I (pb c) 11 (by decide)]; decide) () () NR rfl
      (amount_x I c 9 (by decide) 0 false) (amount_x I (pb c) 11 (by decide) 0 false) (0) (zero_add _).symm
      (by rw [show (Rd I).payload (dCell c 9) 0 false = sendPayB I c from rfl, View.set_whole]; unfold sendPayB; exact Entails.of_eq rfl)
      (by rw [show (Rd I).payload (dCell (pb c) 11) 0 false = recvPayB I (pb c) from rfl]; unfold recvPayB
          rw [pb_pb, View.set_whole]
          exact Entails.of_eq (congrArg (fun g => bPts (pb c) g) (View.write_whole_univ cc0_scratch6 _ _)))
  rw [View.set_whole, View.set_whole] at h
  exact h

end Signals

/-- The left and right neighbours are the two partners, in one order or the other. -/
theorem devs (c : Dev nD) : ((⟨k0_dev1 c, k0_dev1_lt c⟩ : Dev nD) = pa c ∧ (⟨k0_dev2 c, k0_dev2_lt c⟩ : Dev nD) = pb c)
    ∨ ((⟨k0_dev1 c, k0_dev1_lt c⟩ : Dev nD) = pb c ∧ (⟨k0_dev2 c, k0_dev2_lt c⟩ : Dev nD) = pa c) := by
  revert c; decide +kernel

/-- Both partners' barriers are signalled. -/
theorem part1 (KK : GSem nD τ sig → ℕ) (W : Waits sig Unit) (Kt) :
    iprop(exEnv I c KK ∗ owes (c : Thread nD τ) (O₀ c) W ∗ dutyTok ER (barCell (pa c)) 0 false ∗ dutyTok ER (barCell (pb c)) 0 true
        ∗ (∃ f, aPts c f) ∗ (∃ f, bPts c f)
        ∗ (owes (c : Thread nD τ) (OR c) W -∗ Kt ⟨c, Scalar.remsi (Scalar.divsi (Dev.word c) 1#32) 4#32, SemArray.scalar (sig.barrier 0 rfl)⟩))
      ⊢ WP c (k0_part1 xM (Memref.isWhole_whole _) wqM (Memref.isWhole_whole _) kM (Memref.isWhole_whole _) vM (Memref.isWhole_whole _) woM (Memref.isWhole_whole _) oM (Memref.isWhole_whole _) kbM (Memref.isWhole_whole _) vbM (Memref.isWhole_whole _) cM (Memref.isWhole_whole _) pM (Memref.isWhole_whole _) sM (Memref.isWhole_whole _) aM (Memref.isWhole_whole _) bM (Memref.isWhole_whole _) cc0_scratch7 cc0_scratch8 cc0_scratch9) Kt := by
  rw [k0_part1_eq_skeleton]; unfold k0_part1_skel exEnv
  simp only [semSignalWord, Prog.lift, Prog.bind_op, Prog.bind_ret, Prog.pure_eq_ret, wp_deviceId]
  iintro ⟨⟨#Eb, #Ea, #Eb2, -, -, -, -, -, -, -, #Ra, #Rb, -, -, #R10, #R11⟩, HO, Ta, Tb, Ha, Hb, Hk⟩
  rcases devs c with ⟨h1, h2⟩ | ⟨h1, h2⟩
  · rw [h1, h2]
    iapply (sigA I c (κ := KK (barCell (pa c))) (OR c + tallyAt (barCell (pb c)) () 1) (O₀ c) (by unfold O₀; exact add_right_comm _ _ _) W) $$ [HO Ta Ha]
    · isplitr; · iexact Ea
      isplitl [HO]; · iexact HO
      isplitl [Ta]; · iexact Ta
      isplitr; · iexact Ra
      isplitl [Ha]; · iexact Ha
      iexact R10
    iintro HO
    iapply (sigB I c (κ := KK (barCell (pb c))) (OR c) _ rfl W) $$ [HO Tb Hb]
    · isplitr; · iexact Eb2
      isplitl [HO]; · iexact HO
      isplitl [Tb]; · iexact Tb
      isplitr; · iexact Rb
      isplitl [Hb]; · iexact Hb
      iexact R11
    iintro HO
    iapply (WP_ret c)
    iapply Hk
    iexact HO
  · rw [h1, h2]
    iapply (sigB I c (κ := KK (barCell (pb c))) (OR c + tallyAt (barCell (pa c)) () 1) (O₀ c) rfl W) $$ [HO Tb Hb]
    · isplitr; · iexact Eb2
      isplitl [HO]; · iexact HO
      isplitl [Tb]; · iexact Tb
      isplitr; · iexact Rb
      isplitl [Hb]; · iexact Hb
      iexact R11
    iintro HO
    iapply (sigA I c (κ := KK (barCell (pa c))) (OR c) _ rfl W) $$ [HO Ta Ha]
    · isplitr; · iexact Ea
      isplitl [HO]; · iexact HO
      isplitl [Ta]; · iexact Ta
      isplitr; · iexact Ra
      isplitl [Ha]; · iexact Ha
      iexact R10
    iintro HO
    iapply (WP_ret c)
    iapply Hk
    iexact HO

/-- The barrier is passed, with the partners' landing places; the first three fills start. -/
theorem part2 (KK : GSem nD τ sig → ℕ) (W : Waits sig Unit) (Kt) :
    iprop(exEnv I c KK ∗ kvEnv I c KK ∗ cred (tallyAt (barCell c) () 2) ∗ owes (c : Thread nD τ) (OR c) W ∗ atPos ER (barCell c) 0 ∅ 0
        ∗ idleK I c 0 4 0 ∗ idleV I c 0 5 0 ∗ idleK I c 1 6 0
        ∗ (OW c ∗ atPos ER (barCell c) 1 ∅ 0 ∗ barPayA c ∗ barPayB c ∗ flyK I c 0 0 4 0 ∗ flyV I c 0 0 5 0 ∗ flyK I c 1 1 6 0 -∗ Kt ⟨⟩))
      ⊢ WP c (k0_part2 xM (Memref.isWhole_whole _) wqM (Memref.isWhole_whole _) kM (Memref.isWhole_whole _) vM (Memref.isWhole_whole _) woM (Memref.isWhole_whole _) oM (Memref.isWhole_whole _) kbM (Memref.isWhole_whole _) vbM (Memref.isWhole_whole _) cM (Memref.isWhole_whole _) pM (Memref.isWhole_whole _) sM (Memref.isWhole_whole _) aM (Memref.isWhole_whole _) bM (Memref.isWhole_whole _) cc0_scratch7 cc0_scratch8 cc0_scratch9 c (SemArray.scalar (sig.barrier 0 rfl))) Kt := by
  rw [k0_part2_eq_skeleton]; unfold k0_part2_skel exEnv kvEnv
  simp only [semWaitWord, Prog.lift, Prog.bind_op, Prog.bind_ret, Prog.pure_eq_ret]
  iintro ⟨⟨#Eb, -, -, -, -, -, -, -, -, #Hlev, -, -, -, -, -, -⟩, ⟨#E4, #E5, #E6, #E7, -⟩, Hc, HO, Hat, IK0, IV0, IK1, Hk⟩
  iapply (Rounds.wp_wait_rest_token 𝒱₀ ER (Rd I) (c : Thread nD τ) none (κ := KK (barCell c))
      (wpE_semWait_eq (sem := barrier0) 𝒱₀ (c : Thread nD τ) none Set.univ) (Set.mem_univ _) () (O := OR c) (W := W) (R := 0) (m := 0) (T := ∅)
      ((Nat.zero_add 2).trans (expect_bar I c).symm)) $$ [Hc HO Hat]
  · isplitr; · iexact Eb
    isplitl [Hc]; · iexact Hc
    isplitl [HO]; · iexact HO
    isplitr; · iapply (below c (.reg barrier0) (OR c) 1 (show lvs (.reg barrier0) ≤ 1 by decide) (OR_pos c)); iexact Hlev
    iexact Hat
  iintro ⟨HO, Hat, -, Hp⟩
  ihave Hp := (Entails.of_eq (rest_bar I c)) $$ Hp
  icases Hp with ⟨Pa, Pb⟩
  iapply (startK I c 0 0 0 4 (κ := KK (dCell c 4)) (by decide) (by decide) (by decide) rfl (k0_off1 c) (k0_off1_inb c) (off1_eq c)
    ![0, 0, 0, 0, 0] inb_S2x16x64x8x128_S1x16x64x8x128_0_0_0_0_0 rfl (hsrc := ((View.wordExact_bits rfl).reshape _ _)) (hdst := ((View.wordExact_bits rfl).reshape _ _)) (hsem := ⟨Or.inl rfl, trivial⟩)) $$ [IK0]
  · isplitr; · iexact E4
    iexact IK0
  iintro FK0
  iapply (startV I c 0 0 0 5 (κ := KK (dCell c 5)) (by decide) (by decide) (by decide) rfl (k0_off1 c) (k0_off1_inb c) (off1_eq c)
    ![0, 0, 0, 0, 0] inb_S2x16x64x8x128_S1x16x64x8x128_0_0_0_0_0 rfl (hsrc := ((View.wordExact_bits rfl).reshape _ _)) (hdst := ((View.wordExact_bits rfl).reshape _ _)) (hsem := ⟨Or.inl rfl, trivial⟩)) $$ [IV0]
  · isplitr; · iexact E5
    iexact IV0
  iintro FV0
  iapply (startK I c 1 1 0 6 (κ := KK (dCell c 6)) (by decide) (by decide) (by decide) rfl (k0_off2 c) (k0_off2_inb c) (off2_eq c)
    ![1, 0, 0, 0, 0] inb_S2x16x64x8x128_S1x16x64x8x128_1_0_0_0_0 rfl (hsrc := ((View.wordExact_bits rfl).reshape _ _)) (hdst := ((View.wordExact_bits rfl).reshape _ _)) (hsem := ⟨Or.inl rfl, trivial⟩)) $$ [IK1]
  · isplitr; · iexact E6
    iexact IK1
  iintro FK1
  iapply (WP_ret c)
  iapply Hk
  isplitl [HO]; · unfold OW; iexists _; iexact HO
  isplitl [Hat]; · iexact Hat
  isplitl [Pa]; · iexact Pa
  isplitl [Pb]; · iexact Pb
  isplitl [FK0]; · iexact FK0
  isplitl [FV0]; · iexact FV0
  iexact FK1

/-- The last block is stored; the context is multiplied out; the product goes to the first partner, and its product is in. -/
theorem part30 (KK : GSem nD τ sig → ℕ) (w2 : BitVec 32) (fp fs : Vec F S256x1024 .bf16) (Kt) :
    iprop(exEnv I c KK ∗ hold I c 1 3 31 ∗ pt c cc0_stg2_0 (I c).wo ∗ pPts c fp ∗ sPts c fs
        ∗ OW c ∗ barPayA c ∗ dutyTok ER (dCell c 8) 0 false ∗ dutyTok ER (dCell (pa c) 10) 0 false
        ∗ atPos ER (dCell c 8) 0 ∅ 0 ∗ atPos ER (dCell c 10) 0 ∅ 0 ∗ cred (tallyAt (dCell c 10) () NR)
        ∗ (hold I c 1 3 32 ∗ pt c cc0_stg2_0 (I c).wo ∗ pPts c (pOf I c) ∗ sPts c fs ∗ aPts c (pOf I (pa c))
            ∗ (∃ W, owes (c : Thread nD τ) (OB c) W) ∗ atPos ER (dCell c 8) 1 ∅ 0 ∗ atPos ER (dCell c 10) 1 ∅ 0
            -∗ Kt (k0_pay72 (pOf I c) (pOf I (pa c)))))
      ⊢ WP c (k0_part30 xM (Memref.isWhole_whole _) wqM (Memref.isWhole_whole _) kM (Memref.isWhole_whole _) vM (Memref.isWhole_whole _) woM (Memref.isWhole_whole _) oM (Memref.isWhole_whole _) kbM (Memref.isWhole_whole _) vbM (Memref.isWhole_whole _) cM (Memref.isWhole_whole _) pM (Memref.isWhole_whole _) sM (Memref.isWhole_whole _) aM (Memref.isWhole_whole _) bM (Memref.isWhole_whole _) cc0_scratch7 cc0_scratch8 cc0_scratch9 c w2 (k0_pay70 (qOf (I c)) (headOf (I c).k c 3 7) (headOf (I c).v c 3 7))) Kt := by
  rw [k0_part30_eq_skeleton]; unfold k0_part30_skel exEnv
  simp only [Prog.lift, Prog.bind_op, Prog.bind_ret, Prog.pure_eq_ret]
  iintro ⟨⟨-, -, -, #E8, -, #E10, -, #Ep, -, #Hlev, -, -, #R8, -, -, -⟩, H, Hwo, Hp, Hs, HO, Pa, T8, T10, A8, A10, C10, Hk⟩
  iapply (stC I c 1 3 7 31 ![192, 896] inb_S256x1024_S64x128_192_896 rfl rfl (st_3_7 _ _ _)) $$ [H]
  · iexact H
  iintro H
  unfold hold cAg
  icases H with ⟨HK, HV, ⟨%f, %hf, HC⟩⟩
  have e : f = ctxOf (I c) c := agree_all (I c) c f hf
  subst e
  iapply (ldWhole c (cs := .vmem) (i := 6) (hκ := rfl) (ctxOf (I c) c) inb_S256x1024_S256x1024_0_0 (by decide)) $$ [HC]
  · iexact HC
  iintro HC
  iapply (ldWhole c (cs := .vmem) (i := 2) (hκ := rfl) (I c).wo inb_S1024x1024_S1024x1024_0_0 (by decide)) $$ [Hwo]
  · iexact Hwo
  iintro Hwo
  iapply (ldWhole c (cs := .vmem) (i := 7) (hκ := rfl) fp inb_S256x1024_S256x1024_0_0 (by decide)) $$ [Hp]
  · iexact Hp
  iintro Hp
  iapply (stWhole c (cs := .vmem) (i := 7) (hκ := rfl) fp (pOf I c) inb_S256x1024_S256x1024_0_0 (by decide)) $$ [Hp]
  · iexact Hp
  iintro Hp
  unfold barPayA OW
  icases Pa with ⟨⟨%fa, Ha⟩, #Ra⟩
  icases HO with ⟨%W, HO⟩
  iapply (sendA I c _ (dev3_eq c) (κ₁ := KK (dCell c 8)) (κ₂ := KK (dCell (pa c) 10)) W fa (hsrc := (Memref.isWhole_whole _).wordExact)
      (hdst := (Memref.isWhole_whole _).wordExact) (hsem := ⟨⟨rfl, Or.inl rfl⟩, trivial⟩)) $$ [Hp Ha HO T8 T10]
  · isplitr; · iexact E8
    isplitr; · iexact Ep
    isplitl [Hp]; · iexact Hp
    isplitl [Ha]; · iexact Ha
    isplitl [HO]; · iexact HO
    isplitl [T8]; · iexact T8
    isplitr; · iexact R8
    isplitl [T10]; · iexact T10
    iexact Ra
  iintro ⟨C8, HO⟩
  iapply (waitX I c (κ := KK (dCell c 8)) 8 (by decide) (OB c) W (below c (.dma 8) (OB c) 2 (show lvs (.dma 8) ≤ 2 by decide) (OB_pos c)) aM pM rfl) $$ [C8 HO A8]
  · isplitr; · iexact E8
    isplitr; · iexact Hlev
    isplitl [C8]; · iexact C8
    isplitl [HO]; · iexact HO
    iexact A8
  iintro ⟨⟨%W1, HO⟩, A8, Hp⟩
  ihave Hp := (Entails.of_eq rfl : pay I c (.dma 8) 0 false ⊢ pPts c (pOf I c)) $$ Hp
  iapply (waitX I c (κ := KK (dCell c 10)) 10 (by decide) (OB c) W1 (below c (.dma 10) (OB c) 2 (show lvs (.dma 10) ≤ 2 by decide) (OB_pos c)) pM aM rfl) $$ [C10 HO A10]
  · isplitr; · iexact E10
    isplitr; · iexact Hlev
    isplitl [C10]; · iexact C10
    isplitl [HO]; · iexact HO
    iexact A10
  iintro ⟨HO, A10, Ha⟩
  ihave Ha := (Entails.of_eq rfl : pay I c (.dma 10) 0 false ⊢ aPts c (pOf I (pa c))) $$ Ha
  iapply (ldWhole c (cs := .vmem) (i := 7) (hκ := rfl) (pOf I c) inb_S256x1024_S256x1024_0_0 (by decide)) $$ [Hp]
  · iexact Hp
  iintro Hp
  iapply (ldWhole c (cs := .vmem) (i := 9) (hκ := rfl) (pOf I (pa c)) inb_S256x1024_S256x1024_0_0 (by decide)) $$ [Ha]
  · iexact Ha
  iintro Ha
  iapply (ldWhole c (cs := .vmem) (i := 8) (hκ := rfl) fs inb_S256x1024_S256x1024_0_0 (by decide)) $$ [Hs]
  · iexact Hs
  iintro Hs
  iapply (WP_ret c)
  iapply Hk
  isplitl [HK HV HC]
  · isplitl [HK]; · iexact HK
    isplitl [HV]; · iexact HV
    iexists _
    isplitr; · ipureintro; exact hf
    iexact HC
  isplitl [Hwo]; · iexact Hwo
  isplitl [Hp]; · iexact Hp
  isplitl [Hs]; · iexact Hs
  isplitl [Ha]; · iexact Ha
  isplitl [HO]; · iexact HO
  isplitl [A8]; · iexact A8
  iexact A10

end Cert.KernelIdeal.Own

end
-- ==== Proof.Body.lean ====
/- The kernel's body on one device: what it is given, and what it leaves. -/
module

public import proofs.«01_k».proof.Proof.Exchange

@[expose] public section

set_option maxRecDepth 16384
set_option synthInstance.maxSize 4096

noncomputable section

namespace Cert.KernelIdeal.Own

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ
variable (I : Dev nD → Inp F) (c : Dev nD)

/-- A slot whose copy is over, with the token of its next round, is free to be filled again. -/
theorem againK (s : Fin 2) (kk : DmaSem sig) (r : ℕ) (f : Vec F S2x16x64x8x128 .f32) :
    iprop(restK I c s kk r ∗ kbPts c s f ∗ dutyTok ER (dCell c kk) r false) ⊢ (idleK I c s kk r : sProp 𝕄) := by
  unfold restK idleK
  iintro ⟨⟨HS, Hr, Hat⟩, HB, HT⟩
  isplitl [HS]; · iexact HS
  isplitl [HB]; · iexists f; iexact HB
  isplitl [HT]; · iexact HT
  isplitl [Hr]; · iexact Hr
  iexact Hat
/-- The same of the values. -/
theorem againV (s : Fin 2) (kk : DmaSem sig) (r : ℕ) (f : Vec F S2x16x64x8x128 .f32) :
    iprop(restV I c s kk r ∗ vbPts c s f ∗ dutyTok ER (dCell c kk) r false) ⊢ (idleV I c s kk r : sProp 𝕄) := by
  unfold restV idleV
  iintro ⟨⟨HS, Hr, Hat⟩, HB, HT⟩
  isplitl [HS]; · iexact HS
  isplitl [HB]; · iexists f; iexact HB
  isplitl [HT]; · iexact HT
  isplitl [Hr]; · iexact Hr
  iexact Hat

/-- What the body is given. -/
def bodyPre (W : Waits sig Unit) : sProp 𝕄 :=
  iprop(owes (c : Thread nD τ) (O₀ c) W
    ∗ dutyTok ER (barCell (pa c)) 0 false
    ∗ dutyTok ER (barCell (pb c)) 0 true
    ∗ cred (tallyAt (barCell c) () 2)
    ∗ atPos ER (barCell c) 0 ∅ 0
    ∗ idleK I c 0 4 0
    ∗ idleV I c 0 5 0
    ∗ idleK I c 1 6 0
    ∗ idleV I c 1 7 0
    ∗ dutyTok ER (dCell c 4) 1 false
    ∗ dutyTok ER (dCell c 5) 1 false
    ∗ dutyTok ER (dCell c 6) 1 false
    ∗ dutyTok ER (dCell c 7) 1 false
    ∗ dutyTok ER (dCell c 8) 0 false
    ∗ dutyTok ER (dCell c 9) 0 false
    ∗ dutyTok ER (dCell (pa c) 10) 0 false
    ∗ dutyTok ER (dCell (pb c) 11) 0 false
    ∗ atPos ER (dCell c 8) 0 ∅ 0
    ∗ atPos ER (dCell c 9) 0 ∅ 0
    ∗ atPos ER (dCell c 10) 0 ∅ 0
    ∗ atPos ER (dCell c 11) 0 ∅ 0
    ∗ cred (tallyAt (dCell c 10) () NR)
    ∗ cred (tallyAt (dCell c 11) () NR)
    ∗ pt c cc0_stg0_0 (I c).x
    ∗ pt c cc0_stg1_0 (I c).wq
    ∗ pt c cc0_stg2_0 (I c).wo
    ∗ (∃ f, pt c cc0_stg3_0 f)
    ∗ cAg I c 0
    ∗ (∃ f, pPts c f)
    ∗ (∃ f, sPts c f)
    ∗ (∃ f, aPts c f)
    ∗ (∃ f, bPts c f))

/-- What the body leaves. -/
def bodyPost : sProp 𝕄 :=
  iprop((∃ W, owes (c : Thread nD τ) (0 : CellTallies nD τ sig Unit) W)
    ∗ atPos ER (barCell c) 1 ∅ 0
    ∗ restK I c 0 4 2
    ∗ restV I c 0 5 2
    ∗ restK I c 1 6 2
    ∗ restV I c 1 7 2
    ∗ atPos ER (dCell c 8) 1 ∅ 0
    ∗ atPos ER (dCell c 9) 1 ∅ 0
    ∗ atPos ER (dCell c 10) 1 ∅ 0
    ∗ atPos ER (dCell c 11) 1 ∅ 0
    ∗ kbPts c 0 (slotOf (I c).k c 2)
    ∗ vbPts c 0 (slotOf (I c).v c 2)
    ∗ hold I c 1 3 32
    ∗ pt c cc0_stg0_0 (I c).x
    ∗ pt c cc0_stg1_0 (I c).wq
    ∗ pt c cc0_stg2_0 (I c).wo
    ∗ pt c cc0_stg3_0 (outOf I c)
    ∗ pPts c (pOf I c)
    ∗ sPts c (sOf I c)
    ∗ aPts c (pOf I (pa c))
    ∗ bPts c (sOf I (pb c)))

/-- The body's run. -/
theorem bodyRun (KK : GSem nD τ sig → ℕ) (W : Waits sig Unit) (Kt) :
    iprop(exEnv I c KK ∗ kvEnv I c KK ∗ bodyPre I c W ∗ (bodyPost I c -∗ Kt ⟨⟩))
      ⊢ WP c (cc0_body xM (Memref.isWhole_whole _) wqM (Memref.isWhole_whole _) kM (Memref.isWhole_whole _) vM (Memref.isWhole_whole _) woM (Memref.isWhole_whole _) oM (Memref.isWhole_whole _) kbM (Memref.isWhole_whole _) vbM (Memref.isWhole_whole _) cM (Memref.isWhole_whole _) pM (Memref.isWhole_whole _) sM (Memref.isWhole_whole _) aM (Memref.isWhole_whole _) bM (Memref.isWhole_whole _) cc0_scratch7 cc0_scratch8 cc0_scratch9) Kt := by
  rw [cc0_body_eq_skeleton]; unfold cc0_body_skel
  rw [k0_part31_eq_skeleton]; unfold k0_part31_skel
  simp only [Prog.lift, Prog.bind_op, Prog.bind_ret, Prog.pure_eq_ret]
  unfold bodyPre
  iintro ⟨#X, #Kv, ⟨HO, Ta, Tb, Cbar, Abar, IK0, IV0, IK1, IV1, TK0, TV0, TK1, TV1, T8, T9, T10, T11, A8, A9, A10, A11, C10, C11, Hx, Hw, Hwo, Hout, HC, Hp, Hs, Ha, Hb⟩, Hk⟩
  iapply (WP_bind c)
  iapply (WP_bind c)
  iapply (part1 I c KK W _)
  isplitr; · iexact X
  isplitl [HO]; · iexact HO
  isplitl [Ta]; · iexact Ta
  isplitl [Tb]; · iexact Tb
  isplitl [Ha]; · iexact Ha
  isplitl [Hb]; · iexact Hb
  iintro HO
  iapply (WP_bind c)
  iapply (part2 I c KK W _)
  isplitr; · iexact X
  isplitr; · iexact Kv
  isplitl [Cbar]; · iexact Cbar
  isplitl [HO]; · iexact HO
  isplitl [Abar]; · iexact Abar
  isplitl [IK0]; · iexact IK0
  isplitl [IV0]; · iexact IV0
  isplitl [IK1]; · iexact IK1
  iintro ⟨HO, Abar, Pa, Pb, FK0, FV0, FK1⟩
  iapply (WP_bind c)
  iapply (part3 I c KK _)
  isplitr; · iexact Kv
  isplitl [IV1]; · iexact IV1
  isplitl [Hx]; · iexact Hx
  isplitl [Hw]; · iexact Hw
  isplitl [FK0]; · iexact FK0
  isplitl [HO]; · iexact HO
  iintro ⟨FV1, Hx, Hw, HO, BK0, RK0⟩
  iapply (WP_bind c)
  iapply (part4 I c KK _)
  isplitr; · iexact Kv
  isplitl [FV0]; · iexact FV0
  isplitl [HO]; · iexact HO
  isplitl [BK0]; · iexact BK0
  isplitl [HC]; · iexact HC
  iintro ⟨RV0, HO, H⟩
  iapply (WP_bind c)
  iapply (part5 I c _)
  isplitl [H]; · iexact H
  iintro H
  iapply (WP_bind c)
  iapply (part6 I c _)
  isplitl [H]; · iexact H
  iintro H
  iapply (WP_bind c)
  iapply (part7 I c _)
  isplitl [H]; · iexact H
  iintro H
  iapply (WP_bind c)
  iapply (part8 I c _)
  isplitl [H]; · iexact H
  iintro H
  iapply (WP_bind c)
  iapply (part9 I c _)
  isplitl [H]; · iexact H
  iintro H
  ihave H := (Entails.of_eq rfl : hold I c 0 0 8 ⊢ iprop(kbPts c 0 _ ∗ vbPts c 0 _ ∗ cAg I c 8)) $$ H
  icases H with ⟨BK0, BV0, HC⟩
  ihave IK0 := (againK I c 0 4 1 _) $$ [RK0 BK0 TK0]
  · isplitl [RK0]; · iexact RK0
    isplitl [BK0]; · iexact BK0
    iexact TK0
  ihave IV0 := (againV I c 0 5 1 _) $$ [RV0 BV0 TV0]
  · isplitl [RV0]; · iexact RV0
    isplitl [BV0]; · iexact BV0
    iexact TV0
  iapply (WP_bind c)
  iapply (part10 I c KK _)
  isplitr; · iexact Kv
  isplitl [IK0]; · iexact IK0
  isplitl [IV0]; · iexact IV0
  isplitl [FK1]; · iexact FK1
  isplitl [HO]; · iexact HO
  iintro ⟨FK0, FV0, HO, BK1, RK1⟩
  iapply (WP_bind c)
  iapply (part11 I c KK _)
  isplitr; · iexact Kv
  isplitl [FV1]; · iexact FV1
  isplitl [BK1]; · iexact BK1
  isplitl [HC]; · iexact HC
  isplitl [HO]; · iexact HO
  iintro ⟨RV1, H, HO⟩
  iapply (WP_bind c)
  iapply (part12 I c _)
  isplitl [H]; · iexact H
  iintro H
  iapply (WP_bind c)
  iapply (part13 I c _)
  isplitl [H]; · iexact H
  iintro H
  iapply (WP_bind c)
  iapply (part14 I c _)
  isplitl [H]; · iexact H
  iintro H
  iapply (WP_bind c)
  iapply (part15 I c _)
  isplitl [H]; · iexact H
  iintro H
  iapply (WP_bind c)
  iapply (part16 I c _)
  isplitl [H]; · iexact H
  iintro H
  ihave H := (Entails.of_eq rfl : hold I c 1 1 16 ⊢ iprop(kbPts c 1 _ ∗ vbPts c 1 _ ∗ cAg I c 16)) $$ H
  icases H with ⟨BK1, BV1, HC⟩
  ihave IK1 := (againK I c 1 6 1 _) $$ [RK1 BK1 TK1]
  · isplitl [RK1]; · iexact RK1
    isplitl [BK1]; · iexact BK1
    iexact TK1
  ihave IV1 := (againV I c 1 7 1 _) $$ [RV1 BV1 TV1]
  · isplitl [RV1]; · iexact RV1
    isplitl [BV1]; · iexact BV1
    iexact TV1
  iapply (WP_bind c)
  iapply (part17 I c KK _)
  isplitr; · iexact Kv
  isplitl [IK1]; · iexact IK1
  isplitl [IV1]; · iexact IV1
  isplitl [FK0]; · iexact FK0
  isplitl [FV0]; · iexact FV0
  isplitl [HO]; · iexact HO
  iintro ⟨FK1, FV1, BK0, BV0, RK0, RV0, HO⟩
  ihave H := (Entails.of_eq rfl : iprop(kbPts c 0 _ ∗ vbPts c 0 _ ∗ cAg I c 16) ⊢ hold I c 0 2 16) $$ [BK0 BV0 HC]
  · isplitl [BK0]; · iexact BK0
    isplitl [BV0]; · iexact BV0
    iexact HC
  iapply (WP_bind c)
  iapply (part18 I c _)
  isplitl [H]; · iexact H
  iintro H
  iapply (WP_bind c)
  iapply (part19 I c _)
  isplitl [H]; · iexact H
  iintro H
  iapply (WP_bind c)
  iapply (part20 I c _)
  isplitl [H]; · iexact H
  iintro H
  iapply (WP_bind c)
  iapply (part21 I c _)
  isplitl [H]; · iexact H
  iintro H
  iapply (WP_bind c)
  iapply (part22 I c _)
  isplitl [H]; · iexact H
  iintro H
  iapply (WP_bind c)
  iapply (part23 I c KK _)
  isplitr; · iexact Kv
  isplitl [H]; · iexact H
  isplitl [FK1]; · iexact FK1
  isplitl [HO]; · iexact HO
  iintro ⟨H, BK1, RK1, HO⟩
  ihave H := (Entails.of_eq rfl : hold I c 0 2 24 ⊢ iprop(kbPts c 0 _ ∗ vbPts c 0 _ ∗ cAg I c 24)) $$ H
  icases H with ⟨BK0, BV0, HC⟩
  iapply (WP_bind c)
  iapply (part24 I c KK _)
  isplitr; · iexact Kv
  isplitl [FV1]; · iexact FV1
  isplitl [BK1]; · iexact BK1
  isplitl [HC]; · iexact HC
  isplitl [HO]; · iexact HO
  iintro ⟨H, RV1, HO⟩
  iapply (WP_bind c)
  iapply (part25 I c _)
  isplitl [H]; · iexact H
  iintro H
  iapply (WP_bind c)
  iapply (part26 I c _)
  isplitl [H]; · iexact H
  iintro H
  iapply (WP_bind c)
  iapply (part27 I c _)
  isplitl [H]; · iexact H
  iintro H
  iapply (WP_bind c)
  iapply (part28 I c _)
  isplitl [H]; · iexact H
  iintro H
  iapply (WP_bind c)
  iapply (part29 I c _)
  isplitl [H]; · iexact H
  iintro H
  icases Hp with ⟨%fp, Hp⟩
  icases Hs with ⟨%fs, Hs⟩
  iapply (WP_bind c)
  iapply (part30 I c KK _ fp fs _)
  isplitr; · iexact X
  isplitl [H]; · iexact H
  isplitl [Hwo]; · iexact Hwo
  isplitl [Hp]; · iexact Hp
  isplitl [Hs]; · iexact Hs
  isplitl [HO]; · iexact HO
  isplitl [Pa]; · iexact Pa
  isplitl [T8]; · iexact T8
  isplitl [T10]; · iexact T10
  isplitl [A8]; · iexact A8
  isplitl [A10]; · iexact A10
  isplitl [C10]; · iexact C10
  iintro ⟨H, Hwo, Hp, Hs, Ha, HO, A8, A10⟩
  iapply (stWhole c (cs := .vmem) (i := 8) (hκ := rfl) fs (sOf I c) inb_S256x1024_S256x1024_0_0 (by decide)) $$ [Hs]
  · iexact Hs
  iintro Hs
  unfold barPayB exEnv
  icases Pb with ⟨⟨%fb, Hb⟩, #Rb⟩
  icases HO with ⟨%W1, HO⟩
  icases X with ⟨-, -, -, -, #E9, -, #E11, -, #Eq, #Hlev, -, -, -, #R9, -, -⟩
  iapply (sendB I c _ (dev4_eq c) (κ₁ := KK (dCell c 9)) (κ₂ := KK (dCell (pb c) 11)) W1 fb (hsrc := (Memref.isWhole_whole _).wordExact)
      (hdst := (Memref.isWhole_whole _).wordExact) (hsem := ⟨⟨rfl, Or.inl rfl⟩, trivial⟩)) $$ [Hs Hb HO T9 T11]
  · isplitr; · iexact E9
    isplitr; · iexact Eq
    isplitl [Hs]; · iexact Hs
    isplitl [Hb]; · iexact Hb
    isplitl [HO]; · iexact HO
    isplitl [T9]; · iexact T9
    isplitr; · iexact R9
    isplitl [T11]; · iexact T11
    iexact Rb
  iintro ⟨C9, HO⟩
  iapply (waitX I c (κ := KK (dCell c 9)) 9 (by decide) 0 W1 (by rw [MayWait_zero]; iintro -; iempintro) bM sM rfl) $$ [C9 HO A9]
  · isplitr; · iexact E9
    isplitr; · iexact Hlev
    isplitl [C9]; · iexact C9
    isplitl [HO]; · iexact HO
    iexact A9
  iintro ⟨⟨%W2, HO⟩, A9, Hs⟩
  ihave Hs := (Entails.of_eq rfl : pay I c (.dma 9) 0 false ⊢ sPts c (sOf I c)) $$ Hs
  iapply (waitX I c (κ := KK (dCell c 11)) 11 (by decide) 0 W2 (by rw [MayWait_zero]; iintro -; iempintro) sM bM rfl) $$ [C11 HO A11]
  · isplitr; · iexact E11
    isplitr; · iexact Hlev
    isplitl [C11]; · iexact C11
    isplitl [HO]; · iexact HO
    iexact A11
  iintro ⟨HO, A11, Hb⟩
  ihave Hb := (Entails.of_eq rfl : pay I c (.dma 11) 0 false ⊢ bPts c (sOf I (pb c))) $$ Hb
  iapply (WP_ret c)
  iapply (ldWhole c (cs := .vmem) (i := 8) (hκ := rfl) (sOf I c) inb_S256x1024_S256x1024_0_0 (by decide)) $$ [Hs]
  · iexact Hs
  iintro Hs
  iapply (ldWhole c (cs := .vmem) (i := 10) (hκ := rfl) (sOf I (pb c)) inb_S256x1024_S256x1024_0_0 (by decide)) $$ [Hb]
  · iexact Hb
  iintro Hb
  icases Hout with ⟨%fo, Hout⟩
  iapply (ldWhole c (cs := .vmem) (i := 3) (hκ := rfl) fo inb_S256x1024_S256x1024_0_0 (by decide)) $$ [Hout]
  · iexact Hout
  iintro Hout
  iapply (stWhole c (cs := .vmem) (i := 3) (hκ := rfl) fo (outOf I c) inb_S256x1024_S256x1024_0_0 (by decide)) $$ [Hout]
  · iexact Hout
  iintro Hout
  iapply (WP_ret c)
  iapply Hk
  unfold bodyPost
  isplitl [HO]; · iexact HO
  isplitl [Abar]; · iexact Abar
  isplitl [RK0]; · iexact RK0
  isplitl [RV0]; · iexact RV0
  isplitl [RK1]; · iexact RK1
  isplitl [RV1]; · iexact RV1
  isplitl [A8]; · iexact A8
  isplitl [A9]; · iexact A9
  isplitl [A10]; · iexact A10
  isplitl [A11]; · iexact A11
  isplitl [BK0]; · iexact BK0
  isplitl [BV0]; · iexact BV0
  isplitl [H]; · iexact H
  isplitl [Hx]; · iexact Hx
  isplitl [Hw]; · iexact Hw
  isplitl [Hwo]; · iexact Hwo
  isplitl [Hout]; · iexact Hout
  isplitl [Hp]; · iexact Hp
  isplitl [Hs]; · iexact Hs
  isplitl [Ha]; · iexact Ha
  iexact Hb

end Cert.KernelIdeal.Own

end
-- ==== Proof.Ghost.lean ====
/- The kernel's ghost state: what the launch deals a device, what opening its own cells makes of it, and closing every
   cell once the body has run. -/
module

public import proofs.«01_k».proof.Proof.Body

@[expose] public section

set_option maxRecDepth 16384
set_option synthInstance.maxSize 4096

noncomputable section

namespace Cert.KernelIdeal.Own

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ
variable (I : Dev nD → Inp F) (c : Dev nD)

/-- The invariants of the cells a device touches. -/
def invs (K : GSem nD τ sig → ℕ) : sProp 𝕄 :=
  iprop(cellInv ER (Rd I) (K (barCell c)) (barCell c)
    ∗ cellInv ER (Rd I) (K (barCell (pa c))) (barCell (pa c))
    ∗ cellInv ER (Rd I) (K (barCell (pb c))) (barCell (pb c))
    ∗ cellInv ER (Rd I) (K (dCell c 4)) (dCell c 4)
    ∗ cellInv ER (Rd I) (K (dCell c 5)) (dCell c 5)
    ∗ cellInv ER (Rd I) (K (dCell c 6)) (dCell c 6)
    ∗ cellInv ER (Rd I) (K (dCell c 7)) (dCell c 7)
    ∗ cellInv ER (Rd I) (K (dCell c 8)) (dCell c 8)
    ∗ cellInv ER (Rd I) (K (dCell c 9)) (dCell c 9)
    ∗ cellInv ER (Rd I) (K (dCell c 10)) (dCell c 10)
    ∗ cellInv ER (Rd I) (K (dCell c 11)) (dCell c 11)
    ∗ cellInv ER (Rd I) (K (dCell (pa c) 10)) (dCell (pa c) 10)
    ∗ cellInv ER (Rd I) (K (dCell (pb c) 11)) (dCell (pb c) 11))

/-- These can be copied. -/
instance invs_persistent (K : GSem nD τ sig → ℕ) : BI.Persistent (invs I c K) := by unfold invs; infer_instance

/-- The tokens of the duties a device pays. -/
def toks : sProp 𝕄 :=
  iprop(dutyTok ER (barCell (pa c)) 0 false
    ∗ dutyTok ER (barCell (pb c)) 0 true
    ∗ dutyTok ER (dCell c 4) 0 false
    ∗ dutyTok ER (dCell c 5) 0 false
    ∗ dutyTok ER (dCell c 6) 0 false
    ∗ dutyTok ER (dCell c 7) 0 false
    ∗ dutyTok ER (dCell c 4) 1 false
    ∗ dutyTok ER (dCell c 5) 1 false
    ∗ dutyTok ER (dCell c 6) 1 false
    ∗ dutyTok ER (dCell c 7) 1 false
    ∗ dutyTok ER (dCell c 8) 0 false
    ∗ dutyTok ER (dCell c 9) 0 false
    ∗ dutyTok ER (dCell (pa c) 10) 0 false
    ∗ dutyTok ER (dCell (pb c) 11) 0 false)

/-- The rights to open its own cells. -/
def opens : sProp 𝕄 :=
  iprop(openTok ER (dCell c 4) ∗ openTok ER (dCell c 5) ∗ openTok ER (dCell c 6) ∗ openTok ER (dCell c 7) ∗ openTok ER (dCell c 8) ∗ openTok ER (dCell c 9) ∗ openTok ER (dCell c 10) ∗ openTok ER (dCell c 11))

/-- Its own counters, at zero. -/
def zeros : sProp 𝕄 :=
  iprop(semVal (dCell c 4) 0 ∗ semVal (dCell c 5) 0 ∗ semVal (dCell c 6) 0 ∗ semVal (dCell c 7) 0 ∗ semVal (dCell c 8) 0 ∗ semVal (dCell c 9) 0 ∗ semVal (dCell c 10) 0 ∗ semVal (dCell c 11) 0)

/-- Its own cells, open and at their first round. -/
def firsts : sProp 𝕄 :=
  iprop(atPos ER (dCell c 4) 0 ∅ 0 ∗ atPos ER (dCell c 5) 0 ∅ 0 ∗ atPos ER (dCell c 6) 0 ∅ 0 ∗ atPos ER (dCell c 7) 0 ∅ 0 ∗ atPos ER (dCell c 8) 0 ∅ 0 ∗ atPos ER (dCell c 9) 0 ∅ 0 ∗ atPos ER (dCell c 10) 0 ∅ 0 ∗ atPos ER (dCell c 11) 0 ∅ 0
    ∗ reached ER (dCell c 4) 0 ∗ reached ER (dCell c 5) 0 ∗ reached ER (dCell c 6) 0 ∗ reached ER (dCell c 7) 0)

/-- What the launch deals a device. -/
def ghost (K : GSem nD τ sig → ℕ) : sProp 𝕄 :=
  iprop(invs I c K ∗ reached ER (barCell (pa c)) 0 ∗ reached ER (barCell (pb c)) 0
    ∗ atPos ER (barCell c) 0 ∅ 0 ∗ opens c ∗ toks c)

/-- The same once its own cells are open. -/
def opened (K : GSem nD τ sig → ℕ) : sProp 𝕄 :=
  iprop(exEnv I c K ∗ kvEnv I c K ∗ atPos ER (barCell c) 0 ∅ 0 ∗ firsts c ∗ toks c)

/-- The counters the others will raise for it. -/
def creds : sProp 𝕄 :=
  iprop(cred (tallyAt (barCell c) () 2) ∗ cred (tallyAt (dCell c 10) () NR) ∗ cred (tallyAt (dCell c 11) () NR))

/-- The kernel's own semaphores at zero, listed. -/
theorem ownSems0_eq : (Pipeline.ownSems0 osem0 c : sProp 𝕄) = zeros c :=
  bigSep_univ_eq_bigSepL [(0 : Fin 8), 1, 2, 3, 4, 5, 6, 7] (by decide) (by decide)
    (fun k : Fin 8 => (semVal ((c : Thread nD τ), osem0 k) 0 : sProp 𝕄))

/-- What the kernel keeps from launch to its entry. -/
def Tk : sProp 𝕄 := iprop((∃ K, ghost I c K) ∗ creds c)
/-- What opening makes of it. -/
def Xk : sProp 𝕄 := iprop((∃ K, opened I c K) ∗ creds c)

/-- Opening. -/
theorem hopen : iprop(Tk I c ∗ Pipeline.ownSems0 osem0 c ∗ levAts L lv) ⊢ (|={Set.univ}=> Xk I c : sProp 𝕄) := by
  rw [ownSems0_eq]
  unfold Tk Xk zeros
  iintro ⟨⟨⟨%K, Hg⟩, Hc⟩, ⟨S4, S5, S6, S7, S8, S9, S10, S11⟩, #Hlev⟩
  unfold ghost invs opens
  icases Hg with ⟨⟨#Ib, #Iba, #Ibb, #I4, #I5, #I6, #I7, #I8, #I9, #I10, #I11, #Ia10, #Ib11⟩, #Rba, #Rbb, Ab, ⟨O4, O5, O6, O7, O8, O9, O10, O11⟩, HT⟩
  imod (Rounds.cell_open ER (Rd I) (g := dCell c 4) (Set.mem_univ (K (dCell c 4)))) $$ [O4 S4] with ⟨A4, #R4⟩
  · isplitr; · iexact I4
    isplitl [O4] <;> iassumption
  imod (Rounds.cell_open ER (Rd I) (g := dCell c 5) (Set.mem_univ (K (dCell c 5)))) $$ [O5 S5] with ⟨A5, #R5⟩
  · isplitr; · iexact I5
    isplitl [O5] <;> iassumption
  imod (Rounds.cell_open ER (Rd I) (g := dCell c 6) (Set.mem_univ (K (dCell c 6)))) $$ [O6 S6] with ⟨A6, #R6⟩
  · isplitr; · iexact I6
    isplitl [O6] <;> iassumption
  imod (Rounds.cell_open ER (Rd I) (g := dCell c 7) (Set.mem_univ (K (dCell c 7)))) $$ [O7 S7] with ⟨A7, #R7⟩
  · isplitr; · iexact I7
    isplitl [O7] <;> iassumption
  imod (Rounds.cell_open ER (Rd I) (g := dCell c 8) (Set.mem_univ (K (dCell c 8)))) $$ [O8 S8] with ⟨A8, #R8⟩
  · isplitr; · iexact I8
    isplitl [O8] <;> iassumption
  imod (Rounds.cell_open ER (Rd I) (g := dCell c 9) (Set.mem_univ (K (dCell c 9)))) $$ [O9 S9] with ⟨A9, #R9⟩
  · isplitr; · iexact I9
    isplitl [O9] <;> iassumption
  imod (Rounds.cell_open ER (Rd I) (g := dCell c 10) (Set.mem_univ (K (dCell c 10)))) $$ [O10 S10] with ⟨A10, #R10⟩
  · isplitr; · iexact I10
    isplitl [O10] <;> iassumption
  imod (Rounds.cell_open ER (Rd I) (g := dCell c 11) (Set.mem_univ (K (dCell c 11)))) $$ [O11 S11] with ⟨A11, #R11⟩
  · isplitr; · iexact I11
    isplitl [O11] <;> iassumption
  imodintro
  isplitr [Hc]
  · iexists K; unfold opened exEnv kvEnv firsts
    isplitr
    · isplitr; · iexact Ib
      isplitr; · iexact Iba
      isplitr; · iexact Ibb
      isplitr; · iexact I8
      isplitr; · iexact I9
      isplitr; · iexact I10
      isplitr; · iexact I11
      isplitr; · iexact Ia10
      isplitr; · iexact Ib11
      isplitr; · iexact Hlev
      isplitr; · iexact Rba
      isplitr; · iexact Rbb
      isplitr; · iexact R8
      isplitr; · iexact R9
      isplitr; · iexact R10
      iexact R11
    isplitr
    · isplitr; · iexact I4
      isplitr; · iexact I5
      isplitr; · iexact I6
      isplitr; · iexact I7
      iexact Hlev
    isplitl [Ab]; · iexact Ab
    isplitr [HT]
    · isplitl [A4]; · iexact A4
      isplitl [A5]; · iexact A5
      isplitl [A6]; · iexact A6
      isplitl [A7]; · iexact A7
      isplitl [A8]; · iexact A8
      isplitl [A9]; · iexact A9
      isplitl [A10]; · iexact A10
      isplitl [A11]; · iexact A11
      isplitr; · iexact R4
      isplitr; · iexact R5
      isplitr; · iexact R6
      iexact R7
    iexact HT
  iexact Hc

/-- Closing the barrier's cell. -/
theorem closeBar (κ : ℕ) : iprop(cellInv ER (Rd I) κ (barCell c) ∗ atPos ER (barCell c) 1 ∅ 0) ⊢ (|={Set.univ}=> semVal (barCell c) 0 : sProp 𝕄) :=
  Rounds.cell_close ER (Rd I) (Set.mem_univ κ) id (duties_late_bar I c)
/-- Closing the cell of a double buffer. -/
theorem closeKv (κ : ℕ) (k : DmaSem sig) : iprop(cellInv ER (Rd I) κ (dCell c k) ∗ atPos ER (dCell c k) 2 ∅ 0) ⊢ (|={Set.univ}=> semVal (dCell c k) 0 : sProp 𝕄) :=
  Rounds.cell_close ER (Rd I) (Set.mem_univ κ) id (duties_late_kv I c k)
/-- Closing a cell of a remote copy. -/
theorem closeX (κ : ℕ) (k : DmaSem sig) (h8 : 8 ≤ k.val) : iprop(cellInv ER (Rd I) κ (dCell c k) ∗ atPos ER (dCell c k) 1 ∅ 0) ⊢ (|={Set.univ}=> semVal (dCell c k) 0 : sProp 𝕄) :=
  Rounds.cell_close ER (Rd I) (Set.mem_univ κ) id (duties_late_x I c k h8)

/-- The stored keys are their two halves. -/
theorem kHalves : (pt c main_v2 (I c).k : sProp 𝕄) ⊣⊢ iprop(kHalf I c 0 ∗ kHalf I c 1) :=
  pointsTo_share (PosShare.mem_left_op_right fullShare)
/-- The stored values are their two halves. -/
theorem vHalves : (pt c main_v3 (I c).v : sProp 𝕄) ⊣⊢ iprop(vHalf I c 0 ∗ vHalf I c 1) :=
  pointsTo_share (PosShare.mem_left_op_right fullShare)

/-- A double buffer is its two slots. -/
theorem kSlots (f : Vec F S2x16x64x8x128 .f32) : (pt c cc0_scratch0 f : sProp 𝕄) ⊢ iprop(kbPts c 0 f ∗ kbPts c 1 f) := by
  refine (pointsTo_split_subset (Finset.subset_univ (slotSet 0))).1.trans ?_
  rw [slot_compl]
/-- The same of the values. -/
theorem vSlots (f : Vec F S2x16x64x8x128 .f32) : (pt c cc0_scratch1 f : sProp 𝕄) ⊢ iprop(vbPts c 0 f ∗ vbPts c 1 f) := by
  refine (pointsTo_split_subset (Finset.subset_univ (slotSet 0))).1.trans ?_
  rw [slot_compl]
/-- Two slots make a double buffer. -/
theorem kJoin (f g : Vec F S2x16x64x8x128 .f32) : iprop(kbPts c 0 f ∗ kbPts c 1 g) ⊢ (iprop(∃ f, pt c cc0_scratch0 f) : sProp 𝕄) := by
  have h := pointsTo_join_subset (nD := nD) (τ := τ) (sig := sig) (Ix := Unit) (Val := Elt F) (Name := ℕ) (U := UU) (Lvl := ℕ)
    (ℓ := (c : Thread nD τ).loc cc0_scratch0) (q := fullShare) (f := g) (g := f) (Finset.subset_univ (slotSet 0))
  iintro ⟨H0, H1⟩
  iexists _
  iapply h
  isplitl [H0]; · iexact H0
  rw [slot_compl]
  iexact H1
/-- The same of the values. -/
theorem vJoin (f g : Vec F S2x16x64x8x128 .f32) : iprop(vbPts c 0 f ∗ vbPts c 1 g) ⊢ (iprop(∃ f, pt c cc0_scratch1 f) : sProp 𝕄) := by
  have h := pointsTo_join_subset (nD := nD) (τ := τ) (sig := sig) (Ix := Unit) (Val := Elt F) (Name := ℕ) (U := UU) (Lvl := ℕ)
    (ℓ := (c : Thread nD τ).loc cc0_scratch1) (q := fullShare) (f := g) (g := f) (Finset.subset_univ (slotSet 0))
  iintro ⟨H0, H1⟩
  iexists _
  iapply h
  isplitl [H0]; · iexact H0
  rw [slot_compl]
  iexact H1

/-- The seven buffers of the kernel's own, at any contents. -/
def scr : sProp 𝕄 :=
  iprop((∃ f, pt c cc0_scratch0 f) ∗ (∃ f, pt c cc0_scratch1 f) ∗ (∃ f, pt c cc0_scratch2 f) ∗ (∃ f, pt c cc0_scratch3 f)
    ∗ (∃ f, pt c cc0_scratch4 f) ∗ (∃ f, pt c cc0_scratch5 f) ∗ (∃ f, pt c cc0_scratch6 f))

/-- The stored keys and values. -/
def kv : sProp 𝕄 := iprop(pt c main_v2 (I c).k ∗ pt c main_v3 (I c).v)

/-- The staging buffers as the body finds them. -/
def stgPre : sProp 𝕄 := iprop(pt c cc0_stg0_0 (I c).x ∗ pt c cc0_stg1_0 (I c).wq ∗ pt c cc0_stg2_0 (I c).wo ∗ ∃ f, pt c cc0_stg3_0 f)
/-- The staging buffers as the body leaves them. -/
def stgPost : sProp 𝕄 := iprop(pt c cc0_stg0_0 (I c).x ∗ pt c cc0_stg1_0 (I c).wq ∗ pt c cc0_stg2_0 (I c).wo ∗ pt c cc0_stg3_0 (outOf I c))

/-- The body, from the open cells and whole buffers to the closed cells and whole buffers. -/
theorem closedRun (W : Waits sig Unit) (Kt : PUnit → sProp 𝕄) :
    iprop((Xk I c ∗ scr c ∗ kv I c ∗ stgPre I c ∗ owes (c : Thread nD τ) (O₀ c) W)
        ∗ (((semVal (barCell c) 0 ∗ zeros c) ∗ scr c ∗ kv I c ∗ stgPost I c
          ∗ ∃ W, owes (c : Thread nD τ) (0 : CellTallies nD τ sig Unit) W) -∗ Kt ⟨⟩))
      ⊢ WP c (cc0_body xM (Memref.isWhole_whole _) wqM (Memref.isWhole_whole _) kM (Memref.isWhole_whole _) vM (Memref.isWhole_whole _) woM (Memref.isWhole_whole _) oM (Memref.isWhole_whole _) kbM (Memref.isWhole_whole _) vbM (Memref.isWhole_whole _) cM (Memref.isWhole_whole _) pM (Memref.isWhole_whole _) sM (Memref.isWhole_whole _) aM (Memref.isWhole_whole _) bM (Memref.isWhole_whole _) cc0_scratch7 cc0_scratch8 cc0_scratch9) Kt := by
  unfold Xk scr kv stgPre stgPost creds opened firsts toks
  iintro ⟨⟨⟨⟨%K, #X, #Kv, Ab, ⟨A4, A5, A6, A7, A8, A9, A10, A11, #R4, #R5, #R6, #R7⟩, Ta, Tb, T40, T50, T60, T70, T41, T51, T61, T71, T8, T9, T10, T11⟩, Cb, C10, C11⟩,
    ⟨⟨%fk, Hkk⟩, ⟨%fv, Hv⟩, ⟨%fc, Hc⟩, Hp, Hs, Ha, Hb⟩, ⟨HK, HV⟩, ⟨Hx, Hwq, Hwo, Ho⟩, HO⟩, Hk⟩
  ihave HK := (kHalves I c).1 $$ HK
  icases HK with ⟨HK0, HK1⟩
  ihave HV := (vHalves I c).1 $$ HV
  icases HV with ⟨HV0, HV1⟩
  ihave Hk2 := (kSlots c fk) $$ Hkk
  icases Hk2 with ⟨Hk0, Hk1⟩
  ihave Hv := (vSlots c fv) $$ Hv
  icases Hv with ⟨Hv0, Hv1⟩
  iapply (wp_fupd Idealize.ShloMosaic.frame (wpE defs₀ 𝒱₀ (c : Thread nD τ) none) Set.univ _ _)
  iapply (bodyRun I c K W _)
  isplitr; · iexact X
  isplitr; · iexact Kv
  isplitr [Hk]
  · unfold bodyPre idleK idleV cAg
    isplitl [HO]; · iexact HO
    isplitl [Ta]; · iexact Ta
    isplitl [Tb]; · iexact Tb
    isplitl [Cb]; · iexact Cb
    isplitl [Ab]; · iexact Ab
    isplitl [HK0 Hk0 T40 A4]
    · isplitl [HK0]; · iexact HK0
      isplitl [Hk0]; · iexists _; iexact Hk0
      isplitl [T40]; · iexact T40
      isplitr; · iexact R4
      iexact A4
    isplitl [HV0 Hv0 T50 A5]
    · isplitl [HV0]; · iexact HV0
      isplitl [Hv0]; · iexists _; iexact Hv0
      isplitl [T50]; · iexact T50
      isplitr; · iexact R5
      iexact A5
    isplitl [HK1 Hk1 T60 A6]
    · isplitl [HK1]; · iexact HK1
      isplitl [Hk1]; · iexists _; iexact Hk1
      isplitl [T60]; · iexact T60
      isplitr; · iexact R6
      iexact A6
    isplitl [HV1 Hv1 T70 A7]
    · isplitl [HV1]; · iexact HV1
      isplitl [Hv1]; · iexists _; iexact Hv1
      isplitl [T70]; · iexact T70
      isplitr; · iexact R7
      iexact A7
    isplitl [T41]; · iexact T41
    isplitl [T51]; · iexact T51
    isplitl [T61]; · iexact T61
    isplitl [T71]; · iexact T71
    isplitl [T8]; · iexact T8
    isplitl [T9]; · iexact T9
    isplitl [T10]; · iexact T10
    isplitl [T11]; · iexact T11
    isplitl [A8]; · iexact A8
    isplitl [A9]; · iexact A9
    isplitl [A10]; · iexact A10
    isplitl [A11]; · iexact A11
    isplitl [C10]; · iexact C10
    isplitl [C11]; · iexact C11
    isplitl [Hx]; · iexact Hx
    isplitl [Hwq]; · iexact Hwq
    isplitl [Hwo]; · iexact Hwo
    isplitl [Ho]; · iexact Ho
    isplitl [Hc]
    · iexists fc
      isplitr; · ipureintro; exact agree_zero _ _ _
      iexact Hc
    isplitl [Hp]; · iexact Hp
    isplitl [Hs]; · iexact Hs
    isplitl [Ha]; · iexact Ha
    iexact Hb
  unfold bodyPost restK restV hold cAg kvEnv exEnv
  iintro ⟨HO, Ab, ⟨HK0, -, A4⟩, ⟨HV0, -, A5⟩, ⟨HK1, -, A6⟩, ⟨HV1, -, A7⟩, A8, A9, A10, A11, Hk0, Hv0, ⟨Hk1, Hv1, ⟨%gc, -, Hc⟩⟩, Hx, Hwq, Hwo, Ho, Hp, Hs, Ha, Hb⟩
  icases X with ⟨#Ib, -, -, #I8, #I9, #I10, #I11, -⟩
  icases Kv with ⟨#I4, #I5, #I6, #I7, -⟩
  imod (closeBar I c (K (barCell c))) $$ [Ab] with Sb
  · isplitr; · iexact Ib
    iexact Ab
  imod (closeKv I c (K (dCell c 4)) 4) $$ [A4] with S4
  · isplitr; · iexact I4
    iexact A4
  imod (closeKv I c (K (dCell c 5)) 5) $$ [A5] with S5
  · isplitr; · iexact I5
    iexact A5
  imod (closeKv I c (K (dCell c 6)) 6) $$ [A6] with S6
  · isplitr; · iexact I6
    iexact A6
  imod (closeKv I c (K (dCell c 7)) 7) $$ [A7] with S7
  · isplitr; · iexact I7
    iexact A7
  imod (closeX I c (K (dCell c 8)) 8 (by decide)) $$ [A8] with S8
  · isplitr; · iexact I8
    iexact A8
  imod (closeX I c (K (dCell c 9)) 9 (by decide)) $$ [A9] with S9
  · isplitr; · iexact I9
    iexact A9
  imod (closeX I c (K (dCell c 10)) 10 (by decide)) $$ [A10] with S10
  · isplitr; · iexact I10
    iexact A10
  imod (closeX I c (K (dCell c 11)) 11 (by decide)) $$ [A11] with S11
  · isplitr; · iexact I11
    iexact A11
  imodintro
  iapply Hk
  isplitl [Sb S4 S5 S6 S7 S8 S9 S10 S11]
  · isplitl [Sb]; · iexact Sb
    unfold zeros
    isplitl [S4]; · iexact S4
    isplitl [S5]; · iexact S5
    isplitl [S6]; · iexact S6
    isplitl [S7]; · iexact S7
    isplitl [S8]; · iexact S8
    isplitl [S9]; · iexact S9
    isplitl [S10]; · iexact S10
    iexact S11
  isplitl [Hk0 Hk1 Hv0 Hv1 Hc Hp Hs Ha Hb]
  · isplitl [Hk0 Hk1]
    · iapply (kJoin c _ _)
      isplitl [Hk0]; · iexact Hk0
      iexact Hk1
    isplitl [Hv0 Hv1]
    · iapply (vJoin c _ _)
      isplitl [Hv0]; · iexact Hv0
      iexact Hv1
    isplitl [Hc]; · iexists _; iexact Hc
    isplitl [Hp]; · iexists _; iexact Hp
    isplitl [Hs]; · iexists _; iexact Hs
    isplitl [Ha]; · iexists _; iexact Ha
    iexists _; iexact Hb
  isplitl [HK0 HK1 HV0 HV1]
  · isplitl [HK0 HK1]
    · iapply (kHalves I c).2
      isplitl [HK0]; · iexact HK0
      iexact HK1
    iapply (vHalves I c).2
    isplitl [HV0]; · iexact HV0
    iexact HV1
  isplitl [Hx Hwq Hwo Ho]
  · isplitl [Hx]; · iexact Hx
    isplitl [Hwq]; · iexact Hwq
    isplitl [Hwo]; · iexact Hwo
    iexact Ho
  iexact HO

end Cert.KernelIdeal.Own

end
-- ==== Proof.Region.lean ====
/- The kernel's call as a region of the program: what it is entered with, its body at the one grid point, what it
   leaves. -/
module

public import proofs.«01_k».proof.Proof.Ghost
public import Idealize.ShloMosaic.Lib.Pipeline.RegionTalk
public import Idealize.ShloMosaic.Lib.Pipeline.Value
public import proofs.«01_k».proof.Proof.Gen.KernelIdeal.Frame

@[expose] public section

set_option maxRecDepth 16384
set_option synthInstance.maxSize 4096

noncomputable section

namespace Cert.KernelIdeal.Own

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F] [Named F]

local notation "𝕄" => MT nD τ sig Unit (Elt F) ℕ UU ℕ
variable (m : (ℓ : Loc nD τ sig) → Buf (Elt F) ℓ) (c : Dev nD)

/-- What the kernel's operands hold when the region is entered. -/
def Ir : Dev nD → Inp F := fun c =>
  ⟨V m c main_v1, V m c main_arg1, V m c main_v2, V m c main_v3, V m c main_arg4⟩

/-- The contents of a device's buffers after the region: the result's array is what the kernel leaves. -/
def V₂ : Valuation τ sig (Elt F) := Function.update (V0 m c) (Proc.devRef .tc main_v4) (outOf (Ir m) c)

/-- The region's configuration is admissible. -/
abbrev adm : (p : Fin 1) → (pcfgs (F := F) p).Adm := fun p => (cfgs p).toPCfg_adm

/-- The stored keys and values, as references. -/
def Hs : Finset (DevRef τ sig) := {Proc.devRef .tc main_v2, Proc.devRef .tc main_v3}

/-- The stored keys and values, listed. -/
theorem held_Hs (W : Valuation τ sig (Elt F)) :
    (StableHlo.held (c : Thread nD τ) Hs W : sProp 𝕄)
      = iprop((((c : Thread nD τ).loc main_v2) ↦{fullShare} W (Proc.devRef .tc main_v2))
          ∗ (((c : Thread nD τ).loc main_v3) ↦{fullShare} W (Proc.devRef .tc main_v3))) :=
  bigSep_eq_bigSepL_of_eq [Proc.devRef .tc main_v2, Proc.devRef .tc main_v3] (by decide) (by decide) _

/-- The body's invariant before its one point. -/
def Φa : sProp 𝕄 := iprop(Xk (Ir m) c ∗ scr c ∗ kv (Ir m) c ∗ ∃ r, prngReg c r)
/-- The body's invariant after its one point. -/
def Φb : sProp 𝕄 := iprop((semVal (barCell c) 0 ∗ zeros c) ∗ scr c ∗ kv (Ir m) c ∗ ∃ r, prngReg c r)

/-- The region's data: the operands' arrays, the staging buffers after the body, the body's invariant before and after
    the one point, and what the device owes at each. -/
def dat0 : Dat τ (Elt F) Unit ℕ UU ℕ cfg0 c where
  A w := V m c (Pipeline.arrRef spec0 w)
  after w _ := match w with
    | ⟨0, _⟩ => (Ir m c).x
    | ⟨1, _⟩ => (Ir m c).wq
    | ⟨2, _⟩ => (Ir m c).wo
    | ⟨3, _⟩ => outOf (Ir m) c
  Φ t := if t.val = 0 then Φa m c
    else Φb m c
  q _ := fullShare
  owed t := if t.val = 0 then O₀ c else 0

/-- The data of the program's one region. -/
def pdats (_ : Fin 1) (c : Dev nD) : Dat τ (Elt F) Unit ℕ UU ℕ cfg0 c := dat0 m c

/-- A conjunction over the windows, listed. -/
theorem bigSep_W (Φ : Fin cfg0.W → sProp 𝕄) :
    bigSep Finset.univ Φ = iprop(Φ (0 : Fin 4) ∗ Φ (1 : Fin 4) ∗ Φ (2 : Fin 4) ∗ Φ (3 : Fin 4)) := bigSep_W0 Φ

/-- To own a buffer through its whole view is to own the buffer. -/
theorem owns_whole_eq (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

/-- The end of the grid is not its start. -/
theorem last_ne : ¬ (Fin.last cfg0.N).val = 0 := by rw [Fin.val_last, show cfg0.N = 1 from N_0]; decide
/-- What a device owes before the body. -/
theorem owed_first : (dat0 m c).owed t0_0.castSucc = O₀ c := by
  show (if (t0_0.castSucc : Fin (cfg0.N + 1)).val = 0 then O₀ c else 0) = O₀ c; exact if_pos rfl
/-- What a device owes at the region's entry. -/
theorem owed_zero : (pdats m 0 c).owed 0 = O₀ c := by
  show (if (0 : Fin (cfg0.N + 1)).val = 0 then O₀ c else 0) = O₀ c; exact if_pos rfl
/-- A device owes nothing after the body. -/
theorem owed_succ : (dat0 m c).owed t0_0.succ = 0 := by
  show (if (t0_0.succ : Fin (cfg0.N + 1)).val = 0 then O₀ c else 0) = 0; exact if_neg (Nat.succ_ne_zero _)
/-- A device owes nothing at the region's exit. -/
theorem owed_last : (pdats m 0 c).owed (Fin.last _) = 0 := by
  show (if (Fin.last cfg0.N).val = 0 then O₀ c else 0) = 0; exact if_neg last_ne

/-- What a device owes, as the region's data state it. -/
theorem owesAt_intro (t : Fin (cfg0.N + 1)) (O : CellTallies nD τ sig Unit) (h0 : (dat0 m c).owed t = O) (W : Waits sig Unit) :
    (owes (c : Thread nD τ) O W : sProp 𝕄) ⊢ ((dat0 m c).owesAt () t : sProp 𝕄) := by
  unfold Dat.owesAt Pipeline.owesWithin Dat.bound; rw [h0, show (dat0 m c).recorded t = Set.univ from rfl]
  iintro HO; iexists W; isplitr; · ipureintro; exact fun _ _ => Or.inl trivial
  iexact HO
/-- And back. -/
theorem owesAt_elim (t : Fin (cfg0.N + 1)) (O : CellTallies nD τ sig Unit) (h0 : (dat0 m c).owed t = O) :
    ((dat0 m c).owesAt () t : sProp 𝕄) ⊢ iprop(∃ W, owes (c : Thread nD τ) O W) := by
  unfold Dat.owesAt Pipeline.owesWithin; rw [h0]
  iintro ⟨%W, -, HO⟩; iexists W; iexact HO

/-- The invariant before the body. -/
theorem Φ_first : (dat0 m c).Φ t0_0.castSucc = Φa m c := by
  show (if (t0_0.castSucc : Fin (cfg0.N + 1)).val = 0 then Φa m c else Φb m c) = _; exact if_pos rfl
/-- The invariant at the region's entry. -/
theorem Φ_zero : (pdats m 0 c).Φ 0 = Φa m c := by
  show (if (0 : Fin (cfg0.N + 1)).val = 0 then Φa m c else Φb m c) = _; exact if_pos rfl
/-- The invariant after the body. -/
theorem Φ_succ : (dat0 m c).Φ t0_0.succ = Φb m c := by
  show (if (t0_0.succ : Fin (cfg0.N + 1)).val = 0 then Φa m c else Φb m c) = _; exact if_neg (Nat.succ_ne_zero _)
/-- The invariant at the region's exit. -/
theorem Φ_last : (pdats m 0 c).Φ (Fin.last _) = Φb m c := by
  show (if (Fin.last cfg0.N).val = 0 then Φa m c else Φb m c) = _; exact if_neg last_ne

/-- A window's one block is its whole array. -/
theorem read_blk0 (t : Fin cfg0.N) (f : Vec F S256x1024 .f32) : (((cfg0.win 0).blk t).view.read (Elt F) f : Vec F S256x1024 .f32) = f := by
  funext i
  refine congrArg f (funext fun a => Fin.ext ?_)
  exact (Pipeline.Window.rect_emb_val_of_index_zero win0_0 t a rfl i)
/-- The same of the query projection's window. -/
theorem read_blk1 (t : Fin cfg0.N) (f : Vec F S1024x1024 .f32) : (((cfg0.win 1).blk t).view.read (Elt F) f : Vec F S1024x1024 .f32) = f := by
  funext i
  refine congrArg f (funext fun a => Fin.ext ?_)
  exact (Pipeline.Window.rect_emb_val_of_index_zero win0_1 t a rfl i)
/-- The same of the output projection's window. -/
theorem read_blk2 (t : Fin cfg0.N) (f : Vec F S1024x1024 .f32) : (((cfg0.win 2).blk t).view.read (Elt F) f : Vec F S1024x1024 .f32) = f := by
  funext i
  refine congrArg f (funext fun a => Fin.ext ?_)
  exact (Pipeline.Window.rect_emb_val_of_index_zero win0_2 t a rfl i)
/-- The same of the result's window. -/
theorem read_blk3 (t : Fin cfg0.N) (f : Vec F S256x1024 .f32) : (((cfg0.win 3).blk t).view.read (Elt F) f : Vec F S256x1024 .f32) = f := by
  funext i
  refine congrArg f (funext fun a => Fin.ext ?_)
  exact (Pipeline.Window.rect_emb_val_of_index_zero win0_3 t a rfl i)

/-- The staging buffers as the body finds them: the arrays whole. -/
theorem before0 (d) : (dat0 m c).before 0 t0_0 d = (Ir m c).x := by
  unfold Dat.before; rw [if_pos (fetch0_0 _)]
  exact (show (dat0 m c).fetched 0 t0_0 d = ((cfg0.win 0).blk t0_0).view.read (Elt F) (V m c main_v1) from rfl).trans (read_blk0 t0_0 _)
/-- The same of the query projection. -/
theorem before1 (d) : (dat0 m c).before 1 t0_0 d = (Ir m c).wq := by
  unfold Dat.before; rw [if_pos (fetch0_1 _)]
  exact (show (dat0 m c).fetched 1 t0_0 d = ((cfg0.win 1).blk t0_0).view.read (Elt F) (V m c main_arg1) from rfl).trans (read_blk1 t0_0 _)
/-- The same of the output projection. -/
theorem before2 (d) : (dat0 m c).before 2 t0_0 d = (Ir m c).wo := by
  unfold Dat.before; rw [if_pos (fetch0_2 _)]
  exact (show (dat0 m c).fetched 2 t0_0 d = ((cfg0.win 2).blk t0_0).view.read (Elt F) (V m c main_arg4) from rfl).trans (read_blk2 t0_0 _)

/-- The body at the one point. -/
theorem body : BodyObligation (dat0 m c) defs₀ 𝒱₀ () Set.univ := fun t => by
  rw [fin_N0 t]
  rw [bigSep_W, bigSep_W, Φ_first, Φ_succ]
  simp only [owns_whole_eq]
  show _ ⊢ WP c (cc0_body xM (Memref.isWhole_whole _) wqM (Memref.isWhole_whole _) kM (Memref.isWhole_whole _) vM (Memref.isWhole_whole _) woM (Memref.isWhole_whole _) oM (Memref.isWhole_whole _) kbM (Memref.isWhole_whole _) vbM (Memref.isWhole_whole _) cM (Memref.isWhole_whole _) pM (Memref.isWhole_whole _) sM (Memref.isWhole_whole _) aM (Memref.isWhole_whole _) bM (Memref.isWhole_whole _) cc0_scratch7 cc0_scratch8 cc0_scratch9) _
  iintro ⟨HΦ, HO, ⟨%d0, %g0, %hg0, Hx⟩, ⟨%d1, %g1, %hg1, Hq⟩, ⟨%d2, %g2, %hg2, Ho⟩, ⟨%d3, %g3, %hg3, Hr⟩⟩
  have h0 : g0 = (Ir m c).x := hg0.trans (before0 m c d0)
  have h1 : g1 = (Ir m c).wq := hg1.trans (before1 m c d1)
  have h2 : g2 = (Ir m c).wo := hg2.trans (before2 m c d2)
  subst h0 h1 h2
  ihave HO := (owesAt_elim m c _ (O₀ c) (owed_first m c)) $$ HO
  icases HO with ⟨%W, HO⟩
  iapply (closedRun (Ir m) c W _)
  unfold Φa
  icases HΦ with ⟨HX, Hs, Hkv, Hp⟩
  isplitl [HX Hs Hkv Hx Hq Ho Hr HO]
  · isplitl [HX]; · iexact HX
    isplitl [Hs]; · iexact Hs
    isplitl [Hkv]; · iexact Hkv
    isplitl [Hx Hq Ho Hr]
    · unfold stgPre
      isplitl [Hx]; · iexact Hx
      isplitl [Hq]; · iexact Hq
      isplitl [Ho]; · iexact Ho
      iexists g3; iexact Hr
    iexact HO
  unfold Φb stgPost
  iintro ⟨HZ, Hs, Hkv, ⟨Hx, Hq, Ho, Hr⟩, ⟨%W', HO⟩⟩
  isplitl [HZ Hs Hkv Hp]
  · isplitl [HZ]; · iexact HZ
    isplitl [Hs]; · iexact Hs
    isplitl [Hkv] <;> iassumption
  isplitl [HO]
  · iapply (owesAt_intro m c t0_0.succ 0 (owed_succ m c) W'); iexact HO
  isplitl [Hx]; · iexists _; isplitr; · ipureintro; exact rfl
                  iexact Hx
  isplitl [Hq]; · iexists _; isplitr; · ipureintro; exact rfl
                  iexact Hq
  isplitl [Ho]; · iexists _; isplitr; · ipureintro; exact rfl
                  iexact Ho
  iexists _; isplitr; · ipureintro; exact rfl
  iexact Hr

/-- The result's array after the region. -/
theorem arr_out : (pdats m 0 c).arrAt 3 (cfg0).N = outOf (Ir m) c :=
  (dat0 m c).arrAt_eq_of_cover 3 (outOf (Ir m) c)
    (fun t _ => (show (dat0 m c).flushed 3 t = outOf (Ir m) c from rfl).trans (read_blk3 t (outOf (Ir m) c)).symm)
    (fun i => ⟨t0_0, flush0_3 _, by
      have e : ((cfg0.win 3).blk t0_0).view.emb i = i :=
        funext fun a => Fin.ext (Pipeline.Window.rect_emb_val_of_index_zero win0_3 t0_0 a rfl i)
      have h := ((cfg0.win 3).blk t0_0).view.emb_mem_set i
      rw [e] at h
      exact h⟩)

/-! ## The region -/

/-- The device's unscoped buffers. -/
abbrev bufs : Finset (DevRef τ sig) := (StableHlo.tcRefs τ sig).filter fun b => ¬ b.isScoped
/-- The unscoped buffers that no window moves. -/
abbrev Sr : Finset (DevRef τ sig) := bufs \ Pipeline.arrRefs (τ := τ) spec0

/-- The unscoped buffers, held at their contents. -/
theorem unscopedBufs_held (W : Valuation τ sig (Elt F)) :
    (unscopedBufs c (fun b => W (Proc.devRef .tc b)) : sProp 𝕄) = StableHlo.held (c : Thread nD τ) bufs W := by
  unfold unscopedBufs StableHlo.held bufs StableHlo.tcRefs
  rw [Finset.filter_map, BI.bigSep_map]
  rfl

/-- The windows' arrays are unscoped buffers. -/
theorem arr_sub : Pipeline.arrRefs (τ := τ) spec0 ⊆ bufs := by decide
/-- No window moves the stored keys and values. -/
theorem Hs_sub : Hs ⊆ Sr := by decide

/-- The unscoped buffers are the windows' arrays and the others. -/
theorem held_bufs (W : Valuation τ sig (Elt F)) :
    (StableHlo.held (c : Thread nD τ) bufs W : sProp 𝕄)
      = iprop(StableHlo.held (c : Thread nD τ) (Pipeline.arrRefs (τ := τ) spec0) W ∗ StableHlo.held (c : Thread nD τ) Sr W) :=
  StableHlo.held_sub_split (c : Thread nD τ) arr_sub W

/-- The region changes no buffer but its result's. -/
theorem V₂_of_ne (b : Ref sig .tc) (h : b ≠ main_v4) : V₂ m c (Proc.devRef .tc b) = V m c b :=
  Function.update_of_ne (StableHlo.devRef_ne_of_ne h) _ _
/-- The region's result is what the kernel leaves. -/
theorem V₂_out : V₂ m c (Proc.devRef .tc main_v4) = outOf (Ir m) c := Function.update_self _ _ _

/-- Nor does it change any of the buffers that it does not hold. -/
theorem rest_eq (b : DevRef τ sig) (hb : b ∈ Sr \ Hs) : V₂ m c b = V0 m c b := by
  refine Function.update_of_ne ?_ _ _
  rintro rfl
  exact absurd hb (by decide)

/-- The entry opens the cells. -/
theorem hopen0 : iprop(Tk (Ir m) c ∗ Pipeline.ownSems0 osem0 c ∗ levAts L lv) ⊢ (|={Set.univ}=> Xk (Ir m) c : sProp 𝕄) :=
  hopen (Ir m) c

/-- What the entry holds is the body's invariant before its point. -/
theorem hin0 : iprop(Pipeline.scopedRest (Pipeline.pin (pcfgs (F := F)) adm 0).spec c ∗ (∃ r, prngReg c r)
      ∗ StableHlo.held (c.tc : Thread nD τ) Hs (V0 m c) ∗ Xk (Ir m) c) ⊢ (pdats m 0 c).Φ 0 := by
  rw [Φ_zero, held_Hs, show (Pipeline.scopedRest (Pipeline.pin (pcfgs (F := F)) adm 0).spec c : sProp 𝕄) = scr c from scopedRest0_eq c]
  unfold Φa kv
  iintro ⟨Hs, Hp, Hkv, HX⟩
  isplitl [HX]; · iexact HX
  isplitl [Hs]; · iexact Hs
  isplitl [Hkv]; · iexact Hkv
  iexact Hp

/-- The body's invariant after its point gives back all that the exit wants. -/
theorem hout0 : (pdats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) Hs (V₂ m c) ∗ Pipeline.ownSems0 osem0 c ∗ semVal (barCell c) 0) := by
  rw [show (pdats m 0 c).Φ (Fin.last (Pipeline.pin (pcfgs (F := F)) adm 0).N) = Φb m c from Φ_last m c, held_Hs,
    V₂_of_ne m c main_v2 (by decide), V₂_of_ne m c main_v3 (by decide), ownSems0_eq,
    show (Pipeline.scopedRest (Pipeline.pin (pcfgs (F := F)) adm 0).spec c : sProp 𝕄) = scr c from scopedRest0_eq c]
  unfold Φb kv
  iintro ⟨⟨Hb, Hz⟩, Hs, Hkv, Hp⟩
  isplitl [Hs]; · iexact Hs
  isplitl [Hp]; · iexact Hp
  isplitl [Hkv]; · iexact Hkv
  isplitl [Hz] <;> iassumption

/-- The region's windows are well laid out. -/
theorem kitP : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

/-- The staging semaphores lie lowest in the order. -/
theorem stg_low : ∀ (w : Fin 4) (s : Fin (win0 w).nbuf), lvs (.dma ((win0 w).sem s)) ≤ 0 := by decide

/-- All that a device owes lies above them. -/
theorem O₀_pos (g : GSem nD τ sig) (u : Unit) (h : 0 < O₀ c g u) : u ∈ L g ∧ 0 < lv g u := by
  unfold O₀ at h
  rw [show (OR c + tallyAt (barCell (pa c)) () 1 + tallyAt (barCell (pb c)) () 1 : CellTallies nD τ sig Unit) g u
    = OR c g u + tallyAt (barCell (pa c)) () 1 g u + tallyAt (barCell (pb c)) () 1 g u from rfl, tallyAt_apply, tallyAt_apply] at h
  have hb : ∀ d : Dev nD, u ∈ L (barCell d) ∧ 0 < lv (barCell d) u := fun d =>
    ⟨by cases u; exact (L_tc d _).symm ▸ Finset.mem_singleton_self _, show 0 < lvs (.reg barrier0) by decide⟩
  by_cases h1 : g = barCell (pa c) ∧ u = ()
  · rw [h1.1]; exact hb _
  · by_cases h2 : g = barCell (pb c) ∧ u = ()
    · rw [h2.1]; exact hb _
    · rw [if_neg h1, if_neg h2] at h
      have h3 := OR_pos c g u h
      exact ⟨by unfold L; rw [if_pos h3.1]; exact Finset.mem_singleton_self _, by omega⟩

/-- At every point, all that a device owes lies above them. -/
theorem cutD (t : Fin ((Pipeline.pin (pcfgs (F := F)) adm 0).N + 1)) (g : GSem nD τ sig) (i : Unit)
    (h : 0 < (pdats m 0 c).owed t g i) : i ∈ L g ∧ (0 : ℕ) < lv g i := by
  have e : (pdats m 0 c).owed t = if t.val = 0 then O₀ c else 0 := rfl
  rw [e] at h
  split at h
  · exact O₀_pos c g i h
  · exact absurd h (Nat.lt_irrefl 0)

/-- The windows' arrays at the region's exit. -/
theorem arr_after (w : Fin 4) : (pdats m 0 c).arrAt w cfg0.N = V₂ m c (Proc.devRef .tc (Pipeline.arrRef spec0 w)) := by
  match w with
  | 0 => exact ((dat0 m c).arrAt_in 0 rfl _).trans (V₂_of_ne m c main_v1 (by decide)).symm
  | 1 => exact ((dat0 m c).arrAt_in 1 rfl _).trans (V₂_of_ne m c main_arg1 (by decide)).symm
  | 2 => exact ((dat0 m c).arrAt_in 2 rfl _).trans (V₂_of_ne m c main_arg4 (by decide)).symm
  | 3 => exact (arr_out m c).trans (V₂_out m c).symm

set_option backward.isDefEq.respectTransparency.types false in
/-- The call, as a region: it takes the launch's ghost state in and leaves the barrier's counter at zero. -/
def reg : Pipeline.RegionSeg (pcfgs (F := F)) adm (pdats m) () defs₀ 𝒱₀ L lv 0 :=
  Pipeline.RegionSeg.ofTalk (pcfgs (F := F)) adm (pdats m) () defs₀ 𝒱₀ L lv 0 osem0 (by decide : Pipeline.OwnSemFacts spec0 osem0)
    Hs Sr Hs_sub kitP rfl (fun c => (body m c).loose)
    (fun _ => 0) O₀ (fun c => (owed_zero m c).trans (zero_add _).symm) (owed_last m) (fun _ => rfl)
    (fun _ w => by unfold Dat.share; split <;> rfl)
    (V0 m) (V₂ m) (rest_eq m)
    (Tk (Ir m)) (fun c => semVal (barCell c) 0) (Xk (Ir m)) (fun c => semVal (barCell c) 0) (hopen0 m) (hin0 m) (hout0 m)
    (fun c => by iintro H; imodintro; iexact H)
    (fun _ => 0)
    ⟨fun c w s => by rw [L_tc]; exact Finset.mem_singleton_self _,
      fun c w s => stg_low w s,
      fun c t g i h => cutD m c t g i h⟩
    (fun _ => iprop(emp))
    (fun c w => rfl) (fun c w => arr_after m c w)

/-- What the region is entered with. -/
theorem reg_pre : iprop(StableHlo.held (c : Thread nD τ) bufs (V0 m c)
      ∗ (Tk (Ir m) c ∗ (∃ r, prngReg c r)) ∗ ∃ W, owes (c : Thread nD τ) (O₀ c) W) ⊢ (reg m).pre c := by
  show _ ⊢ iprop(StableHlo.held (c.tc : Thread nD τ) (Pipeline.arrRefs (τ := τ) spec0) (V0 m c) ∗ (∃ r, prngReg c r)
    ∗ (StableHlo.held (c.tc : Thread nD τ) Sr (V0 m c) ∗ emp) ∗ Tk (Ir m) c ∗ ∃ Wd, owes (c : Thread nD τ) (0 + O₀ c) Wd)
  rw [held_bufs, zero_add]
  iintro ⟨⟨Ha, Hr⟩, ⟨HT, Hp⟩, HO⟩
  isplitl [Ha]; · iexact Ha
  isplitl [Hp]; · iexact Hp
  isplitl [Hr]
  · isplitl [Hr]; · iexact Hr
    iempintro
  isplitl [HT]; · iexact HT
  iexact HO

/-- What it leaves. -/
theorem reg_post : (reg m).post c ⊢ iprop(StableHlo.held (c : Thread nD τ) bufs (V₂ m c)
      ∗ semVal (barCell c) 0 ∗ ∃ W, owes (c : Thread nD τ) (0 : CellTallies nD τ sig Unit) W) := by
  show iprop(StableHlo.held (c.tc : Thread nD τ) (Pipeline.arrRefs (τ := τ) spec0) (V₂ m c) ∗ (∃ r, prngReg c r)
    ∗ (StableHlo.held (c.tc : Thread nD τ) Sr (V₂ m c) ∗ emp) ∗ semVal (barCell c) 0
    ∗ ∃ Wd, owes (c : Thread nD τ) (0 : CellTallies nD τ sig Unit) Wd) ⊢ _
  rw [held_bufs]
  iintro ⟨Ha, -, ⟨Hr, -⟩, Hb, HO⟩
  isplitl [Ha Hr]
  · isplitl [Ha] <;> iassumption
  isplitl [Hb] <;> iassumption

end Cert.KernelIdeal.Own

end
-- ==== Proof.Deal.lean ====
/- The launch: the protocol's cells and tokens dealt to the devices, and the run of the whole program. -/
module

public import proofs.«01_k».proof.Proof.Region
public import Idealize.ShloMosaic.Lib.Quiescent

@[expose] public section

set_option maxRecDepth 16384
set_option synthInstance.maxSize 4096

noncomputable section

namespace Cert.KernelIdeal.Own

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F] [Named F]

local notation "𝕄" => MT nD τ sig Unit (Elt F) ℕ UU ℕ
variable (m : (ℓ : Loc nD τ sig) → Buf (Elt F) ℓ) (ρ : Dev nD → PrngReg) (c : Dev nD)

/-! ## The cells and the tokens -/

/-- The kernel's own semaphores differ. -/
theorem osem0_inj : Function.Injective osem0 := by decide
/-- None of them is the barrier. -/
theorem osem0_ne_bar : ∀ k : Fin 8, osem0 k ≠ .reg barrier0 := by decide

/-- The barriers, by device. -/
def barEmb : Dev nD ↪ GSem nD τ sig := ⟨fun c => barCell c, fun _ _ h => congrArg (fun g : GSem nD τ sig => g.1.1) h⟩
/-- The kernel's own semaphores, by device and number. -/
def scEmb : Dev nD × Fin 8 ↪ GSem nD τ sig :=
  ⟨fun ck => ((ck.1 : Thread nD τ), osem0 ck.2), fun _ _ h =>
    Prod.ext (congrArg (fun g : GSem nD τ sig => g.1.1) h) (osem0_inj (congrArg Prod.snd h))⟩

/-- The barriers' cells. -/
abbrev barCells : Finset (GSem nD τ sig) := Finset.univ.map barEmb
/-- The cells of the kernel's own semaphores. -/
abbrev scCells : Finset (GSem nD τ sig) := Finset.univ.map scEmb
/-- The semaphore of a device's `k`-th duty. -/
abbrev tsem : Fin 14 → SemLoc sig := fun | 0 => .reg barrier0 | 1 => .reg barrier0 | 2 => .dma 4 | 3 => .dma 5 | 4 => .dma 6 | 5 => .dma 7 | 6 => .dma 4 | 7 => .dma 5 | 8 => .dma 6 | 9 => .dma 7 | 10 => .dma 8 | 11 => .dma 9 | 12 => .dma 10 | 13 => .dma 11
/-- Its round. -/
abbrev trd : Fin 14 → ℕ := fun | 0 => 0 | 1 => 0 | 2 => 0 | 3 => 0 | 4 => 0 | 5 => 0 | 6 => 1 | 7 => 1 | 8 => 1 | 9 => 1 | 10 => 0 | 11 => 0 | 12 => 0 | 13 => 0
/-- Which of the round's duties it is. -/
abbrev tdu : Fin 14 → Bool := fun | 0 => false | 1 => true | 2 => false | 3 => false | 4 => false | 5 => false | 6 => false | 7 => false | 8 => false | 9 => false | 10 => false | 11 => false | 12 => false | 13 => false
/-- No duty is listed twice. -/
theorem tk_inj : Function.Injective (fun k : Fin 14 => (tsem k, trd k, tdu k)) := by decide
/-- The tokens of all the duties, of all the devices. -/
def talkToks : Finset (GSem nD τ sig × ℕ × Bool) :=
  Finset.univ.map ⟨fun ck : Dev nD × Fin 14 => (((ck.1 : Thread nD τ), tsem ck.2), trd ck.2, tdu ck.2), fun _ _ h =>
    Prod.ext (congrArg (fun t : GSem nD τ sig × ℕ × Bool => t.1.1.1) h)
      (tk_inj (Prod.ext (congrArg (fun t : GSem nD τ sig × ℕ × Bool => t.1.2) h)
        (congrArg (fun t : GSem nD τ sig × ℕ × Bool => t.2) h)))⟩

/-- The barriers are not among the kernel's own semaphores. -/
theorem disjoint_cells : Disjoint (barCells : Finset (GSem nD τ sig)) scCells := by
  rw [Finset.disjoint_left]
  rintro g h₁ h₂
  obtain ⟨c, -, rfl⟩ := Finset.mem_map.mp h₁
  obtain ⟨ck, -, h⟩ := Finset.mem_map.mp h₂
  exact osem0_ne_bar ck.2 (congrArg Prod.snd h)

/-- Every device's barrier is among the cells. -/
theorem bar_mem : barCell c ∈ (barCells ∪ scCells : Finset (GSem nD τ sig)) :=
  Finset.mem_union_left _ (Finset.mem_map_of_mem barEmb (Finset.mem_univ c))
/-- Every semaphore of the kernel's own is among the cells. -/
theorem sc_mem (k : Fin 8) : ((c : Thread nD τ), osem0 k) ∈ (barCells ∪ scCells : Finset (GSem nD τ sig)) :=
  Finset.mem_union_right _ (Finset.mem_map_of_mem scEmb (Finset.mem_univ (c, k)))

/-- What the launch starts from: the staging cells' element and the protocol's. -/
def u₀ : UU :=
  (initOf (Pipeline.cells (Pipeline.pin (pcfgs (F := F)) adm) cellOf_inj) (Pipeline.launchToks (Pipeline.pin (pcfgs (F := F)) adm) cellOf_inj),
    launchOf barCells scCells talkToks)

/-- The protocol's element, given whole to the first device until it is dealt. -/
def G (c : Dev nD) : sProp 𝕄 := if c = 0 then BI.own (ER (launchOf barCells scCells talkToks)) else iprop(emp)
/-- The devices' shares of the protocol's element are the element. -/
theorem bigSep_G : bigSep Finset.univ (G (F := F)) = BI.own (ER (launchOf barCells scCells talkToks)) := by
  rw [bigSep_univ_at _ (0 : Dev nD), bigSep_congr (s := Finset.univ.erase (0 : Dev nD)) (Ψ := fun _ => (BI.emp : sProp 𝕄))
      fun c hc => by unfold G; rw [if_neg (Finset.ne_of_mem_erase hc)]; rfl, BI.bigSep_emp_const]
  unfold G; rw [if_pos rfl]
  exact BI.equiv_iff.mp sep_emp

/-- What every device may consult: all the invariants, and round 0 of every barrier reached. -/
def records (κ : GSem nD τ sig → ℕ) : sProp 𝕄 :=
  iprop((bigSep (barCells ∪ scCells) fun g => cellInv ER (Rd (Ir m)) (κ g) g) ∗ bigSep barCells fun g => reached ER g 0)

/-- The records can be copied. -/
instance records_persistent (κ : GSem nD τ sig → ℕ) : BI.Persistent (records m κ) := by unfold records; infer_instance

/-- Any cell's invariant is among the records. -/
theorem inv_at (κ : GSem nD τ sig → ℕ) {g : GSem nD τ sig} (hg : g ∈ (barCells ∪ scCells : Finset (GSem nD τ sig))) :
    (bigSep (barCells ∪ scCells) fun g => (cellInv ER (Rd (Ir m)) (κ g) g : sProp 𝕄)) ⊢ cellInv ER (Rd (Ir m)) (κ g) g :=
  bigSep_elim hg

/-- Round 0 of any barrier is among the records. -/
theorem reached_at : (bigSep barCells fun g => (reached ER g 0 : sProp 𝕄)) ⊢ reached ER (barCell c) 0 :=
  bigSep_elim (Finset.mem_map_of_mem barEmb (Finset.mem_univ c))

/-- What is dealt to one device alone. -/
def linear : sProp 𝕄 := iprop(atPos ER (barCell c) 0 ∅ 0 ∗ opens c ∗ toks c)

/-- The records and a device's own deal are what its kernel starts from. -/
theorem ghost_intro (κ : GSem nD τ sig → ℕ) : iprop(records m κ ∗ linear c) ⊢ iprop(∃ K, ghost (Ir m) c K) := by
  unfold records linear ghost invs
  iintro ⟨⟨#HI, #HR⟩, HaB, Ho, Ht⟩
  iexists κ
  isplitr
  · isplitr; · iapply (inv_at m κ (bar_mem c)); iexact HI
    isplitr; · iapply (inv_at m κ (bar_mem (pa c))); iexact HI
    isplitr; · iapply (inv_at m κ (bar_mem (pb c))); iexact HI
    isplitr; · iapply (inv_at m κ (sc_mem c 0)); iexact HI
    isplitr; · iapply (inv_at m κ (sc_mem c 1)); iexact HI
    isplitr; · iapply (inv_at m κ (sc_mem c 2)); iexact HI
    isplitr; · iapply (inv_at m κ (sc_mem c 3)); iexact HI
    isplitr; · iapply (inv_at m κ (sc_mem c 4)); iexact HI
    isplitr; · iapply (inv_at m κ (sc_mem c 5)); iexact HI
    isplitr; · iapply (inv_at m κ (sc_mem c 6)); iexact HI
    isplitr; · iapply (inv_at m κ (sc_mem c 7)); iexact HI
    isplitr; · iapply (inv_at m κ (sc_mem (pa c) 6)); iexact HI
    iapply (inv_at m κ (sc_mem (pb c) 7)); iexact HI
  isplitr; · iapply (reached_at (F := F) (pa c)); iexact HR
  isplitr; · iapply (reached_at (F := F) (pb c)); iexact HR
  isplitl [HaB]; · iexact HaB
  isplitl [Ho]; · iexact Ho
  iexact Ht

/-- The tokens of one device's own cells. -/
def ownToks : sProp 𝕄 :=
  iprop(dutyTok ER (barCell c) 0 false
    ∗ dutyTok ER (barCell c) 0 true
    ∗ dutyTok ER (dCell c 4) 0 false
    ∗ dutyTok ER (dCell c 5) 0 false
    ∗ dutyTok ER (dCell c 6) 0 false
    ∗ dutyTok ER (dCell c 7) 0 false
    ∗ dutyTok ER (dCell c 4) 1 false
    ∗ dutyTok ER (dCell c 5) 1 false
    ∗ dutyTok ER (dCell c 6) 1 false
    ∗ dutyTok ER (dCell c 7) 1 false
    ∗ dutyTok ER (dCell c 8) 0 false
    ∗ dutyTok ER (dCell c 9) 0 false
    ∗ dutyTok ER (dCell c 10) 0 false
    ∗ dutyTok ER (dCell c 11) 0 false)

/-- The tokens, device by device. -/
theorem toks_eq : bigSep talkToks (fun x => (dutyTok ER x.1 x.2.1 x.2.2 : sProp 𝕄)) = bigSep Finset.univ fun c : Dev nD => ownToks c := by
  unfold talkToks; rw [bigSep_map, bigSep_univ_prod]
  exact bigSep_congr fun c _ => bigSep_univ_eq_bigSepL [(0 : Fin 14), 1, 2, 3, 4, 5, 6, 7, 8, 9, 10, 11, 12, 13] (by decide) (by decide)
    (fun k : Fin 14 => (dutyTok ER ((c : Thread nD τ), tsem k) (trd k) (tdu k) : sProp 𝕄))

/-- The devices and their first partners. -/
def eqA : Dev nD ≃ Dev nD := ⟨pa, pa, pa_pa, pa_pa⟩
/-- The devices and their second partners. -/
def eqB : Dev nD ≃ Dev nD := ⟨pb, pb, pb_pb, pb_pb⟩

/-- The tokens of the cells a device raises are handed to it by their owners. -/
theorem toks_around :
    (bigSep Finset.univ fun c : Dev nD => (ownToks c : sProp 𝕄)) ⊢ bigSep Finset.univ fun c : Dev nD => toks c := by
  unfold ownToks toks
  rw [bigSep_sep', bigSep_sep', bigSep_sep', bigSep_sep', bigSep_sep', bigSep_sep', bigSep_sep', bigSep_sep', bigSep_sep', bigSep_sep', bigSep_sep', bigSep_sep', bigSep_sep', bigSep_sep', bigSep_sep', bigSep_sep', bigSep_sep', bigSep_sep', bigSep_sep', bigSep_sep', bigSep_sep', bigSep_sep', bigSep_sep', bigSep_sep', bigSep_sep', bigSep_sep', bigSep_univ_equiv eqA (fun c : Dev nD => (dutyTok ER (barCell c) 0 false : sProp 𝕄)), bigSep_univ_equiv eqB (fun c : Dev nD => (dutyTok ER (barCell c) 0 true : sProp 𝕄)), bigSep_univ_equiv eqA (fun c : Dev nD => (dutyTok ER (dCell c 10) 0 false : sProp 𝕄)), bigSep_univ_equiv eqB (fun c : Dev nD => (dutyTok ER (dCell c 11) 0 false : sProp 𝕄))]
  exact BI.Entails.refl _

/-! ## What the devices owe at the launch -/

/-- What a device owes a cell at the launch. -/
theorem owed_at (d : Dev nD) (g : GSem nD τ sig) : O₀ d g () =
    (((if g = dCell (pb d) 11 then NR else 0) + if g = dCell (pa d) 10 then NR else 0) + if g = barCell (pa d) then 1 else 0)
      + if g = barCell (pb d) then 1 else 0 := by
  unfold O₀ OR
  simp only [Pi.add_apply, Finsupp.add_apply, tallyAt_apply, and_true]

/-- Two cells are the same if device and semaphore are. -/
theorem cell_eq (sm sm' : SemLoc sig) (c d : Dev nD) :
    ((((c : Thread nD τ), sm) : GSem nD τ sig) = ((d : Thread nD τ), sm')) ↔ (c = d ∧ sm = sm') :=
  ⟨fun h => ⟨congrArg (fun g : GSem nD τ sig => g.1.1) h, congrArg Prod.snd h⟩, fun ⟨h, h'⟩ => by rw [h, h']⟩
/-- To be the first partner is mutual. -/
theorem pa_iff (c d : Dev nD) : c = pa d ↔ d = pa c := ⟨fun h => by rw [h, pa_pa], fun h => by rw [h, pa_pa]⟩
/-- To be the second partner is mutual. -/
theorem pb_iff (c d : Dev nD) : c = pb d ↔ d = pb c := ⟨fun h => by rw [h, pb_pb], fun h => by rw [h, pb_pb]⟩

/-- A DMA semaphore is no barrier. -/
theorem ne_bar (k : DmaSem sig) (c d : Dev nD) : ¬ dCell c k = barCell d := by rw [cell_eq]; rintro ⟨-, h⟩; cases h
/-- A barrier is no DMA semaphore. -/
theorem bar_ne (k : DmaSem sig) (c d : Dev nD) : ¬ barCell c = dCell d k := by rw [cell_eq]; rintro ⟨-, h⟩; cases h
/-- The two receiving semaphores differ. -/
theorem ne_10_11 (c d : Dev nD) : ¬ dCell c 10 = dCell d 11 := by rw [cell_eq]; rintro ⟨-, h⟩; exact absurd h (by decide)
/-- A barrier is owed one signal by each partner. -/
theorem owed_bar (d : Dev nD) : O₀ d (barCell c) () = (if d = pa c then 1 else 0) + if d = pb c then 1 else 0 := by
  rw [owed_at, if_neg (bar_ne _ _ _), if_neg (bar_ne _ _ _), Nat.add_zero, Nat.zero_add]
  simp only [cell_eq, and_true, pa_iff c, pb_iff c]
/-- The first receiving semaphore is owed one copy by the first partner. -/
theorem owed_10 (d : Dev nD) : O₀ d (dCell c 10) () = if d = pa c then NR else 0 := by
  rw [owed_at, if_neg (ne_10_11 _ _), if_neg (ne_bar _ _ _), if_neg (ne_bar _ _ _), Nat.add_zero, Nat.zero_add]
  simp only [cell_eq, and_true, pa_iff c]
/-- The second receiving semaphore is owed one copy by the second partner. -/
theorem owed_11 (d : Dev nD) : O₀ d (dCell c 11) () = if d = pb c then NR else 0 := by
  rw [owed_at, if_neg (fun h => ne_10_11 _ _ h.symm : ¬ dCell c 11 = dCell (pa d) 10), if_neg (ne_bar _ _ _), if_neg (ne_bar _ _ _), Nat.add_zero]
  simp only [cell_eq, and_true, pb_iff c]

/-- What a barrier is launched with. -/
theorem launch_bar :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar c d, Finset.sum_add_distrib,
    Finset.sum_ite_eq' Finset.univ (pa c) fun _ => 1, Finset.sum_ite_eq' Finset.univ (pb c) fun _ => 1, if_pos (Finset.mem_univ _), if_pos (Finset.mem_univ _)]
/-- What the first receiving semaphore is launched with. -/
theorem launch_10 :
    tallyOn (dCell c 10) (launchCredit (Pipeline.owing O₀) 0 (dCell c 10)) = (tallyAt (dCell c 10) () NR : CellTallies nD τ sig Unit) := by
  unfold tallyAt; refine congrArg _ (Finsupp.ext fun u => ?_); cases u
  rw [Pipeline.launchCredit_owing, Finsupp.single_eq_same, Finset.sum_congr rfl fun d _ => owed_10 c d,
    Finset.sum_ite_eq' Finset.univ (pa c) fun _ => NR, if_pos (Finset.mem_univ _)]
/-- What the second receiving semaphore is launched with. -/
theorem launch_11 :
    tallyOn (dCell c 11) (launchCredit (Pipeline.owing O₀) 0 (dCell c 11)) = (tallyAt (dCell c 11) () NR : CellTallies nD τ sig Unit) := by
  unfold tallyAt; refine congrArg _ (Finsupp.ext fun u => ?_); cases u
  rw [Pipeline.launchCredit_owing, Finsupp.single_eq_same, Finset.sum_congr rfl fun d _ => owed_11 c d,
    Finset.sum_ite_eq' Finset.univ (pb c) fun _ => NR, if_pos (Finset.mem_univ _)]

/-- The credit a device is launched with. -/
theorem creds_intro : (Pipeline.launchCred O₀ c : sProp 𝕄) ⊢ creds c := by
  unfold Pipeline.launchCred creds
  rw [← launch_bar, ← launch_10, ← launch_11, bigSep_univ_at _ (SemLoc.reg barrier0),
    BI.bigSep_erase (show (.dma 10 : SemLoc sig) ∈ Finset.univ.erase (SemLoc.reg barrier0) by decide)]
  refine sep_mono_right (sep_mono_right ?_)
  exact bigSep_elim (show (.dma 11 : SemLoc sig) ∈ (Finset.univ.erase (SemLoc.reg barrier0)).erase (.dma 10) by decide)

end Cert.KernelIdeal.Own

end
-- ==== Proof.Launch.lean ====
/- The run of the whole program: it ends, with every counter at zero, the arguments as they were, and the result what
   the kernel leaves. -/
module

public import proofs.«01_k».proof.Proof.Deal

@[expose] public section

set_option maxRecDepth 16384
set_option synthInstance.maxSize 4096

noncomputable section

namespace Cert.KernelIdeal.Own

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F] [Named F]

local notation "𝕄" => MT nD τ sig Unit (Elt F) ℕ UU ℕ
variable (m : (ℓ : Loc nD τ sig) → Buf (Elt F) ℓ) (ρ : Dev nD → PrngReg) (c : Dev nD)

/-- The contents of a device's buffers at the end. -/
def V₃ : Valuation τ sig (Elt F) := StableHlo.after hostOps1 (V₂ m c)

/-- What a device carries through the host operations before the region. -/
def R₀ : sProp 𝕄 := iprop((Tk (Ir m) c ∗ (∃ r, prngReg c r)) ∗ ∃ W, owes (c : Thread nD τ) (O₀ c) W)
/-- What a device carries through the host operations after the region. -/
def R₁ : sProp 𝕄 := iprop(semVal (barCell c) 0 ∗ ∃ W, owes (c : Thread nD τ) (0 : CellTallies nD τ sig Unit) W)

local notation "ℍ" => Pipeline.HostSeg (Name := ℕ) (U := UU) (pcfgs (F := F)) defs₀ 𝒱₀ L lv

/-- The host operations before the region. -/
def seg0 : ℍ := Pipeline.HostSeg.ofOps _ _ _ _ _ bufs hostOps0
  (fun op h => Pipeline.sub_ucRefs op (List.forall_iff_forall_mem.mp hostOps0_sub op h))
  (fun op h => List.forall_iff_forall_mem.mp hostOps0_fresh op h) (fun c b => m (c, b)) (R₀ m)
/-- The host operations after the region. -/
def seg1 : ℍ := Pipeline.HostSeg.ofOps _ _ _ _ _ bufs hostOps1
  (fun op h => Pipeline.sub_ucRefs op (List.forall_iff_forall_mem.mp hostOps1_sub op h))
  (fun op h => List.forall_iff_forall_mem.mp hostOps1_fresh op h) (V₂ m) R₁

/-- The program as its three segments. -/
def segs : List (Pipeline.Seg (pcfgs (F := F)) adm (pdats m) () defs₀ 𝒱₀ L lv) :=
  [.host (seg0 m), .region (reg m), .host (seg1 m)]

/-- The program is its segments, run in turn. -/
theorem main_eq : main (F := F) c = Pipeline.Seg.run (segs m) :=
  main_segs adm (pdats m) () 𝒱₀ L lv (seg0 m) (seg1 m) (reg m) rfl rfl c

/-- A device at the start. -/
abbrev T₀ (c : Dev nD) : sProp 𝕄 := iprop(StableHlo.held (c : Thread nD τ) bufs (fun b => m (c, b)) ∗ R₀ m c)
/-- A device at the end. -/
abbrev Tₙ (c : Dev nD) : sProp 𝕄 := iprop(StableHlo.held (c : Thread nD τ) bufs (V₃ m c) ∗ semVal (barCell c) 0)

/-- What of a device's launch holdings is not the protocol's. -/
def bundle (c : Dev nD) : sProp 𝕄 :=
  iprop(StableHlo.held (c : Thread nD τ) bufs (fun b => m (c, b)) ∗ creds c ∗ owes (c : Thread nD τ) (O₀ c) ∅ ∗ ∃ r, prngReg c r)

/-- The records, the deal and the rest of the launch's holdings are a device at the start. -/
theorem T₀_intro (κ : GSem nD τ sig → ℕ) (c : Dev nD) : iprop(records m κ ∗ (linear c ∗ bundle m c)) ⊢ T₀ m c := by
  unfold bundle T₀ R₀ Tk
  iintro ⟨#HR, Hl, Hh, HC, HO, Hp⟩
  isplitl [Hh]; · iexact Hh
  isplitr [HO]
  · isplitr [Hp]
    · isplitl [Hl]
      · iapply (ghost_intro m c κ)
        isplitr; · iexact HR
        iexact Hl
      iexact HC
    iexact Hp
  · iexists ∅; iexact HO

/-- The one semaphore that outlives the call is the barrier. -/
theorem unscopedSems0_eq (c : Dev nD) : (unscopedSems0 c : sProp 𝕄) = semVal (barCell c) 0 := by
  unfold unscopedSems0
  rw [show (Finset.univ.filter fun sm : SemLoc sig => ¬ sm.isScoped .tc) = {SemLoc.reg barrier0} from by decide, BI.bigSep_singleton]

/-- A conjunction over the devices, taken apart. -/
theorem split_devs {Φ Ψ : Dev nD → sProp 𝕄} :
    (bigSep Finset.univ fun c => iprop(Φ c ∗ Ψ c)) ⊢ iprop(bigSep Finset.univ Φ ∗ bigSep Finset.univ Ψ) :=
  Entails.of_eq (bigSep_sep _ _ _)

/-- Two conjunctions over the devices, put together. -/
theorem join_devs {Φ Ψ : Dev nD → sProp 𝕄} :
    iprop(bigSep Finset.univ Φ ∗ bigSep Finset.univ Ψ) ⊢ (bigSep Finset.univ fun c => iprop(Φ c ∗ Ψ c)) :=
  Entails.of_eq (bigSep_sep _ _ _).symm

/-- The launch's deal. -/
theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (T₀ m) : sProp 𝕄) := by
  have hcore (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ G c)
      ⊢ (iprop(bundle m c ∗ (semVal (barCell c) 0 ∗ G c)) : sProp 𝕄) := by
    rw [show unscopedBufs c (fun b => m ((c : Thread nD τ).loc b)) = StableHlo.held (c : Thread nD τ) bufs (fun b => m (c, b))
      from unscopedBufs_held c (fun b => m (c, b)), unscopedSems0_eq]
    unfold bundle
    iintro ⟨Hh, Hus, HO, Hcr, Hp, HG⟩
    ihave Hc := (creds_intro (F := F) c) $$ Hcr
    isplitl [Hh Hc HO Hp]
    · isplitl [Hh]; · iexact Hh
      isplitl [Hc]; · iexact Hc
      isplitl [HO]; · iexact HO
      iexists (ρ c); iexact Hp
    isplitl [Hus] <;> iassumption
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  have hopen : bigSep scCells (fun g => (openTok ER g : sProp 𝕄)) ⊢ bigSep Finset.univ (fun c : Dev nD => (opens c : sProp 𝕄)) :=
    Entails.of_eq (by
      rw [bigSep_map, bigSep_univ_prod]
      exact bigSep_congr fun c _ => bigSep_univ_eq_bigSepL [(0 : Fin 8), 1, 2, 3, 4, 5, 6, 7] (by decide) (by decide)
        (fun k : Fin 8 => (openTok ER ((c : Thread nD τ), osem0 k) : sProp 𝕄)))
  iintro ⟨H, -⟩
  ihave H' := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c))
      ⊢ (bigSep Finset.univ fun c : Dev nD => iprop(bundle m c ∗ (semVal (barCell c) 0 ∗ G c)) : sProp 𝕄) from bigSep_mono fun c _ => hcore c) $$ H
  ihave H2 := split_devs $$ H'; icases H2 with ⟨HB, H3⟩
  ihave H4 := split_devs $$ H3; icases H4 with ⟨Hv, HG⟩
  ihave Hu := (Entails.of_eq (bigSep_G (F := F))) $$ HG
  imod (Rounds.fund_launch ER (Rd (Ir m)) disjoint_cells (fun g _ h => h) talkToks) $$ [Hv Hu] with ⟨%κ, -, #Hinv, #Hr, Hat, Hopen, Htok⟩
  · isplitl [Hv]
    · iapply hv $$ Hv
    · iexact Hu
  imodintro
  iapply (bigSep_with_persistent (R := records m κ) (Φ := fun c => iprop(linear c ∗ bundle m c)) fun c _ => T₀_intro m κ c)
  isplitr
  · unfold records
    isplitr; · iexact Hinv
    iexact Hr
  iapply join_devs
  isplitr [HB]
  · unfold linear
    iapply join_devs; isplitl [Hat]; · iapply hat $$ Hat
    iapply join_devs; isplitl [Hopen]; · iapply hopen $$ Hopen
    iapply (toks_around (F := F))
    iapply (Entails.of_eq (toks_eq (F := F))) $$ Htok
  · iexact HB

/-- No other semaphore outlives the call. -/
theorem unscoped_eq : ∀ sm : SemLoc sig, sm.isScoped .tc = false → sm = .reg barrier0 := by decide

/-! ## What the buffers hold at the end -/

/-- The arguments and the result. -/
def ends : Finset (DevRef τ sig) :=
  {Proc.devRef .tc main_arg0, Proc.devRef .tc main_arg1, Proc.devRef .tc main_arg2, Proc.devRef .tc main_arg3, Proc.devRef .tc main_arg4, Proc.devRef .tc main_v5}
/-- They are among the buffers that outlive the call. -/
theorem ends_sub : ends ⊆ bufs := by decide
/-- These buffers, listed. -/
theorem held_ends (W : Valuation τ sig (Elt F)) :
    (StableHlo.held (c : Thread nD τ) ends W : sProp 𝕄)
      = iprop((((c : Thread nD τ).loc main_arg0) ↦{fullShare} W (Proc.devRef .tc main_arg0))
          ∗ (((c : Thread nD τ).loc main_arg1) ↦{fullShare} W (Proc.devRef .tc main_arg1))
          ∗ (((c : Thread nD τ).loc main_arg2) ↦{fullShare} W (Proc.devRef .tc main_arg2))
          ∗ (((c : Thread nD τ).loc main_arg3) ↦{fullShare} W (Proc.devRef .tc main_arg3))
          ∗ (((c : Thread nD τ).loc main_arg4) ↦{fullShare} W (Proc.devRef .tc main_arg4))
          ∗ (((c : Thread nD τ).loc main_v5) ↦{fullShare} W (Proc.devRef .tc main_v5))) :=
  bigSep_eq_bigSepL_of_eq [Proc.devRef .tc main_arg0, Proc.devRef .tc main_arg1, Proc.devRef .tc main_arg2, Proc.devRef .tc main_arg3, Proc.devRef .tc main_arg4, Proc.devRef .tc main_v5] (by decide) (by decide) _

/-- Any buffer but the result's two ends as the region found it. -/
theorem V₃_of_ne (b : Ref sig .tc) (h : b ≠ main_v5) (h' : b ≠ main_v4) : V₃ m c (Proc.devRef .tc b) = V m c b := by
  unfold V₃
  rw [StableHlo.after_of_forall_not_mem (b := Proc.devRef .tc b) _ _ (List.forall_iff_forall_mem.mp (by
    simp only [hostOps1, List.Forall, StableHlo.reshape_writes, Finset.mem_singleton]
    exact StableHlo.devRef_ne_of_ne h))]
  exact V₂_of_ne m c b h'

/-- The result is what the kernel leaves, at its own shape. -/
def resOf (I : Dev nD → Inp F) (c : Dev nD) : Vec F S1x256x1024 .f32 :=
  shapeCast S1x256x1024 (outOf I c) shapeCasts_S256x1024_S1x256x1024

/-- The result's buffer ends holding the result. -/
theorem V₃_v5 : V₃ m c (Proc.devRef .tc main_v5) = resOf (Ir m) c := by
  unfold V₃ hostOps1
  after_results
  rw [V₂_out]
  rfl

/-! ## What a device's kernel is given -/

/-- The kernel is given the input without its first coordinate. -/
theorem Ir_x : (Ir m c).x = shapeCast S256x1024 (m ((c : Thread nD τ).loc main_arg0)) shapeCasts_S1x256x1024_S256x1024 := by
  show StableHlo.after hostOps0 (fun b => m (c, b)) (Proc.devRef .tc main_v1) = _
  after_results
  rfl
/-- The kernel is given the keys, their positions in blocks of 64 and the blocks in fours. -/
theorem Ir_k : (Ir m c).k = shapeCast S16x4x64x32x128 (m ((c : Thread nD τ).loc main_arg2)) shapeCasts_S1x4096x32x128_S16x4x64x32x128 := by
  show StableHlo.after hostOps0 (fun b => m (c, b)) (Proc.devRef .tc main_v2) = _
  after_results
  rfl
/-- The kernel is given the values in the same way. -/
theorem Ir_v : (Ir m c).v = shapeCast S16x4x64x32x128 (m ((c : Thread nD τ).loc main_arg3)) shapeCasts_S1x4096x32x128_S16x4x64x32x128 := by
  show StableHlo.after hostOps0 (fun b => m (c, b)) (Proc.devRef .tc main_v3) = _
  after_results
  rfl
/-- The kernel is given the device's block of the query projection. -/
theorem Ir_wq : (Ir m c).wq = m ((c : Thread nD τ).loc main_arg1) := V_main_arg1 m c
/-- The kernel is given the device's block of the output projection. -/
theorem Ir_wo : (Ir m c).wo = m ((c : Thread nD τ).loc main_arg4) := V_main_arg4 m c

set_option backward.isDefEq.respectTransparency.types false in
/-- THE RUN: from any memory with the counters at zero, every run of the program ends, with each device's arguments
    unchanged, its result what the kernel leaves, and every counter at zero. -/
theorem run_main : θ_run defs (onTc (τ := τ) (main (F := F))) ⟨m, fun _ => 0, ρ⟩
    (fun r => (∀ c : Dev nD, r.2.mem ((c : Thread nD τ).loc main_v5) = resOf (Ir m) c
        ∧ r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)
        ∧ r.2.mem ((c : Thread nD τ).loc main_arg4) = m ((c : Thread nD τ).loc main_arg4))
      ∧ r.2.sem = fun _ => 0) :=
  Pipeline.θ_run_regions_kit_sems (pcfgs (F := F)) adm (pdats m) () cellOf_inj EP defs₀ 𝒱₀ L lv m ρ main (segs m)
    (fun c Q => by rw [main_eq m c])
    (by simp only [segs, Pipeline.Seg.pipes_host, Pipeline.Seg.pipes_region, Pipeline.Seg.pipes_nil]; decide)
    (O₀ := O₀) (hL := L_of_ne) (G := G) (u₀ := u₀)
    (hu₀ := by
      unfold u₀
      iintro Hu
      ihave H := (ownU_pair _ _) $$ Hu
      icases H with ⟨HP, HX⟩
      imodintro
      isplitl [HP]; · iexact HP
      rw [bigSep_G]; iexact HX)
    (T₀ := T₀ m) (Tₙ := Tₙ m)
    (hch := by
      refine ⟨fun c => .rfl, fun c => reg_pre m c, fun c => reg_post m c, fun c => ?_⟩
      show iprop(StableHlo.held (c : Thread nD τ) bufs (V₃ m c) ∗ R₁ c)
        ⊢ iprop(Tₙ m c ∗ ∃ W, owes (c : Thread nD τ) (0 : CellTallies nD τ sig Unit) W)
      unfold R₁
      iintro ⟨Hh, Hb0, HO⟩
      isplitr [HO]
      · isplitl [Hh] <;> iassumption
      · iexact HO)
    (hinit := init m ρ)
    (QY := fun c s => (s.mem ((c : Thread nD τ).loc main_arg0) = V₃ m c (Proc.devRef .tc main_arg0)
        ∧ s.mem ((c : Thread nD τ).loc main_arg1) = V₃ m c (Proc.devRef .tc main_arg1)
        ∧ s.mem ((c : Thread nD τ).loc main_arg2) = V₃ m c (Proc.devRef .tc main_arg2)
        ∧ s.mem ((c : Thread nD τ).loc main_arg3) = V₃ m c (Proc.devRef .tc main_arg3)
        ∧ s.mem ((c : Thread nD τ).loc main_arg4) = V₃ m c (Proc.devRef .tc main_arg4)
        ∧ s.mem ((c : Thread nD τ).loc main_v5) = V₃ m c (Proc.devRef .tc main_v5))
      ∧ s.sem (barCell c) = 0)
    (hfin := fun c s' => by
      dsimp only [Tₙ]; rw [StableHlo.held_sub_split (c : Thread nD τ) ends_sub, held_ends]
      iintro ⟨⟨⟨⟨H0, H1, H2, H3, H4, H5⟩, -⟩, Hb0⟩, HSI⟩
      icombine HSI H0 gives %h0
      icombine HSI H1 gives %h1
      icombine HSI H2 gives %h2
      icombine HSI H3 gives %h3
      icombine HSI H4 gives %h4
      icombine HSI H5 gives %h5
      icombine HSI Hb0 gives %hb
      imodintro
      isplitr
      · ipureintro
        exact ⟨⟨Buf.eq_of_forall_mem_univ h0, Buf.eq_of_forall_mem_univ h1, Buf.eq_of_forall_mem_univ h2, Buf.eq_of_forall_mem_univ h3,
          Buf.eq_of_forall_mem_univ h4, Buf.eq_of_forall_mem_univ h5⟩, by simpa using hb⟩
      iexact HSI)
    (hQ := fun s h hs => ⟨fun c => by
        obtain ⟨⟨h0, h1, h2, h3, h4, h5⟩, -⟩ := h c
        exact ⟨h5.trans (V₃_v5 m c), h0.trans ((V₃_of_ne m c main_arg0 (by decide) (by decide)).trans (V_main_arg0 m c)),
          h1.trans ((V₃_of_ne m c main_arg1 (by decide) (by decide)).trans (V_main_arg1 m c)),
          h2.trans ((V₃_of_ne m c main_arg2 (by decide) (by decide)).trans (V_main_arg2 m c)),
          h3.trans ((V₃_of_ne m c main_arg3 (by decide) (by decide)).trans (V_main_arg3 m c)),
          h4.trans ((V₃_of_ne m c main_arg4 (by decide) (by decide)).trans (V_main_arg4 m c))⟩,
      sem_eq_zero hs fun c sm hsm => by
        obtain rfl := unscoped_eq sm hsm
        exact (h c).2⟩)

end Cert.KernelIdeal.Own

end
-- ==== Proof.Soft.lean ====
/- The attention of one row over the extended reals: the scores' exponentials less the greatest of them, divided by
   their sum, weigh the values. Scores that a mask puts at −∞ may be left out of it, where the others are real. -/
module

public import Idealize.ShloMosaic.Lib.Pointwise

@[expose] public section

noncomputable section

namespace Cert.Soft

open Idealize Idealize.ShloMosaic

/-- The word of −∞. -/
theorem ofBits_bot : Ideal.ofBits .f32 0xFF800000#32 = ⊥ := by simp [Ideal.ofBits, Ideal.ieee]

/-- The greatest of the scores `z` (−∞ of none). -/
def top {ι : Type} [Fintype ι] (z : ι → EReal) : EReal := Finset.univ.fold max ⊥ z

/-- The sum of the exponentials of the scores `z`, each less the greatest. -/
def mass {ι : Type} [Fintype ι] (z : ι → EReal) : EReal := ∑ j, Ideal.exp (z j - top z)

/-- The values `v` weighed by the scores `z`. -/
def soft {ι : Type} [Fintype ι] (z v : ι → EReal) : EReal :=
  ∑ k, Ideal.div (Ideal.exp (z k - top z)) (mass z) * v k

/-- The greatest score is the supremum. -/
theorem top_eq_sup {ι : Type} [Fintype ι] (z : ι → EReal) : top z = Finset.univ.sup z := rfl

/-- An exponential is not negative. -/
theorem exp_nonneg (x : EReal) : 0 ≤ Ideal.exp x := by
  induction x with
  | bot => simp
  | top => simp
  | coe r => rw [Ideal.exp_coe]; exact_mod_cast (Real.exp_pos r).le

/-- Of real scores, at least one, the mass is not zero. -/
theorem mass_ne_zero {ι : Type} [Fintype ι] [Nonempty ι] (z : ι → EReal) (hz : ∀ k, ∃ r : ℝ, z k = r) : mass z ≠ 0 := by
  obtain ⟨k⟩ := ‹Nonempty ι›
  have hlt : top z < ⊤ := by
    rw [top_eq_sup, Finset.sup_lt_iff (by exact bot_lt_top)]
    intro j _
    obtain ⟨r, hr⟩ := hz j
    rw [hr]; exact EReal.coe_lt_top r
  obtain ⟨r, hr⟩ := hz k
  have hge : (r : EReal) ≤ top z := by rw [top_eq_sup, ← hr]; exact Finset.le_sup (f := z) (Finset.mem_univ k)
  have hM : ∃ M : ℝ, top z = M := ⟨(top z).toReal, (EReal.coe_toReal hlt.ne ((EReal.bot_lt_coe r).trans_le hge).ne').symm⟩
  obtain ⟨M, hM⟩ := hM
  intro h0
  have := (Finset.sum_eq_zero_iff_of_nonneg (fun j _ => exp_nonneg _)).1 h0 k (Finset.mem_univ k)
  rw [hr, hM, ← EReal.coe_sub, Ideal.exp_coe] at this
  exact absurd (by exact_mod_cast this) (Real.exp_pos (r - M)).ne'

section mask

variable {ι κ : Type} [Fintype ι] [Fintype κ] (φ : κ → ι) (hφ : Function.Injective φ) (p : ι → Prop) [DecidablePred p]
  (hp : ∀ j, p j ↔ ∃ k, φ k = j) (f : ι → EReal)

include hp in
/-- Masked scores add nothing to the greatest. -/
theorem top_mask : top (fun j => if p j then f j else ⊥) = top (fun k => f (φ k)) := by
  rw [top_eq_sup, top_eq_sup]
  apply le_antisymm
  · refine Finset.sup_le fun j _ => ?_
    by_cases h : p j
    · obtain ⟨k, rfl⟩ := (hp j).1 h
      rw [if_pos h]
      exact Finset.le_sup (f := fun k => f (φ k)) (Finset.mem_univ k)
    · rw [if_neg h]; exact bot_le
  · refine Finset.sup_le fun k _ => ?_
    have := Finset.le_sup (f := fun j => if p j then f j else ⊥) (Finset.mem_univ (φ k))
    rwa [if_pos ((hp _).2 ⟨k, rfl⟩)] at this

/-- −∞ less anything has the exponential zero. -/
theorem exp_bot_sub (x : EReal) : Ideal.exp (⊥ - x) = 0 := by
  rw [sub_eq_add_neg, EReal.bot_add, Ideal.exp_bot]

include hφ hp in
/-- Masked scores add nothing to the mass. -/
theorem mass_mask : mass (fun j => if p j then f j else ⊥) = mass (fun k => f (φ k)) := by
  unfold mass
  rw [top_mask φ p hp f]
  symm
  refine Fintype.sum_of_injective φ hφ _ _ (fun j hj => ?_) (fun k => ?_)
  · beta_reduce
    rw [if_neg (fun h => hj ((hp j).1 h)), exp_bot_sub]
  · beta_reduce
    rw [if_pos ((hp _).2 ⟨k, rfl⟩)]

include hφ hp in
/-- Where the unmasked scores are real, the attention is that over the unmasked keys alone. -/
theorem soft_mask [Nonempty κ] (v : ι → EReal) (hf : ∀ k, ∃ r : ℝ, f (φ k) = r) :
    soft (fun j => if p j then f j else ⊥) v = soft (fun k => f (φ k)) (fun k => v (φ k)) := by
  unfold soft
  rw [top_mask φ p hp f, mass_mask φ hφ p hp f]
  symm
  refine Fintype.sum_of_injective φ hφ _ _ (fun j hj => ?_) (fun k => ?_)
  · beta_reduce
    rw [if_neg (fun h => hj ((hp j).1 h)), exp_bot_sub, Ideal.div, if_neg (mass_ne_zero _ hf), zero_mul, zero_mul]
  · beta_reduce
    rw [if_pos ((hp _).2 ⟨k, rfl⟩)]

end mask

/-- A nonnegative real factor may be taken out of a sum. -/
theorem sum_mul_coe {ι : Type} (s : Finset ι) (f : ι → EReal) (r : ℝ) (hr : 0 ≤ r) :
    (∑ k ∈ s, f k) * (r : EReal) = ∑ k ∈ s, f k * (r : EReal) := by
  classical
  induction s using Finset.induction_on with
  | empty => simp
  | insert a s ha ih =>
    rw [Finset.sum_insert ha, Finset.sum_insert ha, ← ih,
      EReal.right_distrib_of_nonneg_of_ne_top (by exact_mod_cast hr) (EReal.coe_ne_top r)]

/-- A sum of reals is real. -/
theorem sum_real {ι : Type} (s : Finset ι) (f : ι → EReal) (hf : ∀ k, ∃ r : ℝ, f k = r) : ∃ r : ℝ, ∑ k ∈ s, f k = r := by
  classical
  induction s using Finset.induction_on with
  | empty => exact ⟨0, by simp⟩
  | insert a s ha ih =>
    obtain ⟨x, hx⟩ := ih
    obtain ⟨y, hy⟩ := hf a
    exact ⟨y + x, by rw [Finset.sum_insert ha, hx, hy, EReal.coe_add]⟩

/-- A product of reals is real. -/
theorem mul_real {a b : EReal} (ha : ∃ r : ℝ, a = r) (hb : ∃ r : ℝ, b = r) : ∃ r : ℝ, a * b = r := by
  obtain ⟨x, rfl⟩ := ha
  obtain ⟨y, rfl⟩ := hb
  exact ⟨x * y, by push_cast; rfl⟩

end Cert.Soft

end
-- ==== Proof.Spec.lean ====
/- The mathematics of the program over the extended reals, on whole arrays read by their coordinates: the queries, the
   scores as the kernel and as the reference scale and mask them, the context and the output projection. -/
module

public import proofs.«01_k».proof.Proof.Soft

@[expose] public section

noncomputable section

namespace Cert.Spec

open Idealize Idealize.ShloMosaic Cert.Soft

/-- The arrays, read by their coordinates. -/
structure Arrays where
  /-- The input's rows. -/
  x : Fin 256 → Fin 1024 → EReal
  /-- The query projection. -/
  wq : Fin 1024 → Fin 4096 → EReal
  /-- The keys, by position, head and lane. -/
  k : Fin 4096 → Fin 32 → Fin 128 → EReal
  /-- The values, by position, head and lane. -/
  v : Fin 4096 → Fin 32 → Fin 128 → EReal
  /-- The output projection. -/
  wo : Fin 4096 → Fin 1024 → EReal

/-- Column `128 h + d` of the queries: lane `d` of head `h`. -/
def lane (h : Fin 32) (d : Fin 128) : Fin 4096 := ⟨128 * h.val + d.val, by have := h.isLt; have := d.isLt; omega⟩
/-- The head of column `n`. -/
def headAt (n : Fin 4096) : Fin 32 := ⟨n.val / 128, by have := n.isLt; omega⟩
/-- The lane of column `n` in its head. -/
def laneAt (n : Fin 4096) : Fin 128 := ⟨n.val % 128, by omega⟩
/-- The `j`-th of the keys that query block `b` attends to: row `j % 64` of key block `4 (j / 64) + b`. -/
def key (b : Fin 4) (j : Fin 1024) : Fin 4096 := ⟨(j.val / 64 * 4 + b.val) * 64 + j.val % 64, by have := j.isLt; have := b.isLt; omega⟩
/-- The query block of row `i`. -/
def blockAt (i : Fin 256) : Fin 4 := ⟨i.val / 64, by have := i.isLt; omega⟩
/-- The factor of the scores, 1/√128. -/
def scale : EReal := (((_root_.Real.sqrt 128)⁻¹ : ℝ) : EReal)

/-- The factor of the scores is a positive real number. -/
theorem scale_real : ∃ r : ℝ, 0 < r ∧ scale = r :=
  ⟨(_root_.Real.sqrt 128)⁻¹, inv_pos.2 (_root_.Real.sqrt_pos.2 (by norm_num)), rfl⟩

variable (A : Arrays)

/-- The queries. -/
def query (i : Fin 256) (n : Fin 4096) : EReal := ∑ e, A.x i e * A.wq e n
/-- A score, the queries scaled first. -/
def scoreK (i : Fin 256) (h : Fin 32) (j : Fin 4096) : EReal := ∑ d, query A i (lane h d) * scale * A.k j h d
/-- A score, scaled last. -/
def scoreR (i : Fin 256) (h : Fin 32) (j : Fin 4096) : EReal := (∑ d, query A i (lane h d) * A.k j h d) * scale
/-- The context over the keys of the row's block alone. -/
def ctxK (i : Fin 256) (n : Fin 4096) : EReal :=
  soft (fun j => scoreK A i (headAt n) (key (blockAt i) j)) (fun j => A.v (key (blockAt i) j) (headAt n) (laneAt n))
/-- The context over all the keys, those of other blocks masked by −∞. -/
def ctxR (i : Fin 256) (n : Fin 4096) : EReal :=
  soft (fun j : Fin 4096 => if j.val / 64 % 4 = i.val / 64 then scoreR A i (headAt n) j else ⊥)
    (fun j => A.v j (headAt n) (laneAt n))
/-- The output: the context, projected. -/
def out (ctx : Fin 256 → Fin 4096 → EReal) (i : Fin 256) (n : Fin 1024) : EReal := ∑ e, ctx i e * A.wo e n

/-- The input, the query projection and the keys are real numbers. -/
structure Real : Prop where
  x : ∀ i e, ∃ r : ℝ, A.x i e = r
  wq : ∀ e n, ∃ r : ℝ, A.wq e n = r
  k : ∀ j h d, ∃ r : ℝ, A.k j h d = r

/-- It does not matter where the scores are scaled. -/
theorem score_eq (i : Fin 256) (h : Fin 32) (j : Fin 4096) : scoreR A i h j = scoreK A i h j := by
  obtain ⟨r, hr, hs⟩ := scale_real
  unfold scoreR scoreK
  rw [hs, sum_mul_coe _ _ r hr.le]
  exact Finset.sum_congr rfl fun d _ => by rw [mul_assoc, mul_assoc, mul_comm (A.k j h d)]

variable {A}

/-- The scores of real arrays are real. -/
theorem Real.score (hA : Real A) (i : Fin 256) (h : Fin 32) (j : Fin 4096) : ∃ r : ℝ, scoreR A i h j = r := by
  obtain ⟨r, -, hs⟩ := scale_real
  exact mul_real (sum_real _ _ fun d => mul_real (sum_real _ _ fun e => mul_real (hA.x i e) (hA.wq e _)) (hA.k j h d)) ⟨r, hs⟩

/-- A block's keys are those whose block number is the block's, modulo 4. -/
theorem key_iff (i : Fin 256) (j : Fin 4096) : j.val / 64 % 4 = i.val / 64 ↔ ∃ a, key (blockAt i) a = j := by
  have := i.isLt
  have := j.isLt
  constructor
  · intro h
    refine ⟨⟨j.val / 256 * 64 + j.val % 64, by omega⟩, ?_⟩
    apply Fin.ext
    simp only [key, blockAt]
    omega
  · rintro ⟨a, rfl⟩
    have := a.isLt
    simp only [key, blockAt]
    omega

/-- Different numbers name different keys of a block. -/
theorem key_injective (b : Fin 4) : Function.Injective (key b) := by
  intro j j' h
  have h := congrArg Fin.val h
  simp only [key] at h
  have := b.isLt
  apply Fin.ext
  omega

/-- Over real arrays the masked context is the context over the block's keys. -/
theorem ctx_eq (hA : Real A) (i : Fin 256) (n : Fin 4096) : ctxR A i n = ctxK A i n := by
  unfold ctxR ctxK
  rw [soft_mask (key (blockAt i)) (key_injective _) (fun j : Fin 4096 => j.val / 64 % 4 = i.val / 64) (key_iff i) _ _
    (fun a => hA.score i _ _)]
  congr 1
  funext a
  exact score_eq A i _ _

end Cert.Spec

end
-- ==== Proof.KernelValue.lean ====
/- The kernel's value over the extended reals: what its arrays hold, coordinate by coordinate, is the mathematics of
   the block's keys (`Spec.ctxK`), projected and summed over the devices. -/
module

public import proofs.«01_k».proof.Proof.Contents
public import proofs.«01_k».proof.Proof.Spec
public import Idealize.ShloMosaic.Lib.Pointwise
public import Idealize.ShloMosaic.PureOps.IdealRules

@[expose] public section

set_option maxRecDepth 16384

noncomputable section

namespace Cert.KernelIdeal.Own

open Idealize Idealize.ShloMosaic Idealize.SL.Sem
open Cert.KernelIdeal Cert.KernelIdeal.Gen
open Cert.Soft Cert.Spec

/-- One head's attention, read at a row and a lane. -/
theorem headPay_apply (qh : FVec Ideal S64x128 .f32) (k v : Vec Ideal S1x16x64x1x128 .f32) (r : Fin 64) (l : Fin 128) :
    headPay qh k v (ix2 r l)
      = soft (fun j : Fin 1024 => ∑ d : Fin 128, qh (ix2 r d)
            * k (ix5 0 ⟨j.val / 64, by have := j.isLt; omega⟩ ⟨j.val % 64, by omega⟩ 0 d))
          (fun j => v (ix5 0 ⟨j.val / 64, by have := j.isLt; omega⟩ ⟨j.val % 64, by omega⟩ 0 l)) := by
  pointwise [headPay, k0_pay6, k0_pay5]
  rw [ofBits_bot]
  rfl

/-- The named factor is the factor of the scores. -/
theorem scale_eq : Named.named (F := Ideal) κ "scale" (φ := .f32) 0x3DB504F3#32 = scale :=
  IdealRules.named_const.ideal_named_scalar _ _ _ _ rfl

/-- The scaled queries, read at a row and a column. -/
theorem qOf_apply (I : Inp Ideal) (r : Fin 256) (n : Fin 1024) :
    qOf I (ix2 r n) = (∑ e : Fin 1024, I.x (ix2 r e) * I.wq (ix2 e n)) * scale := by
  pointwise [qOf, k0_pay2]
  exact congrArg (_ * ·) scale_eq

/-- A device's part of the output product, read at a row and a column. -/
theorem pOf_apply (I : Dev nD → Inp Ideal) (c : Dev nD) (r : Fin 256) (n : Fin 1024) :
    pOf I c (ix2 r n) = ∑ e : Fin 1024, ctxOf (I c) c (ix2 r e) * (I c).wo (ix2 e n) := by
  pointwise [pOf, k0_pay71]

/-- The sum over a device and its first partner, read at an index. -/
theorem sOf_apply (I : Dev nD → Inp Ideal) (c : Dev nD) (i : S256x1024.Idx) :
    sOf I c i = pOf I c i + pOf I (pa c) i := by
  idx_vars i
  pointwise [sOf, k0_pay73, k0_pay72]

/-- The sum over all four, read at an index. -/
theorem outOf_apply (I : Dev nD → Inp Ideal) (c : Dev nD) (i : S256x1024.Idx) :
    outOf I c i = sOf I c i + sOf I (pb c) i := by
  idx_vars i
  pointwise [outOf, k0_pay1]

/-- Column `n` of device `c`'s block among all the columns. -/
def col (c : Dev nD) (n : Fin 1024) : Fin 4096 := ⟨1024 * c.val + n.val, by have := c.isLt; have := n.isLt; simp only [nD] at *; omega⟩

/-- What the devices are given is the arrays: the input whole, the projections by blocks of 1024 columns and rows, the
    keys and values whole, their positions in blocks of 64 and the blocks in fours. -/
structure Holds (I : Dev nD → Inp Ideal) (A : Arrays) : Prop where
  x : ∀ c i e, (I c).x (ix2 i e) = A.x i e
  wq : ∀ c e n, (I c).wq (ix2 e n) = A.wq e (col c n)
  k : ∀ c (j : Fin 1024) b o l, (I c).k (kvIx ⟨j.val / 64, by have := j.isLt; omega⟩ b ⟨j.val % 64, by omega⟩ o l) = A.k (key b j) o l
  v : ∀ c (j : Fin 1024) b o l, (I c).v (kvIx ⟨j.val / 64, by have := j.isLt; omega⟩ b ⟨j.val % 64, by omega⟩ o l) = A.v (key b j) o l
  wo : ∀ c e n, (I c).wo (ix2 e n) = A.wo (col c e) n

variable {I : Dev nD → Inp Ideal} {A : Arrays} (h : Holds I A)

/-- Row `r`, column `e` of the context lies in its block at row `r % 64`, column `e % 128`. -/
theorem inBlk_ix2 (r : Fin 256) (e : Fin 1024) :
    inBlk (ix2 r e) = ix2 (⟨r.val % 64, by omega⟩ : Fin 64) (⟨e.val % 128, by omega⟩ : Fin 128) := by
  funext a
  match a with
  | ⟨0, _⟩ => rfl
  | ⟨1, _⟩ => rfl

/-- The queries of a row's block at a head, read at the row and a lane. -/
theorem qBlk_ix2 (q : FVec Ideal S256x1024 .f32) (r : Fin 256) (e : Fin 1024) (d : Fin 128) :
    qBlk q (rowBlk (ix2 r e)) (colBlk (ix2 r e)) (ix2 (⟨r.val % 64, by omega⟩ : Fin 64) d)
      = q (ix2 r (⟨128 * (e.val / 128) + d.val, by have := e.isLt; have := d.isLt; omega⟩ : Fin 1024)) := by
  unfold qBlk
  congr 1
  funext a
  match a with
  | ⟨0, _⟩ => exact Fin.ext (by show 64 * (r.val / 64) + r.val % 64 = r.val; omega)
  | ⟨1, _⟩ => rfl

include h in
/-- A device's context is its columns of the context over the blocks' keys. -/
theorem ctxOf_apply (c : Dev nD) (r : Fin 256) (e : Fin 1024) : ctxOf (I c) c (ix2 r e) = ctxK A r (col c e) := by
  have hd0 : hd c (colBlk (ix2 r e)) = headAt (col c e) :=
    Fin.ext (by show 8 * c.val + e.val / 128 = (1024 * c.val + e.val) / 128; omega)
  have hl : (⟨e.val % 128, by omega⟩ : Fin 128) = laneAt (col c e) :=
    Fin.ext (by show e.val % 128 = (1024 * c.val + e.val) % 128; omega)
  have hb : rowBlk (ix2 r e) = blockAt r := rfl
  show headPay _ _ _ (inBlk (ix2 r e)) = _
  rw [inBlk_ix2, headPay_apply]
  unfold ctxK
  congr 1
  · funext j
    refine Finset.sum_congr rfl fun d _ => ?_
    rw [qBlk_ix2, qOf_apply]
    congr 1
    · congr 1
      refine Finset.sum_congr rfl fun k _ => ?_
      rw [h.x, h.wq]
      congr 2
      exact Fin.ext (by show 1024 * c.val + (128 * (e.val / 128) + d.val) = 128 * ((1024 * c.val + e.val) / 128) + d.val; omega)
    · rw [← hd0, ← h.k c j]
      rfl
  · funext j
    rw [← hd0, ← hl, ← h.v c j]
    rfl

/-- The columns of all the devices are all the columns. -/
theorem sum_col (f : Fin 4096 → EReal) : ∑ c : Dev nD, ∑ e : Fin 1024, f (col c e) = ∑ n, f n := by
  rw [← Fintype.sum_prod_type']
  refine Fintype.sum_bijective (fun p : Dev nD × Fin 1024 => col p.1 p.2) ⟨?_, ?_⟩ _ _ fun _ => rfl
  · rintro ⟨c, e⟩ ⟨c', e'⟩ hh
    have hh := congrArg Fin.val hh
    simp only [col] at hh
    have := e.isLt
    have := e'.isLt
    exact Prod.ext (Fin.ext (by show c.val = c'.val; omega)) (Fin.ext (by show e.val = e'.val; omega))
  · intro n
    have := n.isLt
    exact ⟨(⟨n.val / 1024, by simp only [nD]; omega⟩, ⟨n.val % 1024, by omega⟩), Fin.ext (by show 1024 * (n.val / 1024) + n.val % 1024 = n.val; omega)⟩

include h in
/-- Every device's result is the projected context over the blocks' keys. -/
theorem outOf_value (c : Dev nD) (r : Fin 256) (n : Fin 1024) : outOf I c (ix2 r n) = out A (ctxK A) r n := by
  have e : ∀ c, pOf I c (ix2 r n) = ∑ e : Fin 1024, ctxK A r (col c e) * A.wo (col c e) n := fun c => by
    rw [pOf_apply]
    exact Finset.sum_congr rfl fun k _ => by rw [ctxOf_apply h, h.wo]
  unfold out
  rw [← sum_col, outOf_apply, sOf_apply, sOf_apply, e, e, e, e]
  generalize hg : (fun c : Dev nD => ∑ e : Fin 1024, ctxK A r (col c e) * A.wo (col c e) n) = g
  have hg : ∀ c : Dev nD, ∑ e : Fin 1024, ctxK A r (col c e) * A.wo (col c e) n = g c := fun c => congrFun hg c
  simp only [hg]
  clear hg e
  revert c
  rw [show (∑ c : Dev nD, g c) = g 0 + g 1 + g 2 + g 3 from Fin.sum_univ_four g]
  intro c
  match c with
  | 0 => show g 0 + g 1 + (g 3 + g 2) = _; ac_rfl
  | 1 => show g 1 + g 0 + (g 2 + g 3) = _; ac_rfl
  | 2 => show g 2 + g 3 + (g 1 + g 0) = _; ac_rfl
  | 3 => show g 3 + g 2 + (g 0 + g 1) = _; ac_rfl

end Cert.KernelIdeal.Own

end
-- ==== Proof.Mask.lean ====
/- The reference's mask: a query attends to the keys whose block number is its own modulo 4. -/
module

public import proofs.«01_k».proof.Proof.Gen.ReferenceIdeal.Run
public import proofs.«01_k».proof.Proof.Spec
public import Idealize.ShloMosaic.Lib.Pointwise
public import Idealize.ShloMosaic.Lib.Tactic.CleanTypes
public import Idealize.ShloMosaic.Lib.Routing.OpsSearch
public import Idealize.ShloMosaic.Lib.Routing.OpsOrder
public import Idealize.ShloMosaic.Lib.WordCmp

@[expose] public section

set_option maxRecDepth 16384

noncomputable section

namespace Cert.ReferenceIdeal.Value

open Idealize Idealize.ShloMosaic Idealize.SL.Sem
open Cert.ReferenceIdeal Cert.ReferenceIdeal.Gen
open Idealize.ShloMosaic.WordCmp

/-- Floor division of a natural number below 2³¹ by 64, as it is written with the quotient rounded towards zero, is the
    natural quotient. -/
theorem floorDiv_word (a : ℕ) (ha : a < 2 ^ 31) :
    Scalar.select
      (IntOp.andi
        (IntOp.cmpi CmpIPredicate.ne
          (if BitVec.ofNat 32 a = 0 then (0 : BitVec 32) else if (BitVec.ofNat 32 a).msb = true then -1 else 1)
          (if (64#32 : BitVec 32) = 0 then (0 : BitVec 32) else if BitVec.msb (64#32) = true then -1 else 1))
        (IntOp.cmpi CmpIPredicate.ne (IntOp.remsi ArithUnit.host (BitVec.ofNat 32 a) 64#32) 0#32))
      (IntOp.subi (IntOp.divsi ArithUnit.host (BitVec.ofNat 32 a) 64#32) 1#32)
      (IntOp.divsi ArithUnit.host (BitVec.ofNat 32 a) 64#32) = BitVec.ofNat 32 (a / 64) := by
  have hd : IntOp.divsi ArithUnit.host (BitVec.ofNat 32 a) 64#32 = BitVec.ofNat 32 (a / 64) :=
    Routing.divsi_word .host ha (by omega) (by omega)
  have hr : IntOp.remsi ArithUnit.host (BitVec.ofNat 32 a) 64#32 = BitVec.ofNat 32 (a % 64) :=
    Routing.remsi_word .host ha (by omega) (by omega)
  rw [hd, hr]
  obtain rfl | h := Nat.eq_zero_or_pos a
  · rfl
  · rw [if_neg (Routing.ofNat32_ne_zero h (by omega)), Routing.msb_ofNat32 ha]
    have e : IntOp.cmpi CmpIPredicate.ne (if false = true then (-1 : BitVec 32) else 1)
        (if (64#32 : BitVec 32) = 0 then (0 : BitVec 32) else if BitVec.msb (64#32) = true then -1 else 1) = 0#1 := by decide
    rw [e]
    unfold IntOp.andi
    rw [BitVec.zero_and]
    rfl

/-- The query block of a row. -/
theorem rowBlock (V0 : Valuation τ sig (Elt Ideal)) (i : Fin 256) : res_main_v6 V0 (ix2 i 0) = BitVec.ofNat 32 (i.val / 64) := by
  have := i.isLt
  refine Eq.trans ?_ (floorDiv_word i.val (by omega))
  unfold res_main_v6 res_main_call0_v2 res_main_v4 res_main_call0_v0
  clean_types
  pointwise [id]

/-- The key block of a position. -/
theorem keyBlock (V0 : Valuation τ sig (Elt Ideal)) (j : Fin 4096) : res_main_v9 V0 (ix2 0 j) = BitVec.ofNat 32 (j.val / 64) := by
  have := j.isLt
  refine Eq.trans ?_ (floorDiv_word j.val (by omega))
  unfold res_main_v9 res_main_call1_v2 res_main_v7 res_main_call1_v0
  clean_types
  pointwise [id]

/-- The mask's bit. -/
theorem mask (V0 : Valuation τ sig (Elt Ideal)) (i : Fin 256) (j : Fin 4096) :
    res_main_v20 V0 (ix2 i j) = BitVec.ofBool (decide (j.val / 64 % 4 = i.val / 64)) := by
  have := i.isLt
  have := j.isLt
  unfold res_main_v20
  clean_types
  pointwise
  rw [rowBlock, keyBlock, Routing.remsi_word (b := 4) .host (by omega) (by omega) (by omega),
    Routing.remsi_word (b := 4) .host (by omega) (by omega) (by omega), cmpi_eq_ofNat (by omega) (by omega),
    cmpi_eq_ofNat (by omega) (by omega), Nat.mod_eq_of_lt (show i.val / 64 < 4 by omega)]
  by_cases h : j.val / 64 % 4 = i.val / 64
  · rw [decide_eq_true h]
    rcases Bool.eq_false_or_eq_true (decide (i.val / 64 = j.val / 64)) with e | e <;> rw [e] <;> rfl
  · rw [decide_eq_false h, decide_eq_false (show ¬ i.val / 64 = j.val / 64 by omega)]
    rfl

/-- Every query attends to some key: that at its own position. -/
theorem any (V0 : Valuation τ sig (Elt Ideal)) (i : Fin 256) : res_main_v32 V0 (ix1 i) = 1#1 := by
  have := i.isLt
  unfold res_main_v32
  clean_types
  pointwise
  rw [Routing.fold_ori]
  refine ⟨⟨i.val, by omega⟩, Finset.mem_univ _, ?_⟩
  rw [mask, decide_eq_true (show i.val / 64 % 4 = i.val / 64 by omega)]
  rfl

end Cert.ReferenceIdeal.Value

end
-- ==== Proof.RefValue.lean ====
/- The reference's value over the extended reals: its result, coordinate by coordinate, is the masked context
   (`Spec.ctxR`), projected. -/
module

public import proofs.«01_k».proof.Proof.Mask
public import Idealize.ShloMosaic.Lib.Pipeline.ValueKit

@[expose] public section

set_option maxRecDepth 16384

noncomputable section

namespace Cert.ReferenceIdeal.Value

open Idealize Idealize.ShloMosaic Idealize.SL.Sem
open Cert.ReferenceIdeal Cert.ReferenceIdeal.Gen
open Cert.Soft Cert.Spec

/-- The mask's number, as the reference's kernel writes it, is −∞. -/
theorem neg_eq (m : (ℓ : Loc nD τ sig) → Buf (Elt Ideal) ℓ) (c : Dev nD) : reg_main_v1_0 m c = fun _ => (⊥ : EReal) := by
  unfold reg_main_v1_0
  refine (dats m 0 c).arrAt_eq_of_covers 1 _ (by decide +kernel) fun t hf y => ?_
  blk_simp
  rw [after0_1]
  frame_out
  rfl

/-- The factor of the scores, as the reference's kernel writes it, is 1/√128. -/
theorem fac_eq (m : (ℓ : Loc nD τ sig) → Buf (Elt Ideal) ℓ) (c : Dev nD) : reg_main_v1_1 m c = fun _ => scale := by
  unfold reg_main_v1_1
  refine (dats m 0 c).arrAt_eq_of_covers 2 _ (by decide +kernel) fun t hf y => ?_
  blk_simp
  rw [after0_2]
  frame_out
  rfl

/-- The arrays of a reference's arguments. -/
def arraysOf (x : FVec Ideal S1x256x1024 .f32) (wq : FVec Ideal S1024x4096 .f32) (k v : FVec Ideal S1x4096x32x128 .f32)
    (wo : FVec Ideal S4096x1024 .f32) : Arrays where
  x i e := x (ix3 0 i e)
  wq e n := wq (ix2 e n)
  k j h d := k (ix4 0 j h d)
  v j h d := v (ix4 0 j h d)
  wo e n := wo (ix2 e n)

/-- The arrays a reference's later operations find. -/
def arraysAt (V0 : Valuation τ sig (Elt Ideal)) : Arrays :=
  arraysOf (V0 (Proc.devRef .tc main_arg0)) (V0 (Proc.devRef .tc main_arg1)) (V0 (Proc.devRef .tc main_arg2))
    (V0 (Proc.devRef .tc main_arg3)) (V0 (Proc.devRef .tc main_arg4))

variable (V0 : Valuation τ sig (Elt Ideal)) (hneg : V0 (Proc.devRef .tc main_v1_0) = fun _ => (⊥ : EReal))
  (hfac : V0 (Proc.devRef .tc main_v1_1) = fun _ => scale)

include hneg hfac in
/-- A masked score. -/
theorem masked (h : Fin 32) (i : Fin 256) (j : Fin 4096) :
    res_main_v26 V0 (ix4 0 h i j) = if j.val / 64 % 4 = i.val / 64 then scoreR (arraysAt V0) i h j else (⊥ : EReal) := by
  unfold res_main_v26
  rw [hneg, hfac]
  clean_types
  pointwise
  rw [mask]
  by_cases hm : j.val / 64 % 4 = i.val / 64
  · rw [if_pos hm, decide_eq_true hm]
    show _ * _ = _ * _
    congr 1
    refine Finset.sum_congr rfl fun d _ => ?_
    congr 1
    refine Finset.sum_congr rfl fun e _ => ?_
    congr 2
    exact congrArg (ix2 e) (Fin.ext (Nat.add_right_cancel_iff.2 (Nat.mul_comm _ _)))
  · rw [if_neg hm, decide_eq_false hm]
    rfl

/-- The masked scores of a row, as extended reals. -/
def rowOf (h : Fin 32) (i : Fin 256) (j : Fin 4096) : EReal := res_main_v26 V0 (ix4 0 h i j)

/-- The exponential of a masked score less the greatest of its row. -/
theorem expd (h : Fin 32) (i : Fin 256) (j : Fin 4096) :
    res_main_v31 V0 (ix4 0 h i j) = Ideal.exp (rowOf V0 h i j - top (rowOf V0 h i)) := by
  unfold res_main_v31
  clean_types
  pointwise
  rw [ofBits_bot]
  rfl

include hneg hfac in
/-- A row of masked scores, all at once. -/
theorem row_eq (h : Fin 32) (i : Fin 256) :
    rowOf V0 h i = fun j => if j.val / 64 % 4 = i.val / 64 then scoreR (arraysAt V0) i h j else (⊥ : EReal) :=
  funext fun j => masked V0 hneg hfac h i j

/-- The reference's last operations, of the rows it keeps, the exponentials, the values and the output projection. -/
def resultOf (keep : IVec S256 1) (w : FVec Ideal S1x32x256x4096 .f32) (v : FVec Ideal S1x4096x32x128 .f32)
    (wo : FVec Ideal S4096x1024 .f32) : FVec Ideal S1x256x1024 .f32 :=
  Host.dotGeneral dot_S1x256x4096_S4096x1024_S1x256x1024_2_0_01_1_n_n none (shapeCast _ (transpose S1x256x32x128 [0, 3, 1, 2] (Host.dotGeneral dot_S1x4096x32x128_S1x32x256x4096_S1x32x128x256_1_3_3_2_02_01 none v (select (broadcastInDim S1x32x256x4096 ![0, 1, 2, 3] bcast_S1x1x256x1_S1x32x256x4096_0_1_2_3 (broadcastInDim S1x1x256x1 ![2] bcast_S256_S1x1x256x1_2 keep)) (Host.divf w (broadcastInDim S1x32x256x4096 ![0, 1, 2, 3] bcast_S1x32x256x1_S1x32x256x4096_0_1_2_3 (select (broadcastInDim S1x32x256x1 ![0, 1, 2, 3] bcast_S1x1x256x1_S1x32x256x1_0_1_2_3 (broadcastInDim S1x1x256x1 ![2] bcast_S256_S1x1x256x1_2 keep)) (broadcastInDim S1x32x256x1 ![0, 1, 2] bcast_S1x32x256_S1x32x256x1_0_1_2 (Host.reduceAdd w (constant S_ .f32 0x00000000#32) reducesTo_S1x32x256x4096_S1x32x256_d3 h_S_)) (broadcastInDim S1x32x256x1 ![] bcast_S_S1x32x256x1 (id (constant S_ .f32 0x3F800000#32)))))) (broadcastInDim S1x32x256x4096 ![] bcast_S_S1x32x256x4096 (id (constant S_ .f32 0x00000000#32))))) transposes_S1x32x128x256_S1x256x32x128_0_3_1_2) shapeCasts_S1x256x32x128_S1x256x4096) wo

/-- Those operations read at an index, where the row is kept. -/
theorem resultOf_apply (keep : IVec S256 1) (w : FVec Ideal S1x32x256x4096 .f32) (v : FVec Ideal S1x4096x32x128 .f32)
    (wo : FVec Ideal S4096x1024 .f32) (i : Fin 256) (n : Fin 1024) (hk : keep (ix1 i) = 1#1) :
    resultOf keep w v wo (ix3 0 i n)
      = ∑ e : Fin 4096, (∑ j : Fin 4096, Ideal.div (w (ix4 0 (headAt e) i j)) (∑ j' : Fin 4096, w (ix4 0 (headAt e) i j'))
          * v (ix4 0 j (headAt e) (laneAt e))) * wo (ix2 e n) := by
  pointwise [resultOf]
  refine Finset.sum_congr rfl fun e _ => ?_
  congr 1
  refine Finset.sum_congr rfl fun j _ => ?_
  rw [hk, mul_comm]
  rfl

include hneg hfac in
/-- The reference's result is the masked context, projected. -/
theorem result_value (i : Fin 256) (n : Fin 1024) :
    resultOf (res_main_v32 V0) (res_main_v31 V0) (V0 (Proc.devRef .tc main_arg3)) (V0 (Proc.devRef .tc main_arg4)) (ix3 0 i n)
      = out (arraysAt V0) (ctxR (arraysAt V0)) i n := by
  refine (resultOf_apply _ _ _ _ i n (any V0 i)).trans (Finset.sum_congr rfl fun e _ => ?_)
  congr 1
  unfold ctxR soft mass
  refine Finset.sum_congr rfl fun j _ => ?_
  congr 1
  simp only [expd, row_eq V0 hneg hfac]

end Cert.ReferenceIdeal.Value

end
-- ==== Proof.Equal.lean ====
/- The kernel's result is the reference's, over the extended reals. -/
module

public import proofs.«01_k».proof.Defs
public import proofs.«01_k».proof.Proof.Gen.ReferenceIdeal.Run
public import proofs.«01_k».proof.Proof.Launch
public import proofs.«01_k».proof.Proof.KernelValue
public import proofs.«01_k».proof.Proof.RefValue
public import Idealize.ShloMosaic.Lib.ReduceAll
public import Idealize.ShloMosaic.Lib.LayoutAt

@[expose] public section

set_option maxRecDepth 16384

noncomputable section

namespace Cert.Equal

open Idealize Idealize.ShloMosaic Idealize.SL.Sem
open Cert.Soft Cert.Spec

/-! ## What the precondition says -/

/-- The shape facts of the precondition. -/
theorem preFacts : Cert.Pre_finite_KernelIdeal.Facts := by
  constructor <;> decide

/-- Those of the precondition as the reference's arguments state it. -/
theorem preFacts' : Cert.Pre_finite_ReferenceIdeal.Facts := by
  constructor <;> decide

/-- A number whose magnitude lies below the word of +∞ is real. -/
theorem real_of_lt (a : EReal) (h : Ideal.cmp .olt (max a (-a)) (Ideal.ofBits .f32 0x7F800000#32) = 1#1) : ∃ r : ℝ, a = r := by
  have ht : Ideal.ofBits .f32 0x7F800000#32 = ⊤ := by simp [Ideal.ofBits, Ideal.ieee]
  rw [ht] at h
  induction a with
  | bot => simp [Ideal.cmp] at h
  | top => simp [Ideal.cmp] at h
  | coe r => exact ⟨r, rfl⟩

attribute [local instance] preFacts in
/-- The input, the query projection's block and the keys that pass the precondition are real, number by number. -/
theorem real_of_fn (x : FVec Ideal Cert.Pre_finite_KernelIdeal.S1x256x1024 .f32) (wq : FVec Ideal Cert.Pre_finite_KernelIdeal.S1024x1024 .f32)
    (k v : FVec Ideal Cert.Pre_finite_KernelIdeal.S1x4096x32x128 .f32) (wo : FVec Ideal Cert.Pre_finite_KernelIdeal.S1024x1024 .f32) (j)
    (h : Cert.Pre_finite_KernelIdeal.fn (F := Ideal) x wq k v wo j = 1#1) :
    (∀ i e, ∃ r : ℝ, x (ix3 0 i e) = (r : EReal)) ∧ (∀ e n, ∃ r : ℝ, wq (ix2 e n) = (r : EReal))
      ∧ (∀ p h d, ∃ r : ℝ, k (ix4 0 p h d) = (r : EReal)) := by
  have two : ∀ a b : BitVec 1, a &&& b = 1#1 → a = 1#1 ∧ b = 1#1 := by decide
  dsimp only [Cert.Pre_finite_KernelIdeal.fn] at h
  obtain ⟨h, hk⟩ := two _ _ h
  obtain ⟨hx, hw⟩ := two _ _ h
  exact ⟨fun i e => real_of_lt _ (Host.reduce_andi_all _ _ _ _ j hx (ix3 0 i e)),
    fun e n => real_of_lt _ (Host.reduce_andi_all _ _ _ _ j hw (ix2 e n)),
    fun p o d => real_of_lt _ (Host.reduce_andi_all _ _ _ _ j hk (ix4 0 p o d))⟩

/-! ## The arguments -/

section
variable (m : (ℓ : Loc Cert.KernelIdeal.nD Cert.KernelIdeal.τ Cert.KernelIdeal.sig) → Buf (Elt Ideal) ℓ)
  (x : FVec Ideal Cert.ReferenceIdeal.S1x256x1024 .f32) (wq : FVec Ideal Cert.ReferenceIdeal.S1024x4096 .f32)
  (k v : FVec Ideal Cert.ReferenceIdeal.S1x4096x32x128 .f32) (wo : FVec Ideal Cert.ReferenceIdeal.S4096x1024 .f32)

open Cert.KernelIdeal Cert.KernelIdeal.Gen Cert.KernelIdeal.Own

/-- The index of a block of keys, by its coordinates. -/
theorem kvIx_eq (a : Fin 16) (b : Fin 4) (r : Fin 64) (o : Fin 32) (l : Fin 128) : kvIx a b r o l = ix5 a b r o l := by
  funext t
  match t with
  | ⟨0, _⟩ => rfl | ⟨1, _⟩ => rfl | ⟨2, _⟩ => rfl | ⟨3, _⟩ => rfl | ⟨4, _⟩ => rfl
  | ⟨_ + 5, h⟩ => exact absurd h (Nat.not_lt.2 (Nat.le_add_left _ _))

/-- The keys' positions in blocks of 64, the blocks in fours. -/
theorem split_apply (k : FVec Ideal S1x4096x32x128 .f32) (j : Fin 1024) (b : Fin 4) (o : Fin 32) (l : Fin 128) :
    shapeCast S16x4x64x32x128 k shapeCasts_S1x4096x32x128_S16x4x64x32x128
        (kvIx ⟨j.val / 64, by have := j.isLt; omega⟩ b ⟨j.val % 64, by omega⟩ o l) = k (ix4 0 (key b j) o l) := by
  rw [kvIx_eq]
  pointwise
  exact congrArg (fun p => k (ix4 0 p o l)) (Fin.ext (by simp only [key]; omega))

/-- The input without its first coordinate. -/
theorem drop_apply (x : FVec Ideal S1x256x1024 .f32) (i : Fin 256) (e : Fin 1024) :
    shapeCast S256x1024 x shapeCasts_S1x256x1024_S256x1024 (ix2 i e) = x (ix3 0 i e) := by
  pointwise

/-- A result with a first coordinate. -/
theorem lift_apply (x : FVec Ideal S256x1024 .f32) (i : Fin 256) (e : Fin 1024) :
    shapeCast S1x256x1024 x shapeCasts_S256x1024_S1x256x1024 (ix3 0 i e) = x (ix2 i e) := by
  pointwise

/-- The kernel's arguments, cut as the claim says, hold the reference's arrays. -/
theorem holds
    (hx : ∀ c : Dev nD, m ((c.tc : Thread nD τ).loc main_arg0) = x)
    (hwq : ∀ c : Dev nD, m ((c.tc : Thread nD τ).loc main_arg1) = Layout.block ⟨2, ![1024, 1024]⟩ ⟨2, ![1024, 4096]⟩ 1 4 c wq)
    (hk : ∀ c : Dev nD, m ((c.tc : Thread nD τ).loc main_arg2) = k)
    (hv : ∀ c : Dev nD, m ((c.tc : Thread nD τ).loc main_arg3) = v)
    (hwo : ∀ c : Dev nD, m ((c.tc : Thread nD τ).loc main_arg4) = Layout.block ⟨2, ![1024, 1024]⟩ ⟨2, ![4096, 1024]⟩ 0 4 c wo) :
    Holds (Ir m) (Cert.ReferenceIdeal.Value.arraysOf x wq k v wo) where
  x c i e := by
    rw [Ir_x]
    exact (drop_apply _ i e).trans (congrFun (hx c) _)
  wq c e n := by
    rw [Ir_wq]
    refine (congrFun (hwq c) _).trans ?_
    refine congrArg wq (Layout.idx_ext fun t => ?_)
    match t with
    | ⟨0, _⟩ => rfl
    | ⟨1, _⟩ => exact congrArg (· + n.val) (Nat.mul_comm _ _)
  k c j b o l := by
    rw [Ir_k]
    exact (split_apply _ j b o l).trans (congrFun (hk c) _)
  v c j b o l := by
    rw [Ir_v]
    exact (split_apply _ j b o l).trans (congrFun (hv c) _)
  wo c e n := by
    rw [Ir_wo]
    refine (congrFun (hwo c) _).trans ?_
    refine congrArg wo (Layout.idx_ext fun t => ?_)
    match t with
    | ⟨0, _⟩ => exact congrArg (· + e.val) (Nat.mul_comm _ _)
    | ⟨1, _⟩ => rfl

/-- What each device returns, where the arguments are the reference's and real: the masked context, projected. -/
theorem res_value (A : Arrays) (h : Holds (Ir m) A) (hA : Spec.Real A) (c : Dev nD) (i : Fin 256) (n : Fin 1024) :
    resOf (Ir m) c (ix3 0 i n) = out A (ctxR A) i n :=
  (lift_apply _ i n).trans ((outOf_value h c i n).trans (Finset.sum_congr rfl fun e _ => by rw [ctx_eq hA]))

end

/-! ## The claim -/

/-- The reference's result, device 0's. -/
def refOut (m' : (ℓ : Loc Cert.ReferenceIdeal.nD Cert.ReferenceIdeal.τ Cert.ReferenceIdeal.sig) → Buf (Elt Ideal) ℓ) :
    FVec Ideal Cert.ReferenceIdeal.S1x256x1024 .f32 :=
  Cert.ReferenceIdeal.Value.resultOf (Cert.ReferenceIdeal.Value.res_main_v32 (Cert.ReferenceIdeal.Value.exitV m' 0))
    (Cert.ReferenceIdeal.Value.res_main_v31 (Cert.ReferenceIdeal.Value.exitV m' 0))
    (Cert.ReferenceIdeal.Value.exitV m' 0 (Proc.devRef .tc Cert.ReferenceIdeal.main_arg3))
    (Cert.ReferenceIdeal.Value.exitV m' 0 (Proc.devRef .tc Cert.ReferenceIdeal.main_arg4))

section
variable (m' : (ℓ : Loc Cert.ReferenceIdeal.nD Cert.ReferenceIdeal.τ Cert.ReferenceIdeal.sig) → Buf (Elt Ideal) ℓ)
open Cert.ReferenceIdeal Cert.ReferenceIdeal.Value

/-- The reference's arguments, by their coordinates. -/
def refArrays : Arrays :=
  arraysOf (m' (((0 : Dev nD).tc : Thread nD τ).loc main_arg0)) (m' (((0 : Dev nD).tc : Thread nD τ).loc main_arg1))
    (m' (((0 : Dev nD).tc : Thread nD τ).loc main_arg2)) (m' (((0 : Dev nD).tc : Thread nD τ).loc main_arg3))
    (m' (((0 : Dev nD).tc : Thread nD τ).loc main_arg4))

/-- The reference's later operations find its arguments as launched. -/
theorem arraysAt_exit : arraysAt (exitV m' 0) = refArrays m' := by
  unfold arraysAt refArrays
  rw [exit_main_arg0, exit_main_arg1, exit_main_arg2, exit_main_arg3, exit_main_arg4]

/-- The reference's result, by its coordinates. -/
theorem refOut_value (i : Fin 256) (n : Fin 1024) : refOut m' (ix3 0 i n) = out (refArrays m') (ctxR (refArrays m')) i n := by
  rw [← arraysAt_exit]
  exact result_value (exitV m' 0) ((exit_main_v1_0 m' 0).trans (neg_eq m' 0)) ((exit_main_v1_1 m' 0).trans (fac_eq m' 0)) i n

end

/-- The kernel's results, on every device, are the reference's, from arguments whose input, query projection and keys are
    finite. -/
theorem algebraic : Cert.algebraic_KernelIdeal_ReferenceIdeal_pre_finite_KernelIdeal (hKernelIdeal := Cert.KernelIdeal.Gen.facts)
    (hReferenceIdeal := Cert.ReferenceIdeal.Gen.facts) (hPre_finite_KernelIdeal := preFacts) := by
  intro m g m' g' pre args
  have hH := holds m _ _ _ _ _ (fun c => (args c).1) (fun c => (args c).2.1) (fun c => (args c).2.2.1) (fun c => (args c).2.2.2.1)
    (fun c => (args c).2.2.2.2)
  have hpre := fun c => real_of_fn _ _ _ _ _ ix0 (congrFun (pre c) ix0)
  have hA : Spec.Real (refArrays m') := by
    refine ⟨fun i e => ?_, fun e n => ?_, fun j h d => ?_⟩
    · obtain ⟨r, hr⟩ := (hpre 0).1 i e
      exact ⟨r, (congrFun (args 0).1 _).symm.trans hr⟩
    · have hn := n.isLt
      let c : Dev Cert.KernelIdeal.nD := ⟨n.val / 1024, by simp only [Cert.KernelIdeal.nD]; omega⟩
      let n' : Fin 1024 := ⟨n.val % 1024, by omega⟩
      have hc : Cert.KernelIdeal.Own.col c n' = n := Fin.ext (by simp only [Cert.KernelIdeal.Own.col, c, n']; omega)
      obtain ⟨r, hr⟩ := (hpre c).2.1 e n'
      have h := hH.wq c e n'
      rw [Cert.KernelIdeal.Own.Ir_wq, hc] at h
      exact ⟨r, h.symm.trans hr⟩
    · obtain ⟨r, hr⟩ := (hpre 0).2.2 j h d
      exact ⟨r, (congrFun (args 0).2.2.1 _).symm.trans hr⟩
  have hres : ∀ c, Cert.KernelIdeal.Own.resOf (Cert.KernelIdeal.Own.Ir m) c = refOut m' := fun c => by
    funext y
    obtain ⟨i, n, rfl⟩ : ∃ (i : Fin 256) (n : Fin 1024), y = ix3 0 i n := ⟨y 1, y 2, by
      funext t
      match t with
      | ⟨0, h⟩ => exact Subsingleton.elim (α := Fin 1) (y ⟨0, h⟩) 0
      | ⟨1, _⟩ => rfl
      | ⟨2, _⟩ => rfl⟩
    exact (res_value m _ hH hA c i n).trans (refOut_value m' i n).symm
  refine ⟨refOut m', ?_, ?_⟩
  · exact (θ_run Cert.KernelIdeal.defs _ _).mono (fun _ h c => ⟨(h.1 c).1.trans (hres c), (h.1 c).2⟩)
      (Cert.KernelIdeal.Own.run_main (F := Ideal) m g)
  · exact (θ_run Cert.ReferenceIdeal.defs _ _).mono (fun _ h => h 0) (Cert.ReferenceIdeal.Value.run m' g')

end Cert.Equal

end
-- ==== Proof.Needed.lean ====
/- Why the claim on the values asks for finite numbers: with one infinite input, the masked context is not the context over the
   block's keys. -/
module

public import proofs.«01_k».proof.Proof.Spec

@[expose] public section

noncomputable section

namespace Cert.Spec

open Idealize Idealize.ShloMosaic Cert.Soft

/-- Of scores of which the greatest is +∞, each exponential is 0. -/
theorem exp_top (z : EReal) (hz : z = ⊤ ∨ z = ⊥) : Ideal.exp (z - ⊤) = 0 := by
  have h : z - ⊤ = ⊥ := by rcases hz with rfl | rfl <;> rfl
  rw [h]
  rfl

/-- A sum of infinitely large numbers is infinitely large. -/
theorem sum_top {n : ℕ} (f : Fin (n + 1) → EReal) (h : ∀ i, f i = ⊤) : ∑ i, f i = ⊤ := by
  simp only [h]
  induction n with
  | zero => simp
  | succ n ih => rw [Fin.sum_univ_succ, ih (fun _ => ⊤) fun _ => rfl]; rfl

/-- Where some score is +∞ and the others −∞ or +∞, the values are weighed by 0/0. -/
theorem soft_top {ι : Type} [Fintype ι] (z v : ι → EReal) (h : ∃ j, z j = ⊤) (hz : ∀ j, z j = ⊤ ∨ z j = ⊥) :
    soft z v = ∑ j, ⊥ * v j := by
  have ht : top z = ⊤ := by
    obtain ⟨j, hj⟩ := h
    rw [top_eq_sup]
    exact top_unique (hj ▸ Finset.le_sup (Finset.mem_univ j))
  have hm : mass z = 0 := by
    unfold mass
    exact Finset.sum_eq_zero fun j _ => by rw [ht, exp_top _ (hz j)]
  unfold soft
  refine Finset.sum_congr rfl fun j _ => ?_
  rw [hm, ht, exp_top _ (hz j)]
  congr 1
  simp [Ideal.div]

/-- The factor of the scores is positive, so it leaves +∞ as it is. -/
theorem top_scale : (⊤ : EReal) * scale = ⊤ := by
  obtain ⟨r, hr, hs⟩ := scale_real
  rw [hs]
  exact EReal.top_mul_coe_of_pos hr

/-- Arrays of one number each, `a` the input, `b` the query projection, `c` the keys, with the values 0 at the keys of the
    first query block and 1 at the others. -/
def flat (a b c : EReal) : Arrays where
  x _ _ := a
  wq _ _ := b
  k _ _ _ := c
  v j _ _ := if j.val / 64 % 4 = 0 then 0 else 1
  wo _ _ := 1

/-- With one of the three infinite and the others 1, every score of the reference is +∞. -/
theorem flat_scoreR (a b c : EReal) (h : (a = ⊤ ∧ b = 1 ∧ c = 1) ∨ (a = 1 ∧ b = ⊤ ∧ c = 1) ∨ (a = 1 ∧ b = 1 ∧ c = ⊤))
    (i : Fin 256) (o : Fin 32) (j : Fin 4096) : scoreR (flat a b c) i o j = ⊤ := by
  have hq : ∀ n, query (flat a b c) i n * c = ⊤ := fun n => by
    rcases h with ⟨rfl, rfl, rfl⟩ | ⟨rfl, rfl, rfl⟩ | ⟨rfl, rfl, rfl⟩
    · rw [mul_one]; exact sum_top (n := 1023) _ fun e => mul_one _
    · rw [mul_one]; exact sum_top (n := 1023) _ fun e => one_mul _
    · have : query (flat 1 1 ⊤) i n = ((1024 : ℝ) : EReal) := by
        show ∑ e : Fin 1024, (1 : EReal) * 1 = _
        simp
        rfl
      rw [this]
      exact EReal.coe_mul_top_of_pos (by norm_num)
  unfold scoreR
  rw [show ∑ d, query (flat a b c) i (lane o d) * (flat a b c).k j o d = ⊤ from sum_top (n := 127) _ fun d => hq _]
  exact top_scale

/-- So is every score of the kernel. -/
theorem flat_scoreK (a b c : EReal) (h : (a = ⊤ ∧ b = 1 ∧ c = 1) ∨ (a = 1 ∧ b = ⊤ ∧ c = 1) ∨ (a = 1 ∧ b = 1 ∧ c = ⊤))
    (i : Fin 256) (o : Fin 32) (j : Fin 4096) : scoreK (flat a b c) i o j = ⊤ :=
  (score_eq _ _ _ _).symm.trans (flat_scoreR a b c h i o j)

/-- Then the reference's context of the first row is −∞, -/
theorem flat_ctxR (a b c : EReal) (h : (a = ⊤ ∧ b = 1 ∧ c = 1) ∨ (a = 1 ∧ b = ⊤ ∧ c = 1) ∨ (a = 1 ∧ b = 1 ∧ c = ⊤)) (n : Fin 4096) :
    ctxR (flat a b c) 0 n = ⊥ := by
  unfold ctxR
  refine (soft_top _ _ ⟨(0 : Fin 4096), (if_pos rfl).trans (flat_scoreR a b c h _ _ _)⟩ fun j => ?_).trans ?_
  · by_cases hj : j.val / 64 % 4 = (0 : Fin 256).val / 64
    · exact Or.inl ((if_pos hj).trans (flat_scoreR a b c h _ _ _))
    · exact Or.inr (if_neg hj)
  rw [← Finset.add_sum_erase _ _ (Finset.mem_univ (64 : Fin 4096))]
  have h1 : (flat a b c).v 64 (headAt n) (laneAt n) = 1 :=
    (if_neg (by decide) : (if (64 : Fin 4096).val / 64 % 4 = 0 then (0 : EReal) else 1) = 1)
  rw [h1, mul_one, EReal.bot_add]

/-- and the kernel's is 0. -/
theorem flat_ctxK (a b c : EReal) (h : (a = ⊤ ∧ b = 1 ∧ c = 1) ∨ (a = 1 ∧ b = ⊤ ∧ c = 1) ∨ (a = 1 ∧ b = 1 ∧ c = ⊤)) (n : Fin 4096) :
    ctxK (flat a b c) 0 n = 0 := by
  unfold ctxK
  refine (soft_top _ _ ⟨(0 : Fin 1024), flat_scoreK a b c h _ _ _⟩ fun j => Or.inl (flat_scoreK a b c h _ _ _)).trans ?_
  refine Finset.sum_eq_zero fun j _ => ?_
  have h0 : (flat a b c).v (key (blockAt 0) j) (headAt n) (laneAt n) = 0 :=
    if_pos ((key_iff 0 (key (blockAt 0) j)).2 ⟨j, rfl⟩)
  rw [h0, mul_zero]

/-- With one infinite input, projection or key the kernel's result and the reference's differ, whichever of the three it is. -/
theorem finite_needed (a b c : EReal) (h : (a = ⊤ ∧ b = 1 ∧ c = 1) ∨ (a = 1 ∧ b = ⊤ ∧ c = 1) ∨ (a = 1 ∧ b = 1 ∧ c = ⊤)) :
    out (flat a b c) (ctxR (flat a b c)) 0 0 ≠ out (flat a b c) (ctxK (flat a b c)) 0 0 := by
  have hR : out (flat a b c) (ctxR (flat a b c)) 0 0 = ⊥ := by
    unfold out
    rw [← Finset.add_sum_erase _ _ (Finset.mem_univ (0 : Fin 4096)), flat_ctxR a b c h]
    show (⊥ : EReal) * 1 + _ = ⊥
    rw [mul_one, EReal.bot_add]
  have hK : out (flat a b c) (ctxK (flat a b c)) 0 0 = 0 :=
    Finset.sum_eq_zero fun e _ => by rw [flat_ctxK a b c h, zero_mul]
  rw [hR, hK]
  exact EReal.bot_ne_zero

end Cert.Spec

end
-- ==== Proof.lean ====
/- The claims: the kernel terminates without fault on every device, leaves its arguments unchanged and every counter at
   zero, and what it returns is the reference's result. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Gen.ReferenceIdeal.Run
public import proofs.«01_k».proof.Proof.Launch
public import proofs.«01_k».proof.Proof.Equal
public import proofs.«01_k».proof.Proof.Needed

@[expose] public section

noncomputable section

namespace Cert.Proof

open Idealize.ShloMosaic Idealize.SL.Sem

/-! ## The kernel over the machine's own floats: it is the ideal program with the named constant read as its word,
   and that program's run holds over any floats -/

/-- Over the machine's own floats a named constant is the word it is written as. -/
@[reducible] def word : Named Bits where
  named _ _ {φ} b := FloatOps.ofBits φ b

/-- The two programs' tables of bodies are the same. -/
theorem defs₀_eq : Cert.Kernel.defs₀ (F := Bits) = @Cert.KernelIdeal.defs₀ Bits _ word _ := by
  unfold Cert.Kernel.defs₀ Cert.KernelIdeal.defs₀
  refine congrArg Defs.onTc (funext fun l => funext fun a => ?_)
  match l, a with
  | 0, (t, s) => rfl
  | ⟨n + 1, h⟩, _ => exact absurd h (Nat.not_lt.2 (Nat.le_add_left _ _))
/-- So are the tables with the region's loops. -/
theorem defs_eq : Cert.Kernel.defs (F := Bits) = @Cert.KernelIdeal.defs Bits _ word _ :=
  congrArg (Pipeline.defs Cert.KernelIdeal.pcfgs) defs₀_eq

attribute [local instance] word in
/-- The kernel over the machine's own floats ends, with its arguments unchanged and every counter at zero. -/
theorem frame_kernel : Cert.quiescent_Kernel (hKernel := Cert.Kernel.Gen.facts) := fun m ρ _ => by
  rw [defs_eq]
  exact (θ_run Cert.KernelIdeal.defs _ _).mono (fun _ h => ⟨fun c => (h.1 c).2, h.2⟩) (Cert.KernelIdeal.Own.run_main (F := Bits) m ρ)

/-- The kernel over the extended reals. -/
theorem frame_ideal : Cert.quiescent_KernelIdeal (hKernelIdeal := Cert.KernelIdeal.Gen.facts) := fun m ρ _ =>
  (θ_run Cert.KernelIdeal.defs _ _).mono (fun _ h => ⟨fun c => (h.1 c).2, h.2⟩) (Cert.KernelIdeal.Own.run_main (F := Ideal) m ρ)

/-- The reference over the extended reals. -/
theorem frame_reference : Cert.quiescent_ReferenceIdeal (hReferenceIdeal := Cert.ReferenceIdeal.Gen.facts) := fun m ρ _ =>
  Cert.ReferenceIdeal.Gen.frame m ρ

/-- The factor that the ideal kernel names is 1/√128. -/
theorem preserves : Cert.preserves_Kernel_KernelIdeal :=
  IdealRules.named_const.statement Cert.KernelIdeal.κ "scale" .f32 0x3DB504F3#32 (((Real.sqrt 128)⁻¹ : ℝ) : EReal) rfl

/-- All the claims. -/
theorem claim : Cert.Claim := ⟨Cert.Kernel.Gen.facts, Cert.KernelIdeal.Gen.facts, Cert.ReferenceIdeal.Gen.facts,
  Cert.Equal.preFacts, Cert.Equal.preFacts', frame_kernel, frame_ideal, fun m ρ _ => frame_ideal m ρ trivial,
  frame_reference, fun m ρ _ => frame_reference m ρ trivial, preserves, Cert.Equal.algebraic⟩

end Cert.Proof

end
